-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_inputs6 [hPre_finite_inputs6 : Cert.Pre_finite_inputs6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_inputs6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_inputs6 [hPre_finite_inputs6 : Cert.Pre_finite_inputs6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_inputs6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Kernel6Ideal_pre_finite_inputs6 [hKernel6Ideal : Cert.Kernel6Ideal.Facts] [hPre_finite_inputs6 : Cert.Pre_finite_inputs6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_inputs6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Reference6Ideal_pre_finite_inputs6 [hReference6Ideal : Cert.Reference6Ideal.Facts] [hPre_finite_inputs6 : Cert.Pre_finite_inputs6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_inputs6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_v24) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite_inputs6 [hKernel6Ideal : Cert.Kernel6Ideal.Facts] [hReference6Ideal : Cert.Reference6Ideal.Facts] [hPre_finite_inputs6 : Cert.Pre_finite_inputs6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_inputs6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v17_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17_2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v114) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_inputs : Cert.Pre_finite_inputs.Facts) (hPre_finite_inputs6 : Cert.Pre_finite_inputs6.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_inputs6 (hKernel6Ideal := hKernel6Ideal) (hPre_finite_inputs6 := hPre_finite_inputs6)
    ∧ quiescent_Reference6Ideal (hReference6Ideal := hReference6Ideal)
    ∧ quiescent_Reference6Ideal_pre_finite_inputs6 (hReference6Ideal := hReference6Ideal) (hPre_finite_inputs6 := hPre_finite_inputs6)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_inputs6 (hKernel6Ideal := hKernel6Ideal) (hReference6Ideal := hReference6Ideal) (hPre_finite_inputs6 := hPre_finite_inputs6)
-- ==== Pre_finite_inputs.lean ====
abbrev S16x2048x5120 : Shape := ⟨3, ![16, 2048, 5120]⟩
abbrev S1x3x1024 : Shape := ⟨3, ![1, 3, 1024]⟩
abbrev S1x4x1024 : Shape := ⟨3, ![1, 4, 1024]⟩
abbrev S1x1024 : Shape := ⟨2, ![1, 1024]⟩
abbrev S1x8x128x128 : Shape := ⟨4, ![1, 8, 128, 128]⟩
abbrev S_ : Shape := ⟨0, ![]⟩

class Facts : Prop where
  bcast_S_S16x2048x5120 : S_.BroadcastsInDim S16x2048x5120 (![] : Fin 0 → Fin S16x2048x5120.rank)
  reducesTo_S16x2048x5120_S_d0_1_2 : S16x2048x5120.ReducesTo [0, 1, 2] S_
  h_S_ : 0 < S_.numel
  bcast_S_S1x3x1024 : S_.BroadcastsInDim S1x3x1024 (![] : Fin 0 → Fin S1x3x1024.rank)
  reducesTo_S1x3x1024_S_d0_1_2 : S1x3x1024.ReducesTo [0, 1, 2] S_
  bcast_S_S1x4x1024 : S_.BroadcastsInDim S1x4x1024 (![] : Fin 0 → Fin S1x4x1024.rank)
  reducesTo_S1x4x1024_S_d0_1_2 : S1x4x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S16x2048x5120 .f32) (main_arg1 : FVec F S1x3x1024 .f32) (main_arg2 : FVec F S1x4x1024 .f32) (main_arg3 : FVec F S1x1024 .f32) (main_arg4 : FVec F S1x8x128x128 .f32) (main_arg5 : FVec F S1x1024 .f32) (main_arg6 : FVec F S1x8x128x128 .f32) (main_arg7 : FVec F S1x1024 .f32) (main_arg8 : FVec F S1x1024 .f32) (main_arg9 : FVec F S1x1024 .f32) (main_arg10 : FVec F S1x1024 .f32) : IVec S_ 1 :=
  let main_v0 : FVec F S16x2048x5120 .f32 := Host.absf main_arg0
  let main_cst : FVec F S_ .f32 := constant S_ .f32 0x7F800000#32
  let main_v1 : FVec F S16x2048x5120 .f32 := broadcastInDim S16x2048x5120 ![] bcast_S_S16x2048x5120 main_cst
  let main_v2 : IVec S16x2048x5120 1 := cmpf .olt main_v0 main_v1
  let main_c : IVec S_ 1 := constantI S_ 1 1#1
  let main_v3 : IVec S_ 1 := (fun x v => Host.reduce IntOp.andi x v reducesTo_S16x2048x5120_S_d0_1_2 h_S_) main_v2 main_c
  let main_v4 : FVec F S1x3x1024 .f32 := Host.absf main_arg1
  let main_cst_0 : FVec F S_ .f32 := constant S_ .f32 0x7F800000#32
  let main_v5 : FVec F S1x3x1024 .f32 := broadcastInDim S1x3x1024 ![] bcast_S_S1x3x1024 main_cst_0
  let main_v6 : IVec S1x3x1024 1 := cmpf .olt main_v4 main_v5
  let main_c_1 : IVec S_ 1 := constantI S_ 1 1#1
  let main_v7 : IVec S_ 1 := (fun x v => Host.reduce IntOp.andi x v reducesTo_S1x3x1024_S_d0_1_2 h_S_) main_v6 main_c_1
  let main_v8 : IVec S_ 1 := andi main_v3 main_v7
  let main_v9 : FVec F S1x4x1024 .f32 := Host.absf main_arg2
  let main_cst_2 : FVec F S_ .f32 := constant S_ .f32 0x7F800000#32
  let main_v10 : FVec F S1x4x1024 .f32 := broadcastInDim S1x4x1024 ![] bcast_S_S1x4x1024 main_cst_2
  let main_v11 : IVec S1x4x1024 1 := cmpf .olt main_v9 main_v10
  let main_c_3 : IVec S_ 1 := constantI S_ 1 1#1
  let main_v12 : IVec S_ 1 := (fun x v => Host.reduce IntOp.andi x v reducesTo_S1x4x1024_S_d0_1_2 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Pre_finite_inputs6.lean ====
abbrev S16x2048x2048 : Shape := ⟨3, ![16, 2048, 2048]⟩
abbrev S16x1x2048 : Shape := ⟨3, ![16, 1, 2048]⟩
abbrev S1x2048x2048 : Shape := ⟨3, ![1, 2048, 2048]⟩
abbrev S1x2048 : Shape := ⟨2, ![1, 2048]⟩
abbrev S1x2048x8 : Shape := ⟨3, ![1, 2048, 8]⟩
abbrev S1x8 : Shape := ⟨2, ![1, 8]⟩
abbrev S1x8x2048x8 : Shape := ⟨4, ![1, 8, 2048, 8]⟩
abbrev S1x8x8 : Shape := ⟨3, ![1, 8, 8]⟩
abbrev S_ : Shape := ⟨0, ![]⟩

class Facts : Prop where
  bcast_S_S16x1x2048 : S_.BroadcastsInDim S16x1x2048 (![] : Fin 0 → Fin S16x1x2048.rank)
  reducesTo_S16x1x2048_S_d0_1_2 : S16x1x2048.ReducesTo [0, 1, 2] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S1x2048x8 : S_.BroadcastsInDim S1x2048x8 (![] : Fin 0 → Fin S1x2048x8.rank)
  reducesTo_S1x2048x8_S_d0_1_2 : S1x2048x8.ReducesTo [0, 1, 2] S_
  bcast_S_S1x8 : S_.BroadcastsInDim S1x8 (![] : Fin 0 → Fin S1x8.rank)
  reducesTo_S1x8_S_d0_1 : S1x8.ReducesTo [0, 1] S_
  bcast_S_S1x8x2048x8 : S_.BroadcastsInDim S1x8x2048x8 (![] : Fin 0 → Fin S1x8x2048x8.rank)
  reducesTo_S1x8x2048x8_S_d0_1_2_3 : S1x8x2048x8.ReducesTo [0, 1, 2, 3] S_
  bcast_S_S1x8x8 : S_.BroadcastsInDim S1x8x8 (![] : Fin 0 → Fin S1x8x8.rank)
  reducesTo_S1x8x8_S_d0_1_2 : S1x8x8.ReducesTo [0, 1, 2] S_

variable [Facts]

def fn_part2 {F : FTy → Type} [FloatOps F] (main_v29 : IVec S_ 1) (main_v32 : IVec S1x8x8 1) (main_c_12 : IVec S_ 1) : IVec S_ 1 :=
  let main_v33 : IVec S_ 1 := (fun x v => Host.reduce IntOp.andi x v reducesTo_S1x8x8_S_d0_1_2 h_S_) main_v32 main_c_12
  let main_v34 : IVec S_ 1 := andi main_v29 main_v33
  main_v34

def fn_part1 {F : FTy → Type} [FloatOps F] (main_arg8 : FVec F S1x8 .f32) (main_arg9 : FVec F S1x8x2048x8 .f32) (main_arg10 : FVec F S1x8x8 .f32) (main_v14 : IVec S_ 1) (main_v15 : FVec F S1x2048x8 .f32) (main_cst_5 : FVec F S_ .f32) : IVec S_ 1 :=
  let main_v16 : FVec F S1x2048x8 .f32 := broadcastInDim S1x2048x8 ![] bcast_S_S1x2048x8 main_cst_5
  let main_v17 : IVec S1x2048x8 1 := cmpf .olt main_v15 main_v16
  let main_c_6 : IVec S_ 1 := constantI S_ 1 1#1
  let main_v18 : IVec S_ 1 := (fun x v => Host.reduce IntOp.andi x v reducesTo_S1x2048x8_S_d0_1_2 h_S_) main_v17 main_c_6
  let main_v19 : IVec S_ 1 := andi main_v14 main_v18
  let main_v20 : FVec F S1x8 .f32 := Host.absf main_arg8
  let main_cst_7 : FVec F S_ .f32 := constant S_ .f32 0x7F800000#32
  let main_v21 : FVec F S1x8 .f32 := broadcastInDim S1x8 ![] bcast_S_S1x8 main_cst_7
  let main_v22 : IVec S1x8 1 := cmpf .olt main_v20 main_v21
  let main_c_8 : IVec S_ 1 := constantI S_ 1 1#1
  let main_v23 : IVec S_ 1 := (fun x v => Host.reduce IntOp.andi x v reducesTo_S1x8_S_d0_1 h_S_) main_v22 main_c_8
  let main_v24 : IVec S_ 1 := andi main_v19 main_v23
  let main_v25 : FVec F S1x8x2048x8 .f32 := Host.absf main_arg9
  let main_cst_9 : FVec F S_ .f32 := constant S_ .f32 0x7F800000#32
  let main_v26 : FVec F S1x8x2048x8 .f32 := broadcastInDim S1x8x2048x8 ![] bcast_S_S1x8x2048x8 main_cst_9
  let main_v27 : IVec S1x8x2048x8 1 := cmpf .olt main_v25 main_v26
  let main_c_10 : IVec S_ 1 := constantI S_ 1 1#1
  let main_v28 : IVec S_ 1 := (fun x v => Host.reduce IntOp.andi x v reducesTo_S1x8x2048x8_S_d0_1_2_3 h_S_) main_v27 main_c_10
  let main_v29 : IVec S_ 1 := andi main_v24 main_v28
  let main_v30 : FVec F S1x8x8 .f32 := Host.absf main_arg10
  let main_cst_11 : FVec F S_ .f32 := constant S_ .f32 0x7F800000#32
  let main_v31 : FVec F S1x8x8 .f32 := broadcastInDim S1x8x8 ![] bcast_S_S1x8x8 main_cst_11
  let main_v32 : IVec S1x8x8 1 := cmpf .olt main_v30 main_v31
  let main_c_12 : IVec S_ 1 := constantI S_ 1 1#1
  fn_part2 (F := F) main_v29 main_v32 main_c_12

def fn {F : FTy → Type} [FloatOps F] (main_arg0 : FVec F S16x2048x2048 .bf16) (main_arg1 : FVec F S16x2048x2048 .f32) (main_arg2 : FVec F S16x1x2048 .f32) (main_arg3 : FVec F S1x2048x2048 .f32) (main_arg4 : FVec F S16x1x2048 .f32) (main_arg5 : FVec F S16x1x2048 .f32) (main_arg6 : FVec F S1x2048 .f32) (main_arg7 : FVec F S1x2048x8 .f32) (main_arg8 : FVec F S1x8 .f32) (main_arg9 : FVec F S1x8x2048x8 .f32) (main_arg10 : FVec F S1x8x8 .f32) : IVec S_ 1 :=
  let main_v0 : FVec F S16x1x2048 .f32 := Host.absf main_arg4
  let main_cst : FVec F S_ .f32 := constant S_ .f32 0x7F800000#32
  let main_v1 : FVec F S16x1x2048 .f32 := broadcastInDim S16x1x2048 ![] bcast_S_S16x1x2048 main_cst
  let main_v2 : IVec S16x1x2048 1 := cmpf .olt main_v0 main_v1
  let main_c : IVec S_ 1 := constantI S_ 1 1#1
  let main_v3 : IVec S_ 1 := (fun x v => Host.reduce IntOp.andi x v reducesTo_S16x1x2048_S_d0_1_2 h_S_) main_v2 main_c
  let main_c_0 : IVec S_ 1 := constantI S_ 1 1#1
  let main_v4 : IVec S_ 1 := andi main_c_0 main_v3
  let main_v5 : FVec F S16x1x2048 .f32 := Host.absf main_arg5
  let main_cst_1 : FVec F S_ .f32 := constant S_ .f32 0x7F800000#32
  let main_v6 : FVec F S16x1x2048 .f32 := broadcastInDim S16x1x2048 ![] bcast_S_S16x1x2048 main_cst_1
  let main_v7 : IVec S16x1x2048 1 := cmpf .olt main_v5 main_v6
  let main_c_2 : IVec S_ 1 := constantI S_ 1 1#1
  let main_v8 : IVec S_ 1 := (fun x v => Host.reduce IntOp.andi x v reducesTo_S16x1x2048_S_d0_1_2 h_S_) main_v7 main_c_2
  let main_v9 : IVec S_ 1 := andi main_v4 main_v8
  let main_v10 : FVec F S1x2048 .f32 := Host.absf main_arg6
  let main_cst_3 : FVec F S_ .f32 := constant S_ .f32 0x7F800000#32
  let main_v11 : FVec F S1x2048 .f32 := broadcastInDim S1x2048 ![] bcast_S_S1x2048 main_cst_3
  let main_v12 : IVec S1x2048 1 := cmpf .olt main_v10 main_v11
  let main_c_4 : IVec S_ 1 := constantI S_ 1 1#1
  let main_v13 : IVec S_ 1 := (fun x v => Host.reduce IntOp.andi x v reducesTo_S1x2048_S_d0_1 h_S_) main_v12 main_c_4
  let main_v14 : IVec S_ 1 := andi main_v9 main_v13
  let main_v15 : FVec F S1x2048x8 .f32 := Host.absf main_arg7
  let main_cst_5 : FVec F S_ .f32 := constant S_ .f32 0x7F800000#32
  fn_part1 (F := F) main_arg8 main_arg9 main_arg10 main_v14 main_v15 main_cst_5
-- ==== Kernel.lean ====
abbrev S16x2048x5120 : Shape := ⟨3, ![16, 2048, 5120]⟩
abbrev S1x3x1024 : Shape := ⟨3, ![1, 3, 1024]⟩
abbrev S1x4x1024 : Shape := ⟨3, ![1, 4, 1024]⟩
abbrev S1x1024 : Shape := ⟨2, ![1, 1024]⟩
abbrev S1x8x128x128 : Shape := ⟨4, ![1, 8, 128, 128]⟩
abbrev S8x128x128 : Shape := ⟨3, ![8, 128, 128]⟩
abbrev S8x128x256 : Shape := ⟨3, ![8, 128, 256]⟩
abbrev S3x1024 : Shape := ⟨2, ![3, 1024]⟩
abbrev S4x1024 : Shape := ⟨2, ![4, 1024]⟩
abbrev S1024 : Shape := ⟨1, ![1024]⟩
abbrev S128 : Shape := ⟨1, ![128]⟩
abbrev S128x1 : Shape := ⟨2, ![128, 1]⟩
abbrev S_ : Shape := ⟨0, ![]⟩
abbrev S1x128 : Shape := ⟨2, ![1, 128]⟩
abbrev S128x128 : Shape := ⟨2, ![128, 128]⟩
abbrev S16x2048x2048 : Shape := ⟨3, ![16, 2048, 2048]⟩
abbrev S1x256x5120 : Shape := ⟨3, ![1, 256, 5120]⟩
abbrev S1x256x2048 : Shape := ⟨3, ![1, 256, 2048]⟩
abbrev S8x1024 : Shape := ⟨2, ![8, 1024]⟩
abbrev S256x128 : Shape := ⟨2, ![256, 128]⟩
abbrev S1x256x128 : Shape := ⟨3, ![1, 256, 128]⟩
abbrev S8x128 : Shape := ⟨2, ![8, 128]⟩
abbrev S248x128 : Shape := ⟨2, ![248, 128]⟩
abbrev S1x128x256 : Shape := ⟨3, ![1, 128, 256]⟩
abbrev S128x256 : Shape := ⟨2, ![128, 256]⟩
abbrev S256x256 : Shape := ⟨2, ![256, 256]⟩

abbrev nBuf : Space → Nat
  | .hbm => 78
  | .vmem => 18
  | .smem => 0
  | _ => 0

abbrev bufTy : (tb : Table) → Fin (tcTables nBuf tb) → BufTy
  | .hbm, ⟨0, _⟩ => ⟨S16x2048x5120, .f32⟩
  | .hbm, ⟨1, _⟩ => ⟨S1x3x1024, .f32⟩
  | .hbm, ⟨2, _⟩ => ⟨S1x4x1024, .f32⟩
  | .hbm, ⟨3, _⟩ => ⟨S1x1024, .f32⟩
  | .hbm, ⟨4, _⟩ => ⟨S1x8x128x128, .f32⟩
  | .hbm, ⟨5, _⟩ => ⟨S1x1024, .f32⟩
  | .hbm, ⟨6, _⟩ => ⟨S1x8x128x128, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S8x128x128, .f32⟩
  | .hbm, ⟨12, _⟩ => ⟨S8x128x128, .f32⟩
  | .hbm, ⟨13, _⟩ => ⟨S8x128x256, .f32⟩
  | .hbm, ⟨14, _⟩ => ⟨S8x128x256, .bf16⟩
  | .hbm, ⟨15, _⟩ => ⟨S3x1024, .f32⟩
  | .hbm, ⟨16, _⟩ => ⟨S4x1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S128, .i32⟩
  | .hbm, ⟨24, _⟩ => ⟨S128x1, .i32⟩
  | .hbm, ⟨25, _⟩ => ⟨S_, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S128x1, .i32⟩
  | .hbm, ⟨30, _⟩ => ⟨S_, .i32⟩
  | .hbm, ⟨31, _⟩ => ⟨S128x1, .i32⟩
  | .hbm, ⟨32, _⟩ => ⟨S128x1, .i1⟩
  | .hbm, ⟨33, _⟩ => ⟨S128x1, .i32⟩
  | .hbm, ⟨34, _⟩ => ⟨S128x1, .i32⟩
  | .hbm, ⟨35, _⟩ => ⟨S_, .i32⟩
  | .hbm, ⟨36, _⟩ => ⟨S128x1, .i32⟩
  | .hbm, ⟨37, _⟩ => ⟨S128x1, .i1⟩
  | .hbm, ⟨38, _⟩ => ⟨S128x1, .i1⟩
  | .hbm, ⟨39, _⟩ => ⟨S_, .i32⟩
  | .hbm, ⟨40, _⟩ => ⟨S128x1, .i32⟩
  | .hbm, ⟨41, _⟩ => ⟨S128x1, .i32⟩
  | .hbm, ⟨42, _⟩ => ⟨S128x1, .i32⟩
  | .hbm, ⟨43, _⟩ => ⟨S1x128, .i32⟩
  | .hbm, ⟨44, _⟩ => ⟨S_, .i32⟩
  | .hbm, ⟨45, _⟩ => ⟨S_, .i32⟩
  | .hbm, ⟨46, _⟩ => ⟨S1x128, .i32⟩
  | .hbm, ⟨47, _⟩ => ⟨S1x128, .i32⟩
  | .hbm, ⟨48, _⟩ => ⟨S1x128, .i32⟩
  | .hbm, ⟨49, _⟩ => ⟨S_, .i32⟩
  | .hbm, ⟨50, _⟩ => ⟨S1x128, .i32⟩
  | .hbm, ⟨51, _⟩ => ⟨S1x128, .i1⟩
  | .hbm, ⟨52, _⟩ => ⟨S1x128, .i32⟩
  | .hbm, ⟨53, _⟩ => ⟨S1x128, .i32⟩
  | .hbm, ⟨54, _⟩ => ⟨S_, .i32⟩
  | .hbm, ⟨55, _⟩ => ⟨S1x128, .i32⟩
  | .hbm, ⟨56, _⟩ => ⟨S1x128, .i1⟩
  | .hbm, ⟨57, _⟩ => ⟨S1x128, .i1⟩
  | .hbm, ⟨58, _⟩ => ⟨S_, .i32⟩
  | .hbm, ⟨59, _⟩ => ⟨S1x128, .i32⟩
  | .hbm, ⟨60, _⟩ => ⟨S1x128, .i32⟩
  | .hbm, ⟨61, _⟩ => ⟨S1x128, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S128x128, .bf16⟩
  | .hbm, ⟨66, _⟩ => ⟨S_, .bf16⟩
  | .hbm, ⟨67, _⟩ => ⟨S128x128, .bf16⟩
  | .hbm, ⟨68, _⟩ => ⟨S128x128, .bf16⟩
  | .hbm, ⟨69, _⟩ => ⟨S_, .bf16⟩
  | .hbm, ⟨70, _⟩ => ⟨S128x128, .bf16⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S16x2048x2048, .bf16⟩
  | .local _ .vmem, ⟨0, _⟩ => ⟨S1x256x5120, .f32⟩
  | .local _ .vmem, ⟨1, _⟩ => ⟨S1x256x5120, .f32⟩
  | .local _ .vmem, ⟨2, _⟩ => ⟨S3x1024, .f32⟩
  | .local _ .vmem, ⟨3, _⟩ => ⟨S4x1024, .f32⟩
  | .local _ .vmem, ⟨4, _⟩ => ⟨S1x1024, .f32⟩
  | .local _ .vmem, ⟨5, _⟩ => ⟨S8x128x256, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S128x128, .bf16⟩
  | .local _ .vmem, ⟨12, _⟩ => ⟨S128x128, .bf16⟩
  | .local _ .vmem, ⟨13, _⟩ => ⟨S1x256x2048, .bf16⟩
  | .local _ .vmem, ⟨14, _⟩ => ⟨S1x256x2048, .bf16⟩
  | .local _ .vmem, ⟨15, _⟩ => ⟨S8x1024, .f32⟩
  | .local _ .vmem, ⟨16, _⟩ => ⟨S8x1024, .f32⟩
  | .local _ .vmem, ⟨17, _⟩ => ⟨S1x1024, .f32⟩
  | _, _ => ⟨S16x2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v14 : Ref sig .tc := ⟨.hbm, 42, rfl⟩
abbrev main_v15 : Ref sig .tc := ⟨.hbm, 43, rfl⟩
abbrev main_c_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_cst : Ref sig .tc := ⟨.hbm, 66, rfl⟩
abbrev main_v21 : Ref sig .tc := ⟨.hbm, 67, rfl⟩
abbrev main_v22 : Ref sig .tc := ⟨.hbm, 68, rfl⟩
abbrev main_cst_1 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S16x2048x5120 : Shape := ⟨3, ![16, 2048, 5120]⟩
abbrev S1x3x1024 : Shape := ⟨3, ![1, 3, 1024]⟩
abbrev S1x4x1024 : Shape := ⟨3, ![1, 4, 1024]⟩
abbrev S1x1024 : Shape := ⟨2, ![1, 1024]⟩
abbrev S1x8x128x128 : Shape := ⟨4, ![1, 8, 128, 128]⟩
abbrev S16x2048x1024 : Shape := ⟨3, ![16, 2048, 1024]⟩
abbrev S3x1024 : Shape := ⟨2, ![3, 1024]⟩
abbrev S_ : Shape := ⟨0, ![]⟩
abbrev S16x2050x1024 : Shape := ⟨3, ![16, 2050, 1024]⟩
abbrev S1024 : Shape := ⟨1, ![1024]⟩
abbrev S1x1x1024 : Shape := ⟨3, ![1, 1, 1024]⟩
abbrev S4x1024 : Shape := ⟨2, ![4, 1024]⟩
abbrev S16x2051x1024 : Shape := ⟨3, ![16, 2051, 1024]⟩
abbrev S8x128x128 : Shape := ⟨3, ![8, 128, 128]⟩
abbrev S16x2048x8x128 : Shape := ⟨4, ![16, 2048, 8, 128]⟩
abbrev S8x128x16x2048 : Shape := ⟨4, ![8, 128, 16, 2048]⟩
abbrev S16x1024 : Shape := ⟨2, ![16, 1024]⟩
abbrev S2048x16x1024 : Shape := ⟨3, ![2048, 16, 1024]⟩
abbrev S1x16x1024 : Shape := ⟨3, ![1, 16, 1024]⟩
abbrev S16x2048x16x64 : Shape := ⟨4, ![16, 2048, 16, 64]⟩
abbrev S16x2048x16 : Shape := ⟨3, ![16, 2048, 16]⟩
abbrev S16x2048x16x1 : Shape := ⟨4, ![16, 2048, 16, 1]⟩
abbrev S16x2048x8 : Shape := ⟨3, ![16, 2048, 8]⟩
abbrev S16x2048x8x1 : Shape := ⟨4, ![16, 2048, 8, 1]⟩
abbrev S16x2048x2048 : Shape := ⟨3, ![16, 2048, 2048]⟩

abbrev nBuf : Space → Nat
  | .hbm => 230
  | .vmem => 0
  | .smem => 0
  | _ => 0

abbrev hbmTy0_0 (i : Nat) : BufTy := match i % 128 with
  | 0 => ⟨S16x2048x5120, .f32⟩
  | 1 => ⟨S1x3x1024, .f32⟩
  | 2 => ⟨S1x4x1024, .f32⟩
  | 3 => ⟨S1x1024, .f32⟩
  | 4 => ⟨S1x8x128x128, .f32⟩
  | 5 => ⟨S1x1024, .f32⟩
  | 6 => ⟨S1x8x128x128, .f32⟩
  | 7 => ⟨S1x1024, .f32⟩
  | 8 => ⟨S1x1024, .f32⟩
  | 9 => ⟨S1x1024, .f32⟩
  | 10 => ⟨S1x1024, .f32⟩
  | 11 => ⟨S16x2048x1024, .f32⟩
  | 12 => ⟨S16x2048x1024, .f32⟩
  | 13 => ⟨S16x2048x1024, .f32⟩
  | 14 => ⟨S16x2048x1024, .f32⟩
  | 15 => ⟨S16x2048x1024, .f32⟩
  | 16 => ⟨S16x2048x1024, .f32⟩
  | 17 => ⟨S3x1024, .f32⟩
  | 18 => ⟨S_, .i32⟩
  | 19 => ⟨S_, .f32⟩
  | 20 => ⟨S16x2050x1024, .f32⟩
  | 21 => ⟨S1x1024, .f32⟩
  | 22 => ⟨S1024, .f32⟩
  | 23 => ⟨S16x2048x1024, .f32⟩
  | 24 => ⟨S1x1x1024, .f32⟩
  | 25 => ⟨S16x2048x1024, .f32⟩
  | 26 => ⟨S16x2048x1024, .f32⟩
  | 27 => ⟨S1x1024, .f32⟩
  | 28 => ⟨S1024, .f32⟩
  | 29 => ⟨S16x2048x1024, .f32⟩
  | 30 => ⟨S1x1x1024, .f32⟩
  | 31 => ⟨S16x2048x1024, .f32⟩
  | 32 => ⟨S16x2048x1024, .f32⟩
  | 33 => ⟨S16x2048x1024, .f32⟩
  | 34 => ⟨S1x1024, .f32⟩
  | 35 => ⟨S1024, .f32⟩
  | 36 => ⟨S16x2048x1024, .f32⟩
  | 37 => ⟨S1x1x1024, .f32⟩
  | 38 => ⟨S16x2048x1024, .f32⟩
  | 39 => ⟨S16x2048x1024, .f32⟩
  | 40 => ⟨S16x2048x1024, .f32⟩
  | 41 => ⟨S16x2048x1024, .f32⟩
  | 42 => ⟨S4x1024, .f32⟩
  | 43 => ⟨S_, .i32⟩
  | 44 => ⟨S_, .f32⟩
  | 45 => ⟨S16x2051x1024, .f32⟩
  | 46 => ⟨S1x1024, .f32⟩
  | 47 => ⟨S1024, .f32⟩
  | 48 => ⟨S16x2048x1024, .f32⟩
  | 49 => ⟨S1x1x1024, .f32⟩
  | 50 => ⟨S16x2048x1024, .f32⟩
  | 51 => ⟨S16x2048x1024, .f32⟩
  | 52 => ⟨S1x1024, .f32⟩
  | 53 => ⟨S1024, .f32⟩
  | 54 => ⟨S16x2048x1024, .f32⟩
  | 55 => ⟨S1x1x1024, .f32⟩
  | 56 => ⟨S16x2048x1024, .f32⟩
  | 57 => ⟨S16x2048x1024, .f32⟩
  | 58 => ⟨S16x2048x1024, .f32⟩
  | 59 => ⟨S1x1024, .f32⟩
  | 60 => ⟨S1024, .f32⟩
  | 61 => ⟨S16x2048x1024, .f32⟩
  | 62 => ⟨S1x1x1024, .f32⟩
  | 63 => ⟨S16x2048x1024, .f32⟩
  | 64 => ⟨S16x2048x1024, .f32⟩
  | 65 => ⟨S16x2048x1024, .f32⟩
  | 66 => ⟨S1x1024, .f32⟩
  | 67 => ⟨S1024, .f32⟩
  | 68 => ⟨S16x2048x1024, .f32⟩
  | 69 => ⟨S1x1x1024, .f32⟩
  | 70 => ⟨S16x2048x1024, .f32⟩
  | 71 => ⟨S16x2048x1024, .f32⟩
  | 72 => ⟨S16x2048x1024, .f32⟩
  | 73 => ⟨S1024, .f32⟩
  | 74 => ⟨S1x1x1024, .f32⟩
  | 75 => ⟨S16x2048x1024, .f32⟩
  | 76 => ⟨S16x2048x1024, .f32⟩
  | 77 => ⟨S8x128x128, .f32⟩
  | 78 => ⟨S1024, .f32⟩
  | 79 => ⟨S8x128x128, .f32⟩
  | 80 => ⟨S1024, .f32⟩
  | 81 => ⟨S1024, .f32⟩
  | 82 => ⟨S16x2048x8x128, .f32⟩
  | 83 => ⟨S8x128x16x2048, .f32⟩
  | 84 => ⟨S16x2048x8x128, .f32⟩
  | 85 => ⟨S16x2048x1024, .f32⟩
  | 86 => ⟨S1x1x1024, .f32⟩
  | 87 => ⟨S16x2048x1024, .f32⟩
  | 88 => ⟨S16x2048x1024, .f32⟩
  | 89 => ⟨S16x2048x1024, .f32⟩
  | 90 => ⟨S16x2048x1024, .f32⟩
  | 91 => ⟨S_, .f32⟩
  | 92 => ⟨S16x2048x1024, .f32⟩
  | 93 => ⟨S16x2048x1024, .f32⟩
  | 94 => ⟨S_, .f32⟩
  | 95 => ⟨S16x2048x1024, .f32⟩
  | 96 => ⟨S16x2048x1024, .f32⟩
  | 97 => ⟨S8x128x16x2048, .f32⟩
  | 98 => ⟨S16x2048x8x128, .f32⟩
  | 99 => ⟨S16x2048x1024, .f32⟩
  | 100 => ⟨S1x1x1024, .f32⟩
  | 101 => ⟨S16x2048x1024, .f32⟩
  | 102 => ⟨S16x2048x1024, .f32⟩
  | 103 => ⟨S16x2048x1024, .f32⟩
  | 104 => ⟨S16x2048x1024, .f32⟩
  | 105 => ⟨S_, .f32⟩
  | 106 => ⟨S16x2048x1024, .f32⟩
  | 107 => ⟨S16x2048x1024, .f32⟩
  | 108 => ⟨S_, .f32⟩
  | 109 => ⟨S16x2048x1024, .f32⟩
  | 110 => ⟨S16x2048x1024, .f32⟩
  | 111 => ⟨S_, .f32⟩
  | 112 => ⟨S16x2048x1024, .f32⟩
  | 113 => ⟨S16x2048x1024, .f32⟩
  | 114 => ⟨S1024, .f32⟩
  | 115 => ⟨S_, .f32⟩
  | 116 => ⟨S1024, .f32⟩
  | 117 => ⟨S1024, .f32⟩
  | 118 => ⟨S1024, .f32⟩
  | 119 => ⟨S1024, .f32⟩
  | 120 => ⟨S1024, .i1⟩
  | 121 => ⟨S1024, .f32⟩
  | 122 => ⟨S1024, .f32⟩
  | 123 => ⟨S1024, .f32⟩
  | 124 => ⟨S1024, .f32⟩
  | 125 => ⟨S1024, .f32⟩
  | 126 => ⟨S1024, .f32⟩
  | 127 => ⟨S1024, .f32⟩
  | _ => ⟨S16x2048x5120, .f32⟩

abbrev hbmTy0_1 (i : Nat) : BufTy := match i % 128 with
  | 0 => ⟨S1024, .f32⟩
  | 1 => ⟨S1x1x1024, .f32⟩
  | 2 => ⟨S16x2048x1024, .f32⟩
  | 3 => ⟨S16x2048x1024, .f32⟩
  | 4 => ⟨S16x2048x1024, .f32⟩
  | 5 => ⟨S_, .f32⟩
  | 6 => ⟨S16x2048x1024, .f32⟩
  | 7 => ⟨S16x2048x1024, .f32⟩
  | 8 => ⟨S16x2048x1024, .f32⟩
  | 9 => ⟨S16x2048x1024, .f32⟩
  | 10 => ⟨S16x2048x1024, .f32⟩
  | 11 => ⟨S16x2048x1024, .f32⟩
  | 12 => ⟨S16x2048x1024, .f32⟩
  | 13 => ⟨S_, .f32⟩
  | 14 => ⟨S16x1024, .f32⟩
  | 15 => ⟨S2048x16x1024, .f32⟩
  | 16 => ⟨S2048x16x1024, .f32⟩
  | 17 => ⟨S_, .f32⟩
  | 18 => ⟨S2048x16x1024, .f32⟩
  | 19 => ⟨S_, .i32⟩
  | 20 => ⟨S2048x16x1024, .f32⟩
  | 21 => ⟨S2048x16x1024, .f32⟩
  | 22 => ⟨S_, .i32⟩
  | 23 => ⟨S16x1024, .f32⟩
  | 24 => ⟨S2048x16x1024, .f32⟩
  | 25 => ⟨S_, .i32⟩
  | 26 => ⟨S_, .i1⟩
  | 27 => ⟨S_, .i32⟩
  | 28 => ⟨S_, .i32⟩
  | 29 => ⟨S1x16x1024, .f32⟩
  | 30 => ⟨S16x1024, .f32⟩
  | 31 => ⟨S_, .i32⟩
  | 32 => ⟨S_, .i32⟩
  | 33 => ⟨S1x16x1024, .f32⟩
  | 34 => ⟨S16x1024, .f32⟩
  | 35 => ⟨S16x1024, .f32⟩
  | 36 => ⟨S16x1024, .f32⟩
  | 37 => ⟨S1x16x1024, .f32⟩
  | 38 => ⟨S_, .i32⟩
  | 39 => ⟨S_, .i32⟩
  | 40 => ⟨S2048x16x1024, .f32⟩
  | 41 => ⟨S_, .i32⟩
  | 42 => ⟨S_, .i32⟩
  | 43 => ⟨S16x2048x1024, .f32⟩
  | 44 => ⟨S16x2048x1024, .f32⟩
  | 45 => ⟨S16x2048x1024, .f32⟩
  | 46 => ⟨S_, .f32⟩
  | 47 => ⟨S16x2048x1024, .f32⟩
  | 48 => ⟨S16x2048x1024, .f32⟩
  | 49 => ⟨S16x2048x1024, .f32⟩
  | 50 => ⟨S_, .f32⟩
  | 51 => ⟨S16x2048x1024, .f32⟩
  | 52 => ⟨S16x2048x1024, .f32⟩
  | 53 => ⟨S16x2048x1024, .f32⟩
  | 54 => ⟨S_, .f32⟩
  | 55 => ⟨S16x2048x1024, .f32⟩
  | 56 => ⟨S16x2048x1024, .f32⟩
  | 57 => ⟨S_, .f32⟩
  | 58 => ⟨S16x2048x1024, .f32⟩
  | 59 => ⟨S16x2048x1024, .f32⟩
  | 60 => ⟨S16x2048x1024, .f32⟩
  | 61 => ⟨S16x2048x1024, .f32⟩
  | 62 => ⟨S1024, .f32⟩
  | 63 => ⟨S16x2048x16x64, .f32⟩
  | 64 => ⟨S16x2048x16x64, .f32⟩
  | 65 => ⟨S_, .f32⟩
  | 66 => ⟨S16x2048x16, .f32⟩
  | 67 => ⟨S16x2048x16x1, .f32⟩
  | 68 => ⟨S_, .f32⟩
  | 69 => ⟨S16x2048x16x1, .f32⟩
  | 70 => ⟨S16x2048x16x1, .f32⟩
  | 71 => ⟨S_, .f32⟩
  | 72 => ⟨S16x2048x16x1, .f32⟩
  | 73 => ⟨S16x2048x16x1, .f32⟩
  | 74 => ⟨S16x2048x16x1, .f32⟩
  | 75 => ⟨S16x2048x16x64, .f32⟩
  | 76 => ⟨S16x2048x16x64, .f32⟩
  | 77 => ⟨S16x2048x1024, .f32⟩
  | 78 => ⟨S1x1x1024, .f32⟩
  | 79 => ⟨S16x2048x1024, .f32⟩
  | 80 => ⟨S16x2048x1024, .f32⟩
  | 81 => ⟨S1024, .f32⟩
  | 82 => ⟨S16x2048x8x128, .f32⟩
  | 83 => ⟨S16x2048x8x128, .f32⟩
  | 84 => ⟨S_, .f32⟩
  | 85 => ⟨S16x2048x8, .f32⟩
  | 86 => ⟨S16x2048x8x1, .f32⟩
  | 87 => ⟨S_, .f32⟩
  | 88 => ⟨S16x2048x8x1, .f32⟩
  | 89 => ⟨S16x2048x8x1, .f32⟩
  | 90 => ⟨S_, .f32⟩
  | 91 => ⟨S16x2048x8x1, .f32⟩
  | 92 => ⟨S16x2048x8x1, .f32⟩
  | 93 => ⟨S16x2048x8x1, .f32⟩
  | 94 => ⟨S16x2048x8x128, .f32⟩
  | 95 => ⟨S16x2048x8x128, .f32⟩
  | 96 => ⟨S16x2048x1024, .f32⟩
  | 97 => ⟨S1x1x1024, .f32⟩
  | 98 => ⟨S16x2048x1024, .f32⟩
  | 99 => ⟨S16x2048x1024, .f32⟩
  | 100 => ⟨S16x2048x2048, .f32⟩
  | 101 => ⟨S16x2048x2048, .bf16⟩
  | _ => ⟨S16x2048x5120, .f32⟩

abbrev hbmTy (i : Nat) : BufTy := match i / 128 with
  | 0 => hbmTy0_0 i
  | 1 => hbmTy0_1 i
  | _ => ⟨S16x2048x5120, .f32⟩

abbrev bufTy : (tb : Table) → Fin (tcTables nBuf tb) → BufTy
  | .hbm, ⟨i, _⟩ => hbmTy i
  | _, _ => ⟨S16x2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call0_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_0 : Ref sig .tc := ⟨.hbm, 43, rfl⟩
abbrev main_call1_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst : Ref sig .tc := ⟨.hbm, 91, rfl⟩
abbrev main_v76 : Ref sig .tc := ⟨.hbm, 92, rfl⟩
abbrev main_v77 : Ref sig .tc := ⟨.hbm, 93, rfl⟩
abbrev main_cst_1 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_cst_2 : Ref sig .tc := ⟨.hbm, 105, rfl⟩
abbrev main_v88 : Ref sig .tc := ⟨.hbm, 106, rfl⟩
abbrev main_v89 : Ref sig .tc := ⟨.hbm, 107, rfl⟩
abbrev main_cst_3 : Ref sig .tc := ⟨.hbm, 108, rfl⟩
abbrev main_v90 : Ref sig .tc := ⟨.hbm, 109, rfl⟩
abbrev main_v91 : Ref sig .tc := ⟨.hbm, 110, rfl⟩
abbrev main_cst_4 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_call2_cst : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_v7 : Ref sig .tc := ⟨.hbm, 123, rfl⟩
abbrev main_call2_v8 : Ref sig .tc := ⟨.hbm, 124, rfl⟩
abbrev main_call2_v9 : Ref sig .tc := ⟨.hbm, 125, rfl⟩
abbrev main_call2_v10 : Ref sig .tc := ⟨.hbm, 126, rfl⟩
abbrev main_call2_v11 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_5 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_6 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_7 : Ref sig .tc := ⟨.hbm, 145, rfl⟩
abbrev main_v110 : Ref sig .tc := ⟨.hbm, 146, rfl⟩
abbrev main_c_8 : Ref sig .tc := ⟨.hbm, 147, rfl⟩
abbrev main_v111_0 : Ref sig .tc := ⟨.hbm, 148, rfl⟩
abbrev main_v111_1 : Ref sig .tc := ⟨.hbm, 149, rfl⟩
abbrev main_v111_2 : Ref sig .tc := ⟨.hbm, 150, rfl⟩
abbrev main_v111_3 : Ref sig .tc := ⟨.hbm, 151, rfl⟩
abbrev main_v111_4 : Ref sig .tc := ⟨.hbm, 152, rfl⟩
abbrev main_while0c_c_23 : Ref sig .tc := ⟨.hbm, 153, rfl⟩
abbrev main_while0c_v161 : Ref sig .tc := ⟨.hbm, 154, rfl⟩
abbrev main_while0b_call3_c : Ref sig .tc := ⟨.hbm, 155, rfl⟩
abbrev main_while0b_call3_c_0 : Ref sig .tc := ⟨.hbm, 156, rfl⟩
abbrev main_while0b_call3_v0 : Ref sig .tc := ⟨.hbm, 157, rfl⟩
abbrev main_while0b_v161 : Ref sig .tc := ⟨.hbm, 158, rfl⟩
abbrev main_while0b_call4_c : Ref sig .tc := ⟨.hbm, 159, rfl⟩
abbrev main_while0b_call4_c_0 : Ref sig .tc := ⟨.hbm, 160, rfl⟩
abbrev main_while0b_call4_v0 : Ref sig .tc := ⟨.hbm, 161, rfl⟩
abbrev main_while0b_v162 : Ref sig .tc := ⟨.hbm, 162, rfl⟩
abbrev main_while0b_v163 : Ref sig .tc := ⟨.hbm, 163, rfl⟩
abbrev main_while0b_v164 : Ref sig .tc := ⟨.hbm, 164, rfl⟩
abbrev main_while0b_call5_v0 : Ref sig .tc := ⟨.hbm, 165, rfl⟩
abbrev main_while0b_call5_c : Ref sig .tc := ⟨.hbm, 166, rfl⟩
abbrev main_while0b_call5_c_0 : Ref sig .tc := ⟨.hbm, 167, rfl⟩
abbrev main_while0b_v165 : Ref sig .tc := ⟨.hbm, 168, rfl⟩
abbrev main_while0b_c_23 : Ref sig .tc := ⟨.hbm, 169, rfl⟩
abbrev main_while0b_v166 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_cst_9 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_cst_10 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_cst_11 : Ref sig .tc := ⟨.hbm, 182, rfl⟩
abbrev main_v121 : Ref sig .tc := ⟨.hbm, 183, rfl⟩
abbrev main_v122 : Ref sig .tc := ⟨.hbm, 184, rfl⟩
abbrev main_cst_12 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_cst_13 : Ref sig .tc := ⟨.hbm, 193, rfl⟩
abbrev main_v130 : Ref sig .tc := ⟨.hbm, 194, rfl⟩
abbrev main_v131 : Ref sig .tc := ⟨.hbm, 195, rfl⟩
abbrev main_cst_14 : Ref sig .tc := ⟨.hbm, 196, rfl⟩
abbrev main_v132 : Ref sig .tc := ⟨.hbm, 197, rfl⟩
abbrev main_v133 : Ref sig .tc := ⟨.hbm, 198, rfl⟩
abbrev main_cst_15 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_cst_16 : Ref sig .tc := ⟨.hbm, 212, rfl⟩
abbrev main_v146 : Ref sig .tc := ⟨.hbm, 213, rfl⟩
abbrev main_v147 : Ref sig .tc := ⟨.hbm, 214, rfl⟩
abbrev main_cst_17 : Ref sig .tc := ⟨.hbm, 215, rfl⟩
abbrev main_v148 : Ref sig .tc := ⟨.hbm, 216, rfl⟩
abbrev main_v149 : Ref sig .tc := ⟨.hbm, 217, rfl⟩
abbrev main_cst_18 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S16x2048x2048 : Shape := ⟨3, ![16, 2048, 2048]⟩
abbrev S16x1x2048 : Shape := ⟨3, ![16, 1, 2048]⟩
abbrev S1x2048 : Shape := ⟨2, ![1, 2048]⟩
abbrev S1x2048x5120 : Shape := ⟨3, ![1, 2048, 5120]⟩
abbrev S2048 : Shape := ⟨1, ![2048]⟩
abbrev S2048x5120 : Shape := ⟨2, ![2048, 5120]⟩
abbrev S16x2048x5120 : Shape := ⟨3, ![16, 2048, 5120]⟩
abbrev S1x256x2048 : Shape := ⟨3, ![1, 256, 2048]⟩
abbrev S1x1x2048 : Shape := ⟨3, ![1, 1, 2048]⟩
abbrev S1x256x5120 : Shape := ⟨3, ![1, 256, 5120]⟩
abbrev S256x2048 : Shape := ⟨2, ![256, 2048]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩
abbrev S1x256x1024 : Shape := ⟨3, ![1, 256, 1024]⟩

abbrev nBuf : Space → Nat
  | .hbm => 10
  | .vmem => 10
  | .smem => 0
  | _ => 0

abbrev bufTy : (tb : Table) → Fin (tcTables nBuf tb) → BufTy
  | .hbm, ⟨0, _⟩ => ⟨S16x2048x2048, .f32⟩
  | .hbm, ⟨1, _⟩ => ⟨S16x1x2048, .f32⟩
  | .hbm, ⟨2, _⟩ => ⟨S16x1x2048, .f32⟩
  | .hbm, ⟨3, _⟩ => ⟨S1x2048, .f32⟩
  | .hbm, ⟨4, _⟩ => ⟨S1x2048x5120, .f32⟩
  | .hbm, ⟨5, _⟩ => ⟨S2048, .f32⟩
  | .hbm, ⟨6, _⟩ => ⟨S1x2048, .f32⟩
  | .hbm, ⟨7, _⟩ => ⟨S2048x5120, .f32⟩
  | .hbm, ⟨8, _⟩ => ⟨S2048x5120, .bf16⟩
  | .hbm, ⟨9, _⟩ => ⟨S16x2048x5120, .f32⟩
  | .local _ .vmem, ⟨0, _⟩ => ⟨S1x256x2048, .f32⟩
  | .local _ .vmem, ⟨1, _⟩ => ⟨S1x256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x5120, .bf16⟩
  | .local _ .vmem, ⟨8, _⟩ => ⟨S1x256x5120, .f32⟩
  | .local _ .vmem, ⟨9, _⟩ => ⟨S1x256x5120, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x5120 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S16x2048x2048 : Shape := ⟨3, ![16, 2048, 2048]⟩
abbrev S16x1x2048 : Shape := ⟨3, ![16, 1, 2048]⟩
abbrev S1x2048 : Shape := ⟨2, ![1, 2048]⟩
abbrev S1x2048x5120 : Shape := ⟨3, ![1, 2048, 5120]⟩
abbrev S_ : Shape := ⟨0, ![]⟩
abbrev S16x2048 : Shape := ⟨2, ![16, 2048]⟩
abbrev S16x2048x1 : Shape := ⟨3, ![16, 2048, 1]⟩
abbrev S2048 : Shape := ⟨1, ![2048]⟩
abbrev S1x1x2048 : Shape := ⟨3, ![1, 1, 2048]⟩
abbrev S2048x5120 : Shape := ⟨2, ![2048, 5120]⟩
abbrev S16x2048x5120 : Shape := ⟨3, ![16, 2048, 5120]⟩

abbrev nBuf : Space → Nat
  | .hbm => 31
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x1x2048, .f32⟩
  | .hbm, ⟨2, _⟩ => ⟨S16x1x2048, .f32⟩
  | .hbm, ⟨3, _⟩ => ⟨S1x2048, .f32⟩
  | .hbm, ⟨4, _⟩ => ⟨S1x2048x5120, .f32⟩
  | .hbm, ⟨5, _⟩ => ⟨S16x2048x2048, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x2048, .f32⟩
  | .hbm, ⟨17, _⟩ => ⟨S16x2048x2048, .f32⟩
  | .hbm, ⟨18, _⟩ => ⟨S2048, .f32⟩
  | .hbm, ⟨19, _⟩ => ⟨S1x1x2048, .f32⟩
  | .hbm, ⟨20, _⟩ => ⟨S16x2048x2048, .f32⟩
  | .hbm, ⟨21, _⟩ => ⟨S16x2048x2048, .f32⟩
  | .hbm, ⟨22, _⟩ => ⟨S_, .f32⟩
  | .hbm, ⟨23, _⟩ => ⟨S16x1x2048, .f32⟩
  | .hbm, ⟨24, _⟩ => ⟨S16x1x2048, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S2048x5120, .f32⟩
  | .hbm, ⟨30, _⟩ => ⟨S16x2048x5120, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel3.lean ====
abbrev S16x2048x2048 : Shape := ⟨3, ![16, 2048, 2048]⟩
abbrev S16x1x2048 : Shape := ⟨3, ![16, 1, 2048]⟩
abbrev S1x2048x2048 : Shape := ⟨3, ![1, 2048, 2048]⟩
abbrev S1x2048 : Shape := ⟨2, ![1, 2048]⟩
abbrev S1x2048x8 : Shape := ⟨3, ![1, 2048, 8]⟩
abbrev S1x8 : Shape := ⟨2, ![1, 8]⟩
abbrev S1x8x2048x8 : Shape := ⟨4, ![1, 8, 2048, 8]⟩
abbrev S1x8x8 : Shape := ⟨3, ![1, 8, 8]⟩
abbrev S2048x8 : Shape := ⟨2, ![2048, 8]⟩
abbrev S8x2048x8 : Shape := ⟨3, ![8, 2048, 8]⟩
abbrev S2048x8x8 : Shape := ⟨3, ![2048, 8, 8]⟩
abbrev S2048x64 : Shape := ⟨2, ![2048, 64]⟩
abbrev S_ : Shape := ⟨0, ![]⟩
abbrev S2048x56 : Shape := ⟨2, ![2048, 56]⟩
abbrev S2048x128 : Shape := ⟨2, ![2048, 128]⟩
abbrev S8 : Shape := ⟨1, ![8]⟩
abbrev S8x8 : Shape := ⟨2, ![8, 8]⟩
abbrev S64 : Shape := ⟨1, ![64]⟩
abbrev S56 : Shape := ⟨1, ![56]⟩
abbrev S128 : Shape := ⟨1, ![128]⟩
abbrev S1x128 : Shape := ⟨2, ![1, 128]⟩
abbrev S2048x2048 : Shape := ⟨2, ![2048, 2048]⟩
abbrev S2048 : Shape := ⟨1, ![2048]⟩
abbrev S16x2048x128 : Shape := ⟨3, ![16, 2048, 128]⟩
abbrev S1x256x2048 : Shape := ⟨3, ![1, 256, 2048]⟩
abbrev S1x1x2048 : Shape := ⟨3, ![1, 1, 2048]⟩
abbrev S1x256x128 : Shape := ⟨3, ![1, 256, 128]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩

abbrev nBuf : Space → Nat
  | .hbm => 33
  | .vmem => 20
  | .smem => 0
  | _ => 0

abbrev bufTy : (tb : Table) → Fin (tcTables nBuf tb) → BufTy
  | .hbm, ⟨0, _⟩ => ⟨S16x2048x2048, .bf16⟩
  | .hbm, ⟨1, _⟩ => ⟨S16x2048x2048, .f32⟩
  | .hbm, ⟨2, _⟩ => ⟨S16x1x2048, .f32⟩
  | .hbm, ⟨3, _⟩ => ⟨S1x2048x2048, .f32⟩
  | .hbm, ⟨4, _⟩ => ⟨S16x1x2048, .f32⟩
  | .hbm, ⟨5, _⟩ => ⟨S16x1x2048, .f32⟩
  | .hbm, ⟨6, _⟩ => ⟨S1x2048, .f32⟩
  | .hbm, ⟨7, _⟩ => ⟨S1x2048x8, .f32⟩
  | .hbm, ⟨8, _⟩ => ⟨S1x8, .f32⟩
  | .hbm, ⟨9, _⟩ => ⟨S1x8x2048x8, .f32⟩
  | .hbm, ⟨10, _⟩ => ⟨S1x8x8, .f32⟩
  | .hbm, ⟨11, _⟩ => ⟨S2048x8, .f32⟩
  | .hbm, ⟨12, _⟩ => ⟨S8x2048x8, .f32⟩
  | .hbm, ⟨13, _⟩ => ⟨S2048x8x8, .f32⟩
  | .hbm, ⟨14, _⟩ => ⟨S2048x64, .f32⟩
  | .hbm, ⟨15, _⟩ => ⟨S_, .f32⟩
  | .hbm, ⟨16, _⟩ => ⟨S2048x56, .f32⟩
  | .hbm, ⟨17, _⟩ => ⟨S2048x128, .f32⟩
  | .hbm, ⟨18, _⟩ => ⟨S2048x128, .bf16⟩
  | .hbm, ⟨19, _⟩ => ⟨S8, .f32⟩
  | .hbm, ⟨20, _⟩ => ⟨S8x8, .f32⟩
  | .hbm, ⟨21, _⟩ => ⟨S64, .f32⟩
  | .hbm, ⟨22, _⟩ => ⟨S_, .f32⟩
  | .hbm, ⟨23, _⟩ => ⟨S56, .f32⟩
  | .hbm, ⟨24, _⟩ => ⟨S128, .f32⟩
  | .hbm, ⟨25, _⟩ => ⟨S1x128, .f32⟩
  | .hbm, ⟨26, _⟩ => ⟨S2048x2048, .f32⟩
  | .hbm, ⟨27, _⟩ => ⟨S2048x2048, .bf16⟩
  | .hbm, ⟨28, _⟩ => ⟨S2048, .f32⟩
  | .hbm, ⟨29, _⟩ => ⟨S1x2048, .f32⟩
  | .hbm, ⟨30, _⟩ => ⟨S16x2048x2048, .f32⟩
  | .hbm, ⟨31, _⟩ => ⟨S16x2048x2048, .f32⟩
  | .hbm, ⟨32, _⟩ => ⟨S16x2048x128, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x2048, .bf16⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x2048, .f32⟩
  | .local _ .vmem, ⟨12, _⟩ => ⟨S2048x128, .bf16⟩
  | .local _ .vmem, ⟨13, _⟩ => ⟨S1x128, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .vmem, ⟨18, _⟩ => ⟨S1x256x128, .f32⟩
  | .local _ .vmem, ⟨19, _⟩ => ⟨S1x256x128, .f32⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v17_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S16x2048x2048 : Shape := ⟨3, ![16, 2048, 2048]⟩
abbrev S16x1x2048 : Shape := ⟨3, ![16, 1, 2048]⟩
abbrev S1x2048x2048 : Shape := ⟨3, ![1, 2048, 2048]⟩
abbrev S1x2048 : Shape := ⟨2, ![1, 2048]⟩
abbrev S1x2048x8 : Shape := ⟨3, ![1, 2048, 8]⟩
abbrev S1x8 : Shape := ⟨2, ![1, 8]⟩
abbrev S1x8x2048x8 : Shape := ⟨4, ![1, 8, 2048, 8]⟩
abbrev S1x8x8 : Shape := ⟨3, ![1, 8, 8]⟩
abbrev S2048x2048 : Shape := ⟨2, ![2048, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S16x2048x2048, .f32⟩
  | .hbm, ⟨2, _⟩ => ⟨S16x1x2048, .f32⟩
  | .hbm, ⟨3, _⟩ => ⟨S1x2048x2048, .f32⟩
  | .hbm, ⟨4, _⟩ => ⟨S16x1x2048, .f32⟩
  | .hbm, ⟨5, _⟩ => ⟨S16x1x2048, .f32⟩
  | .hbm, ⟨6, _⟩ => ⟨S1x2048, .f32⟩
  | .hbm, ⟨7, _⟩ => ⟨S1x2048x8, .f32⟩
  | .hbm, ⟨8, _⟩ => ⟨S1x8, .f32⟩
  | .hbm, ⟨9, _⟩ => ⟨S1x8x2048x8, .f32⟩
  | .hbm, ⟨10, _⟩ => ⟨S1x8x8, .f32⟩
  | .hbm, ⟨11, _⟩ => ⟨S2048x2048, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S2048, .f32⟩
  | .hbm, ⟨17, _⟩ => ⟨S16x2048x2048, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S16x2048x1, .f32⟩
  | .hbm, ⟨28, _⟩ => ⟨S16x2048x2048, .f32⟩
  | .hbm, ⟨29, _⟩ => ⟨S16x2048x2048, .f32⟩
  | .hbm, ⟨30, _⟩ => ⟨S1x1x2048, .f32⟩
  | .hbm, ⟨31, _⟩ => ⟨S16x2048x2048, .f32⟩
  | .hbm, ⟨32, _⟩ => ⟨S16x2048x2048, .f32⟩
  | .hbm, ⟨33, _⟩ => ⟨S_, .f32⟩
  | .hbm, ⟨34, _⟩ => ⟨S16x1x2048, .f32⟩
  | .hbm, ⟨35, _⟩ => ⟨S16x1x2048, .f32⟩
  | .hbm, ⟨36, _⟩ => ⟨S16x2048x2048, .f32⟩
  | .hbm, ⟨37, _⟩ => ⟨S16x2048x2048, .f32⟩
  | .hbm, ⟨38, _⟩ => ⟨S16x2048x2048, .f32⟩
  | .hbm, ⟨39, _⟩ => ⟨S16x2048x2048, .f32⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== Kernel4.lean ====
abbrev S16x2048x2048 : Shape := ⟨3, ![16, 2048, 2048]⟩
abbrev S65536x2048 : Shape := ⟨2, ![65536, 2048]⟩
abbrev S32768x128 : Shape := ⟨2, ![32768, 128]⟩
abbrev S16x1x2048 : Shape := ⟨3, ![16, 1, 2048]⟩
abbrev S2048 : Shape := ⟨1, ![2048]⟩
abbrev S32768x2048 : Shape := ⟨2, ![32768, 2048]⟩
abbrev S1x2048 : Shape := ⟨2, ![1, 2048]⟩
abbrev S512x2048 : Shape := ⟨2, ![512, 2048]⟩
abbrev S512x128 : Shape := ⟨2, ![512, 128]⟩
abbrev S1x1x2048 : Shape := ⟨3, ![1, 1, 2048]⟩
abbrev S512x1 : Shape := ⟨2, ![512, 1]⟩
abbrev S512 : Shape := ⟨1, ![512]⟩

abbrev nBuf : Space → Nat
  | .hbm => 8
  | .vmem => 13
  | .smem => 0
  | _ => 0

abbrev bufTy : (tb : Table) → Fin (tcTables nBuf tb) → BufTy
  | .hbm, ⟨0, _⟩ => ⟨S16x2048x2048, .f32⟩
  | .hbm, ⟨1, _⟩ => ⟨S65536x2048, .f32⟩
  | .hbm, ⟨2, _⟩ => ⟨S32768x128, .f32⟩
  | .hbm, ⟨3, _⟩ => ⟨S16x1x2048, .f32⟩
  | .hbm, ⟨4, _⟩ => ⟨S2048, .f32⟩
  | .hbm, ⟨5, _⟩ => ⟨S32768x2048, .f32⟩
  | .hbm, ⟨6, _⟩ => ⟨S1x2048, .f32⟩
  | .hbm, ⟨7, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x128, .f32⟩
  | .local _ .vmem, ⟨7, _⟩ => ⟨S512x128, .f32⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16x2048x2048 : Shape := ⟨3, ![16, 2048, 2048]⟩
abbrev S65536x2048 : Shape := ⟨2, ![65536, 2048]⟩
abbrev S32768x128 : Shape := ⟨2, ![32768, 128]⟩
abbrev S16x1x2048 : Shape := ⟨3, ![16, 1, 2048]⟩
abbrev S2048 : Shape := ⟨1, ![2048]⟩
abbrev S32768x1 : Shape := ⟨2, ![32768, 1]⟩
abbrev S32768x2048 : Shape := ⟨2, ![32768, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S65536x2048, .f32⟩
  | .hbm, ⟨2, _⟩ => ⟨S32768x128, .f32⟩
  | .hbm, ⟨3, _⟩ => ⟨S16x1x2048, .f32⟩
  | .hbm, ⟨4, _⟩ => ⟨S2048, .f32⟩
  | .hbm, ⟨5, _⟩ => ⟨S32768x1, .f32⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S32768x1, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S16x2048x2048, .f32⟩
  | .hbm, ⟨19, _⟩ => ⟨S_, .f32⟩
  | .hbm, ⟨20, _⟩ => ⟨S16x2048, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S_, .f32⟩
  | .hbm, ⟨26, _⟩ => ⟨S16x2048x1, .f32⟩
  | .hbm, ⟨27, _⟩ => ⟨S16x2048x1, .f32⟩
  | .hbm, ⟨28, _⟩ => ⟨S16x2048x1, .f32⟩
  | .hbm, ⟨29, _⟩ => ⟨S16x2048x2048, .f32⟩
  | .hbm, ⟨30, _⟩ => ⟨S16x2048x2048, .f32⟩
  | .hbm, ⟨31, _⟩ => ⟨S1x1x2048, .f32⟩
  | .hbm, ⟨32, _⟩ => ⟨S16x2048x2048, .f32⟩
  | .hbm, ⟨33, _⟩ => ⟨S16x2048x2048, .f32⟩
  | .hbm, ⟨34, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel5.lean ====
abbrev S16x2048 : Shape := ⟨2, ![16, 2048]⟩
abbrev S1x2048x12288 : Shape := ⟨3, ![1, 2048, 12288]⟩
abbrev S1x12288 : Shape := ⟨2, ![1, 12288]⟩
abbrev S2048x12288 : Shape := ⟨2, ![2048, 12288]⟩
abbrev S12288 : Shape := ⟨1, ![12288]⟩
abbrev S16x12288 : Shape := ⟨2, ![16, 12288]⟩
abbrev S2048x1024 : Shape := ⟨2, ![2048, 1024]⟩
abbrev S1x1024 : Shape := ⟨2, ![1, 1024]⟩
abbrev S16x1024 : Shape := ⟨2, ![16, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S1x2048x12288, .f32⟩
  | .hbm, ⟨2, _⟩ => ⟨S1x12288, .f32⟩
  | .hbm, ⟨3, _⟩ => ⟨S2048x12288, .f32⟩
  | .hbm, ⟨4, _⟩ => ⟨S12288, .f32⟩
  | .hbm, ⟨5, _⟩ => ⟨S1x12288, .f32⟩
  | .hbm, ⟨6, _⟩ => ⟨S16x12288, .f32⟩
  | .local _ .vmem, ⟨0, _⟩ => ⟨S16x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16x2048 : Shape := ⟨2, ![16, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S16x12288 : Shape := ⟨2, ![16, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S1x2048x12288, .f32⟩
  | .hbm, ⟨2, _⟩ => ⟨S1x12288, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S2048x12288, .f32⟩
  | .hbm, ⟨13, _⟩ => ⟨S16x12288, .f32⟩
  | .hbm, ⟨14, _⟩ => ⟨S12288, .f32⟩
  | .hbm, ⟨15, _⟩ => ⟨S1x12288, .f32⟩
  | .hbm, ⟨16, _⟩ => ⟨S16x12288, .f32⟩
  | .hbm, ⟨17, _⟩ => ⟨S16x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel6.lean ====
abbrev S16x2048x2048 : Shape := ⟨3, ![16, 2048, 2048]⟩
abbrev S16x1x2048 : Shape := ⟨3, ![16, 1, 2048]⟩
abbrev S1x2048x2048 : Shape := ⟨3, ![1, 2048, 2048]⟩
abbrev S1x2048 : Shape := ⟨2, ![1, 2048]⟩
abbrev S1x2048x8 : Shape := ⟨3, ![1, 2048, 8]⟩
abbrev S1x8 : Shape := ⟨2, ![1, 8]⟩
abbrev S1x8x2048x8 : Shape := ⟨4, ![1, 8, 2048, 8]⟩
abbrev S1x8x8 : Shape := ⟨3, ![1, 8, 8]⟩
abbrev S2048x8 : Shape := ⟨2, ![2048, 8]⟩
abbrev S8x2048x8 : Shape := ⟨3, ![8, 2048, 8]⟩
abbrev S2048x8x8 : Shape := ⟨3, ![2048, 8, 8]⟩
abbrev S2048x64 : Shape := ⟨2, ![2048, 64]⟩
abbrev S_ : Shape := ⟨0, ![]⟩
abbrev S2048x56 : Shape := ⟨2, ![2048, 56]⟩
abbrev S2048x128 : Shape := ⟨2, ![2048, 128]⟩
abbrev S8 : Shape := ⟨1, ![8]⟩
abbrev S8x8 : Shape := ⟨2, ![8, 8]⟩
abbrev S64 : Shape := ⟨1, ![64]⟩
abbrev S56 : Shape := ⟨1, ![56]⟩
abbrev S128 : Shape := ⟨1, ![128]⟩
abbrev S1x128 : Shape := ⟨2, ![1, 128]⟩
abbrev S2048x2048 : Shape := ⟨2, ![2048, 2048]⟩
abbrev S2048 : Shape := ⟨1, ![2048]⟩
abbrev S16x2048x128 : Shape := ⟨3, ![16, 2048, 128]⟩
abbrev S1x256x2048 : Shape := ⟨3, ![1, 256, 2048]⟩
abbrev S1x1x2048 : Shape := ⟨3, ![1, 1, 2048]⟩
abbrev S1x256x128 : Shape := ⟨3, ![1, 256, 128]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩

abbrev nBuf : Space → Nat
  | .hbm => 33
  | .vmem => 20
  | .smem => 0
  | _ => 0

abbrev bufTy : (tb : Table) → Fin (tcTables nBuf tb) → BufTy
  | .hbm, ⟨0, _⟩ => ⟨S16x2048x2048, .bf16⟩
  | .hbm, ⟨1, _⟩ => ⟨S16x2048x2048, .f32⟩
  | .hbm, ⟨2, _⟩ => ⟨S16x1x2048, .f32⟩
  | .hbm, ⟨3, _⟩ => ⟨S1x2048x2048, .f32⟩
  | .hbm, ⟨4, _⟩ => ⟨S16x1x2048, .f32⟩
  | .hbm, ⟨5, _⟩ => ⟨S16x1x2048, .f32⟩
  | .hbm, ⟨6, _⟩ => ⟨S1x2048, .f32⟩
  | .hbm, ⟨7, _⟩ => ⟨S1x2048x8, .f32⟩
  | .hbm, ⟨8, _⟩ => ⟨S1x8, .f32⟩
  | .hbm, ⟨9, _⟩ => ⟨S1x8x2048x8, .f32⟩
  | .hbm, ⟨10, _⟩ => ⟨S1x8x8, .f32⟩
  | .hbm, ⟨11, _⟩ => ⟨S2048x8, .f32⟩
  | .hbm, ⟨12, _⟩ => ⟨S8x2048x8, .f32⟩
  | .hbm, ⟨13, _⟩ => ⟨S2048x8x8, .f32⟩
  | .hbm, ⟨14, _⟩ => ⟨S2048x64, .f32⟩
  | .hbm, ⟨15, _⟩ => ⟨S_, .f32⟩
  | .hbm, ⟨16, _⟩ => ⟨S2048x56, .f32⟩
  | .hbm, ⟨17, _⟩ => ⟨S2048x128, .f32⟩
  | .hbm, ⟨18, _⟩ => ⟨S2048x128, .bf16⟩
  | .hbm, ⟨19, _⟩ => ⟨S8, .f32⟩
  | .hbm, ⟨20, _⟩ => ⟨S8x8, .f32⟩
  | .hbm, ⟨21, _⟩ => ⟨S64, .f32⟩
  | .hbm, ⟨22, _⟩ => ⟨S_, .f32⟩
  | .hbm, ⟨23, _⟩ => ⟨S56, .f32⟩
  | .hbm, ⟨24, _⟩ => ⟨S128, .f32⟩
  | .hbm, ⟨25, _⟩ => ⟨S1x128, .f32⟩
  | .hbm, ⟨26, _⟩ => ⟨S2048x2048, .f32⟩
  | .hbm, ⟨27, _⟩ => ⟨S2048x2048, .bf16⟩
  | .hbm, ⟨28, _⟩ => ⟨S2048, .f32⟩
  | .hbm, ⟨29, _⟩ => ⟨S1x2048, .f32⟩
  | .hbm, ⟨30, _⟩ => ⟨S16x2048x2048, .f32⟩
  | .hbm, ⟨31, _⟩ => ⟨S16x2048x2048, .f32⟩
  | .hbm, ⟨32, _⟩ => ⟨S16x2048x128, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x2048, .bf16⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x2048, .f32⟩
  | .local _ .vmem, ⟨12, _⟩ => ⟨S2048x128, .bf16⟩
  | .local _ .vmem, ⟨13, _⟩ => ⟨S1x128, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .vmem, ⟨18, _⟩ => ⟨S1x256x128, .f32⟩
  | .local _ .vmem, ⟨19, _⟩ => ⟨S1x256x128, .f32⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v17_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference6Ideal.lean ====
abbrev S16x2048x2048 : Shape := ⟨3, ![16, 2048, 2048]⟩
abbrev S16x1x2048 : Shape := ⟨3, ![16, 1, 2048]⟩
abbrev S1x2048x2048 : Shape := ⟨3, ![1, 2048, 2048]⟩
abbrev S1x2048 : Shape := ⟨2, ![1, 2048]⟩
abbrev S1x2048x8 : Shape := ⟨3, ![1, 2048, 8]⟩
abbrev S1x8 : Shape := ⟨2, ![1, 8]⟩
abbrev S1x8x2048x8 : Shape := ⟨4, ![1, 8, 2048, 8]⟩
abbrev S1x8x8 : Shape := ⟨3, ![1, 8, 8]⟩
abbrev S2048x2048 : Shape := ⟨2, ![2048, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S2048x8 : Shape := ⟨2, ![2048, 8]⟩
abbrev S16x2048x8 : Shape := ⟨3, ![16, 2048, 8]⟩
abbrev S8 : Shape := ⟨1, ![8]⟩
abbrev S1x1x8 : Shape := ⟨3, ![1, 1, 8]⟩
abbrev S8x2048x8 : Shape := ⟨3, ![8, 2048, 8]⟩
abbrev S16x2048x8x8 : Shape := ⟨4, ![16, 2048, 8, 8]⟩
abbrev S8x8 : Shape := ⟨2, ![8, 8]⟩
abbrev S1x1x8x8 : Shape := ⟨4, ![1, 1, 8, 8]⟩
abbrev S8x1 : Shape := ⟨2, ![8, 1]⟩
abbrev S16x2048x1x1 : Shape := ⟨4, ![16, 2048, 1, 1]⟩
abbrev S1x1x8x1 : Shape := ⟨4, ![1, 1, 8, 1]⟩
abbrev S16x2048x8x1 : Shape := ⟨4, ![16, 2048, 8, 1]⟩
abbrev S16x2048x2 : Shape := ⟨3, ![16, 2048, 2]⟩
abbrev S16x2048x124 : Shape := ⟨3, ![16, 2048, 124]⟩
abbrev S16x2048x128 : Shape := ⟨3, ![16, 2048, 128]⟩

abbrev nBuf : Space → Nat
  | .hbm => 167
  | .vmem => 0
  | .smem => 0
  | _ => 0

abbrev hbmTy0_0 (i : Nat) : BufTy := match i % 128 with
  | 0 => ⟨S16x2048x2048, .bf16⟩
  | 1 => ⟨S16x2048x2048, .f32⟩
  | 2 => ⟨S16x1x2048, .f32⟩
  | 3 => ⟨S1x2048x2048, .f32⟩
  | 4 => ⟨S16x1x2048, .f32⟩
  | 5 => ⟨S16x1x2048, .f32⟩
  | 6 => ⟨S1x2048, .f32⟩
  | 7 => ⟨S1x2048x8, .f32⟩
  | 8 => ⟨S1x8, .f32⟩
  | 9 => ⟨S1x8x2048x8, .f32⟩
  | 10 => ⟨S1x8x8, .f32⟩
  | 11 => ⟨S2048x2048, .f32⟩
  | 12 => ⟨S16x2048x2048, .f32⟩
  | 13 => ⟨S16x2048x2048, .f32⟩
  | 14 => ⟨S16x2048x2048, .f32⟩
  | 15 => ⟨S16x2048x2048, .f32⟩
  | 16 => ⟨S2048, .f32⟩
  | 17 => ⟨S16x2048x2048, .f32⟩
  | 18 => ⟨S_, .f32⟩
  | 19 => ⟨S16x2048, .f32⟩
  | 20 => ⟨S16x2048x1, .f32⟩
  | 21 => ⟨S_, .f32⟩
  | 22 => ⟨S16x2048x1, .f32⟩
  | 23 => ⟨S16x2048x1, .f32⟩
  | 24 => ⟨S_, .f32⟩
  | 25 => ⟨S16x2048x1, .f32⟩
  | 26 => ⟨S16x2048x1, .f32⟩
  | 27 => ⟨S16x2048x1, .f32⟩
  | 28 => ⟨S16x2048x2048, .f32⟩
  | 29 => ⟨S16x2048x2048, .f32⟩
  | 30 => ⟨S1x1x2048, .f32⟩
  | 31 => ⟨S16x2048x2048, .f32⟩
  | 32 => ⟨S16x2048x2048, .f32⟩
  | 33 => ⟨S_, .f32⟩
  | 34 => ⟨S16x1x2048, .f32⟩
  | 35 => ⟨S16x1x2048, .f32⟩
  | 36 => ⟨S16x2048x2048, .f32⟩
  | 37 => ⟨S16x2048x2048, .f32⟩
  | 38 => ⟨S16x2048x2048, .f32⟩
  | 39 => ⟨S16x2048x2048, .f32⟩
  | 40 => ⟨S2048x8, .f32⟩
  | 41 => ⟨S16x2048x8, .f32⟩
  | 42 => ⟨S8, .f32⟩
  | 43 => ⟨S1x1x8, .f32⟩
  | 44 => ⟨S16x2048x8, .f32⟩
  | 45 => ⟨S16x2048x8, .f32⟩
  | 46 => ⟨S_, .f32⟩
  | 47 => ⟨S16x2048, .f32⟩
  | 48 => ⟨S_, .f32⟩
  | 49 => ⟨S16x2048, .f32⟩
  | 50 => ⟨S16x2048, .f32⟩
  | 51 => ⟨S16x2048x1, .f32⟩
  | 52 => ⟨S16x2048x8, .f32⟩
  | 53 => ⟨S16x2048x8, .f32⟩
  | 54 => ⟨S16x2048x8, .f32⟩
  | 55 => ⟨S_, .f32⟩
  | 56 => ⟨S16x2048, .f32⟩
  | 57 => ⟨S16x2048x1, .f32⟩
  | 58 => ⟨S16x2048x8, .f32⟩
  | 59 => ⟨S16x2048x8, .f32⟩
  | 60 => ⟨S_, .f32⟩
  | 61 => ⟨S16x2048, .f32⟩
  | 62 => ⟨S16x2048x1, .f32⟩
  | 63 => ⟨S_, .f32⟩
  | 64 => ⟨S16x2048, .f32⟩
  | 65 => ⟨S16x2048x1, .f32⟩
  | 66 => ⟨S16x2048x8, .f32⟩
  | 67 => ⟨S16x2048x8, .i1⟩
  | 68 => ⟨S8, .i32⟩
  | 69 => ⟨S_, .i32⟩
  | 70 => ⟨S_, .i32⟩
  | 71 => ⟨S16x2048x8, .i32⟩
  | 72 => ⟨S16x2048x8, .i32⟩
  | 73 => ⟨S16x2048x8, .i32⟩
  | 74 => ⟨S_, .i32⟩
  | 75 => ⟨S16x2048, .i32⟩
  | 76 => ⟨S16x2048x1, .i32⟩
  | 77 => ⟨S8x2048x8, .f32⟩
  | 78 => ⟨S16x2048x8x8, .f32⟩
  | 79 => ⟨S8x8, .f32⟩
  | 80 => ⟨S1x1x8x8, .f32⟩
  | 81 => ⟨S16x2048x8x8, .f32⟩
  | 82 => ⟨S16x2048x8x8, .f32⟩
  | 83 => ⟨S8, .i32⟩
  | 84 => ⟨S8x1, .i32⟩
  | 85 => ⟨S16x2048x1x1, .i32⟩
  | 86 => ⟨S1x1x8x1, .i32⟩
  | 87 => ⟨S16x2048x8x1, .i32⟩
  | 88 => ⟨S16x2048x8x1, .i32⟩
  | 89 => ⟨S16x2048x8x1, .i1⟩
  | 90 => ⟨S_, .f32⟩
  | 91 => ⟨S_, .f32⟩
  | 92 => ⟨S16x2048x8x8, .i1⟩
  | 93 => ⟨S16x2048x8x8, .f32⟩
  | 94 => ⟨S16x2048x8x8, .f32⟩
  | 95 => ⟨S_, .f32⟩
  | 96 => ⟨S16x2048x8, .f32⟩
  | 97 => ⟨S_, .f32⟩
  | 98 => ⟨S16x2048, .f32⟩
  | 99 => ⟨S16x2048x1, .f32⟩
  | 100 => ⟨S_, .f32⟩
  | 101 => ⟨S16x2048, .f32⟩
  | 102 => ⟨S16x2048x1, .f32⟩
  | 103 => ⟨S16x2048x8, .f32⟩
  | 104 => ⟨S16x2048x8, .i1⟩
  | 105 => ⟨S8, .i32⟩
  | 106 => ⟨S_, .i32⟩
  | 107 => ⟨S_, .i32⟩
  | 108 => ⟨S16x2048x8, .i32⟩
  | 109 => ⟨S16x2048x8, .i32⟩
  | 110 => ⟨S16x2048x8, .i32⟩
  | 111 => ⟨S_, .i32⟩
  | 112 => ⟨S16x2048, .i32⟩
  | 113 => ⟨S16x2048x1, .i32⟩
  | 114 => ⟨S8, .i32⟩
  | 115 => ⟨S1x1x8, .i32⟩
  | 116 => ⟨S16x2048x8, .i32⟩
  | 117 => ⟨S16x2048x8, .i32⟩
  | 118 => ⟨S16x2048x8, .i1⟩
  | 119 => ⟨S_, .f32⟩
  | 120 => ⟨S_, .f32⟩
  | 121 => ⟨S16x2048x8, .f32⟩
  | 122 => ⟨S16x2048x8, .f32⟩
  | 123 => ⟨S_, .f32⟩
  | 124 => ⟨S16x2048, .f32⟩
  | 125 => ⟨S16x2048x1, .f32⟩
  | 126 => ⟨S_, .f32⟩
  | 127 => ⟨S16x2048, .f32⟩
  | _ => ⟨S16x2048x2048, .bf16⟩

abbrev hbmTy0_1 (i : Nat) : BufTy := match i % 128 with
  | 0 => ⟨S16x2048x1, .f32⟩
  | 1 => ⟨S16x2048x8, .f32⟩
  | 2 => ⟨S16x2048x8, .i1⟩
  | 3 => ⟨S8, .i32⟩
  | 4 => ⟨S_, .i32⟩
  | 5 => ⟨S_, .i32⟩
  | 6 => ⟨S16x2048x8, .i32⟩
  | 7 => ⟨S16x2048x8, .i32⟩
  | 8 => ⟨S16x2048x8, .i32⟩
  | 9 => ⟨S_, .i32⟩
  | 10 => ⟨S16x2048, .i32⟩
  | 11 => ⟨S16x2048x1, .i32⟩
  | 12 => ⟨S16x2048x2, .f32⟩
  | 13 => ⟨S_, .f32⟩
  | 14 => ⟨S16x2048, .f32⟩
  | 15 => ⟨S_, .f32⟩
  | 16 => ⟨S16x2048, .f32⟩
  | 17 => ⟨S16x2048, .f32⟩
  | 18 => ⟨S16x2048x1, .f32⟩
  | 19 => ⟨S16x2048x2, .f32⟩
  | 20 => ⟨S16x2048x2, .f32⟩
  | 21 => ⟨S16x2048x2, .f32⟩
  | 22 => ⟨S_, .f32⟩
  | 23 => ⟨S16x2048, .f32⟩
  | 24 => ⟨S16x2048x1, .f32⟩
  | 25 => ⟨S16x2048x2, .f32⟩
  | 26 => ⟨S16x2048x2, .f32⟩
  | 27 => ⟨S16x2048x2, .f32⟩
  | 28 => ⟨S16x2048x2, .f32⟩
  | 29 => ⟨S_, .i32⟩
  | 30 => ⟨S16x2048x1, .i32⟩
  | 31 => ⟨S16x2048x1, .i32⟩
  | 32 => ⟨S16x2048x2, .i32⟩
  | 33 => ⟨S16x2048x2, .i32⟩
  | 34 => ⟨S16x2048x2, .i32⟩
  | 35 => ⟨S_, .f32⟩
  | 36 => ⟨S16x2048x124, .f32⟩
  | 37 => ⟨S16x2048x2, .f32⟩
  | 38 => ⟨S16x2048x128, .f32⟩
  | _ => ⟨S16x2048x2048, .bf16⟩

abbrev hbmTy (i : Nat) : BufTy := match i / 128 with
  | 0 => hbmTy0_0 i
  | 1 => hbmTy0_1 i
  | _ => ⟨S16x2048x2048, .bf16⟩

abbrev bufTy : (tb : Table) → Fin (tcTables nBuf tb) → BufTy
  | .hbm, ⟨i, _⟩ => hbmTy i
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_9 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v65 : Ref sig .tc := ⟨.hbm, 94, rfl⟩
abbrev main_cst_10 : Ref sig .tc := ⟨.hbm, 95, rfl⟩
abbrev main_v66 : Ref sig .tc := ⟨.hbm, 96, rfl⟩
abbrev main_cst_11 : Ref sig .tc := ⟨.hbm, 97, rfl⟩
abbrev main_v67 : Ref sig .tc := ⟨.hbm, 98, rfl⟩
abbrev main_v68 : Ref sig .tc := ⟨.hbm, 99, rfl⟩
abbrev main_cst_12 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_13 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_v74 : Ref sig .tc := ⟨.hbm, 110, rfl⟩
abbrev main_c_14 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_15 : Ref sig .tc := ⟨.hbm, 119, rfl⟩
abbrev main_call3_v0 : Ref sig .tc := ⟨.hbm, 120, rfl⟩
abbrev main_call3_v1 : Ref sig .tc := ⟨.hbm, 121, rfl⟩
abbrev main_v82 : Ref sig .tc := ⟨.hbm, 122, rfl⟩
abbrev main_cst_16 : Ref sig .tc := ⟨.hbm, 123, rfl⟩
abbrev main_v83 : Ref sig .tc := ⟨.hbm, 124, rfl⟩
abbrev main_v84 : Ref sig .tc := ⟨.hbm, 125, rfl⟩
abbrev main_cst_17 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_c_18 : Ref sig .tc := ⟨.hbm, 132, rfl⟩
abbrev main_call4_v0 : Ref sig .tc := ⟨.hbm, 133, rfl⟩
abbrev main_call4_v1 : Ref sig .tc := ⟨.hbm, 134, rfl⟩
abbrev main_call4_v2 : Ref sig .tc := ⟨.hbm, 135, rfl⟩
abbrev main_v90 : Ref sig .tc := ⟨.hbm, 136, rfl⟩
abbrev main_c_19 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_20 : Ref sig .tc := ⟨.hbm, 141, rfl⟩
abbrev main_v94 : Ref sig .tc := ⟨.hbm, 142, rfl⟩
abbrev main_cst_21 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_cst_22 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_c_23 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_24 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩

abbrev nD : Nat := 1
abbrev τ : Topo := Topo.v7x

variable {F : FTy → Type} [FloatOps F]
-- ==== Proof.InProj.lean ====
/- The input projection: its result array is the reference's product of the modulated, normalised rows with the weights. -/
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

namespace Cert.Kernel2Ideal.InProj

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The reference's rows before the product: normalised, then scaled and shifted by the modulation. -/
def REFH (X : FVec Ideal S16x2048x2048 .f32) (SC SH : FVec Ideal S16x1x2048 .f32) (G : FVec Ideal S1x2048 .f32) :
    FVec Ideal S16x2048x2048 .f32 :=
  addf (mulf (mulf (mulf X (broadcastInDim Cert.Reference2Ideal.S16x2048x2048 ![0, 1, 2] Cert.Reference2Ideal.Gen.bcast_S16x2048x1_S16x2048x2048_0_1_2 (Host.rsqrt (addf (Host.divf (broadcastInDim Cert.Reference2Ideal.S16x2048x1 ![0, 1] Cert.Reference2Ideal.Gen.bcast_S16x2048_S16x2048x1_0_1 (Host.reduceAdd (mulf X X) (constant Cert.Reference2Ideal.S_ .f32 0x00000000#32) Cert.Reference2Ideal.Gen.reducesTo_S16x2048x2048_S16x2048_d2 Cert.Reference2Ideal.Gen.h_S_)) (broadcastInDim Cert.Reference2Ideal.S16x2048x1 ![] Cert.Reference2Ideal.Gen.bcast_S_S16x2048x1 (constant Cert.Reference2Ideal.S_ .f32 0x45000000#32))) (broadcastInDim Cert.Reference2Ideal.S16x2048x1 ![] Cert.Reference2Ideal.Gen.bcast_S_S16x2048x1 (constant Cert.Reference2Ideal.S_ .f32 0x358637BD#32)))))) (broadcastInDim Cert.Reference2Ideal.S16x2048x2048 ![0, 1, 2] Cert.Reference2Ideal.Gen.bcast_S1x1x2048_S16x2048x2048_0_1_2 (broadcastInDim Cert.Reference2Ideal.S1x1x2048 ![2] Cert.Reference2Ideal.Gen.bcast_S2048_S1x1x2048_2 (shapeCast _ G Cert.Reference2Ideal.Gen.shapeCasts_S1x2048_S2048)))) (broadcastInDim Cert.Reference2Ideal.S16x2048x2048 ![0, 1, 2] Cert.Reference2Ideal.Gen.bcast_S16x1x2048_S16x2048x2048_0_1_2 (addf (broadcastInDim Cert.Reference2Ideal.S16x1x2048 ![] Cert.Reference2Ideal.Gen.bcast_S_S16x1x2048 (constant Cert.Reference2Ideal.S_ .f32 0x3F800000#32)) SC))) (broadcastInDim Cert.Reference2Ideal.S16x2048x2048 ![0, 1, 2] Cert.Reference2Ideal.Gen.bcast_S16x1x2048_S16x2048x2048_0_1_2 SH)

/-- The reference's result. -/
def REF (X : FVec Ideal S16x2048x2048 .f32) (SC SH : FVec Ideal S16x1x2048 .f32) (G : FVec Ideal S1x2048 .f32)
    (W : FVec Ideal S1x2048x5120 .f32) : FVec Ideal S16x2048x5120 .f32 :=
  Host.dotGeneral Cert.Reference2Ideal.dot_S16x2048x2048_S2048x5120_S16x2048x5120_2_0_01_1_n_n none (REFH X SC SH G)
    (shapeCast _ W Cert.Reference2Ideal.Gen.shapeCasts_S1x2048x5120_S2048x5120)

theorem idx : ∀ t : Fin cfg0.N, win0_0.index t = ![t.val / 8, t.val % 8, 0] ∧ win0_1.index t = ![t.val / 8, 0, 0]
    ∧ win0_2.index t = ![t.val / 8, 0, 0] ∧ win0_3.index t = ![0, 0] ∧ win0_4.index t = ![0, 0]
    ∧ win0_5.index t = ![t.val / 8, t.val % 8, 0] :=
  (by decide +kernel : ∀ t : Fin grid0.N, _)

/-- One row of the kernel's left operand is the reference's row. -/
theorem rowH (c : Dev nD) (t : Fin cfg0.N) (r : Fin 256) (k : Fin 2048) (b : Fin 16) (s : Fin 2048)
    (hb : b.val = t.val / 8) (hs : s.val = t.val % 8 * 256 + r.val) :
    k0_pay8 (iblk m c 0 t) (iblk m c 1 t) (iblk m c 2 t) (iblk m c 3 t) (iblk m c 4 t) (ix2 r k)
      = REFH (m ((c : Thread nD τ).loc main_arg0)) (m ((c : Thread nD τ).loc main_arg1)) (m ((c : Thread nD τ).loc main_arg2))
          (m ((c : Thread nD τ).loc main_arg3)) (ix3 b s k) := by
  pointwise [k0_pay8, k0_pay5, REFH]
  simp only [mul_assoc]
  blk_point [iblk, V, idx t]

/-- The product of the body's left operand with all columns of the weights. -/
def T (H : FVec Ideal S256x2048 .bf16) (W : FVec Ideal S2048x5120 .bf16) (r : Fin 256) (n : Fin 5120) : EReal :=
  ∑ k : Fin 2048, H (ix2 r k) * W (ix2 k n)

theorem core (c : Dev nD) (t : Fin cfg0.N) (r : Fin 256) (n : Fin 5120) (b : Fin 16) (s : Fin 2048)
    (hb : b.val = t.val / 8) (hs : s.val = t.val % 8 * 256 + r.val) :
    T (k0_pay8 (iblk m c 0 t) (iblk m c 1 t) (iblk m c 2 t) (iblk m c 3 t) (iblk m c 4 t)) (iblk m c 4 t) r n
      = REF (m ((c : Thread nD τ).loc main_arg0)) (m ((c : Thread nD τ).loc main_arg1)) (m ((c : Thread nD τ).loc main_arg2))
          (m ((c : Thread nD τ).loc main_arg3)) (m ((c : Thread nD τ).loc main_arg4)) (ix3 b s n) := by
  unfold T
  simp only [rowH m c t r _ b s hb hs]
  pointwise [REF]
  blk_point [iblk, V, idx t]

theorem point (c : Dev nD) (t : Fin cfg0.N) (y : S1x256x5120.Idx) :
    out0_5 (iblk m c 0 t) (iblk m c 1 t) (iblk m c 2 t) (iblk m c 3 t) (iblk m c 4 t) y
      = T (k0_pay8 (iblk m c 0 t) (iblk m c 1 t) (iblk m c 2 t) (iblk m c 3 t) (iblk m c 4 t)) (iblk m c 4 t) (y 1) (y 2) := by
  unfold out0_5
  canon_tiles x h
  all_goals (pointwise [k0_pay1, k0_pay2, k0_pay3, k0_pay4, k0_pay6, k0_pay7, T])
  all_goals (blk_point [])

/-- The result array after the run. -/
theorem final (c : Dev nD) : (dats m 0 c).arrAt 5 cfg0.N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have ht : t.val < 128 := t.isLt
  blk_simp
  rw [after0_5, point]
  obtain ⟨-, -, -, -, -, e5⟩ := idx t
  have y1 : (y 1 : ℕ) < 256 := (y 1).isLt
  refine (core m c t (y 1) (y 2) ⟨t.val / 8, by omega⟩ ⟨t.val % 8 * 256 + (y 1 : ℕ), by omega⟩ rfl rfl).trans (congrArg _ ?_)
  blk_ext [e5]

end Cert.Kernel2Ideal.InProj

end
-- ==== Proof.OutProj.lean ====
/- The output projection: its first result is the reference's residual, its second that residual normalised and modulated. -/
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

namespace Cert.Kernel3Ideal.OutProj

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The reference's first result: the input plus the gated projection. -/
def X1 (Y : FVec Ideal S16x2048x2048 .bf16) (X : FVec Ideal S16x2048x2048 .f32) (G1 : FVec Ideal S16x1x2048 .f32)
    (W : FVec Ideal S1x2048x2048 .f32) : FVec Ideal S16x2048x2048 .f32 :=
  addf X (mulf (broadcastInDim Cert.Reference3Ideal.S16x2048x2048 ![0, 1, 2] Cert.Reference3Ideal.Gen.bcast_S16x1x2048_S16x2048x2048_0_1_2 G1) (Host.dotGeneral Cert.Reference3Ideal.dot_S16x2048x2048_S2048x2048_S16x2048x2048_2_0_01_1_n_n none Y (shapeCast _ W Cert.Reference3Ideal.Gen.shapeCasts_S1x2048x2048_S2048x2048)))

/-- Rows normalised, scaled by the weights, then scaled and shifted by the modulation. -/
def MOD (X1 : FVec Ideal S16x2048x2048 .f32) (SC SH : FVec Ideal S16x1x2048 .f32) (G : FVec Ideal S1x2048 .f32) :
    FVec Ideal S16x2048x2048 .f32 :=
  addf (mulf (mulf (mulf X1 (broadcastInDim Cert.Reference3Ideal.S16x2048x2048 ![0, 1, 2] Cert.Reference3Ideal.Gen.bcast_S16x2048x1_S16x2048x2048_0_1_2 (Host.rsqrt (addf (Host.divf (broadcastInDim Cert.Reference3Ideal.S16x2048x1 ![0, 1] Cert.Reference3Ideal.Gen.bcast_S16x2048_S16x2048x1_0_1 (Host.reduceAdd (mulf X1 X1) (constant Cert.Reference3Ideal.S_ .f32 0x00000000#32) Cert.Reference3Ideal.Gen.reducesTo_S16x2048x2048_S16x2048_d2 Cert.Reference3Ideal.Gen.h_S_)) (broadcastInDim Cert.Reference3Ideal.S16x2048x1 ![] Cert.Reference3Ideal.Gen.bcast_S_S16x2048x1 (constant Cert.Reference3Ideal.S_ .f32 0x45000000#32))) (broadcastInDim Cert.Reference3Ideal.S16x2048x1 ![] Cert.Reference3Ideal.Gen.bcast_S_S16x2048x1 (constant Cert.Reference3Ideal.S_ .f32 0x358637BD#32)))))) (broadcastInDim Cert.Reference3Ideal.S16x2048x2048 ![0, 1, 2] Cert.Reference3Ideal.Gen.bcast_S1x1x2048_S16x2048x2048_0_1_2 (broadcastInDim Cert.Reference3Ideal.S1x1x2048 ![2] Cert.Reference3Ideal.Gen.bcast_S2048_S1x1x2048_2 (shapeCast _ G Cert.Reference3Ideal.Gen.shapeCasts_S1x2048_S2048)))) (broadcastInDim Cert.Reference3Ideal.S16x2048x2048 ![0, 1, 2] Cert.Reference3Ideal.Gen.bcast_S16x1x2048_S16x2048x2048_0_1_2 (addf (broadcastInDim Cert.Reference3Ideal.S16x1x2048 ![] Cert.Reference3Ideal.Gen.bcast_S_S16x1x2048 (constant Cert.Reference3Ideal.S_ .f32 0x3F800000#32)) SC))) (broadcastInDim Cert.Reference3Ideal.S16x2048x2048 ![0, 1, 2] Cert.Reference3Ideal.Gen.bcast_S16x1x2048_S16x2048x2048_0_1_2 SH)

theorem idx : ∀ t : Fin cfg0.N, win0_0.index t = ![t.val / 8, t.val % 8, 0] ∧ win0_1.index t = ![t.val / 8, t.val % 8, 0]
    ∧ win0_2.index t = ![t.val / 8, 0, 0] ∧ win0_3.index t = ![0, 0] ∧ win0_4.index t = ![t.val / 8, 0, 0]
    ∧ win0_5.index t = ![t.val / 8, 0, 0] ∧ win0_6.index t = ![0, 0]
    ∧ win0_9.index t = ![t.val / 8, t.val % 8, 0] ∧ win0_10.index t = ![t.val / 8, t.val % 8, 0] :=
  (by decide +kernel : ∀ t : Fin grid0.N, _)

/-- One entry of the body's residual tile is the reference's. -/
theorem row1 (c : Dev nD) (t : Fin cfg0.N) (r : Fin 256) (k : Fin 2048) (b : Fin 16) (s : Fin 2048)
    (hb : b.val = t.val / 8) (hs : s.val = t.val % 8 * 256 + r.val) :
    k0_pay2 (iblk m c 0 t) (iblk m c 3 t) (iblk m c 1 t) (iblk m c 2 t) (ix2 r k)
      = X1 (m ((c : Thread nD τ).loc main_arg0)) (m ((c : Thread nD τ).loc main_arg1)) (m ((c : Thread nD τ).loc main_arg2))
        (m ((c : Thread nD τ).loc main_arg3)) (ix3 b s k) := by
  pointwise [k0_pay2, X1]
  blk_point [iblk, V, idx t]

/-- One entry of the body's modulated tile is the reference's. -/
theorem row2 (c : Dev nD) (t : Fin cfg0.N) (r : Fin 256) (k : Fin 2048) (b : Fin 16) (s : Fin 2048)
    (hb : b.val = t.val / 8) (hs : s.val = t.val % 8 * 256 + r.val) :
    k0_pay8 (k0_pay4 (iblk m c 6 t)) (k0_pay5 (iblk m c 4 t)) (k0_pay6 (iblk m c 5 t))
        (k0_pay7 (iblk m c 0 t) (iblk m c 3 t) (iblk m c 1 t) (iblk m c 2 t)) (ix2 r k)
      = MOD (X1 (m ((c : Thread nD τ).loc main_arg0)) (m ((c : Thread nD τ).loc main_arg1)) (m ((c : Thread nD τ).loc main_arg2))
        (m ((c : Thread nD τ).loc main_arg3)))
          (m ((c : Thread nD τ).loc main_arg4)) (m ((c : Thread nD τ).loc main_arg5)) (m ((c : Thread nD τ).loc main_arg6)) (ix3 b s k) := by
  pointwise [k0_pay8, k0_pay7, k0_pay6, k0_pay5, k0_pay4, MOD]
  simp only [row1 m c t r _ b s hb hs, mul_assoc]
  blk_point [iblk, V, idx t]

theorem point9 (c : Dev nD) (t : Fin cfg0.N) (y : S1x256x2048.Idx) :
    out0_9 (iblk m c 0 t) (iblk m c 1 t) (iblk m c 2 t) (iblk m c 3 t) (iblk m c 4 t) (iblk m c 5 t) (iblk m c 6 t) (iblk m c 7 t) (iblk m c 8 t) y
      = k0_pay2 (iblk m c 0 t) (iblk m c 3 t) (iblk m c 1 t) (iblk m c 2 t) (ix2 (y 1) (y 2)) := by
  unfold out0_9
  canon_tiles x h
  all_goals (pointwise [k0_pay3, k0_pay2])
  all_goals (blk_point [])

theorem point10 (c : Dev nD) (t : Fin cfg0.N) (y : S1x256x2048.Idx) :
    out0_10 (iblk m c 0 t) (iblk m c 1 t) (iblk m c 2 t) (iblk m c 3 t) (iblk m c 4 t) (iblk m c 5 t) (iblk m c 6 t) (iblk m c 7 t) (iblk m c 8 t) y
      = k0_pay8 (k0_pay4 (iblk m c 6 t)) (k0_pay5 (iblk m c 4 t)) (k0_pay6 (iblk m c 5 t))
        (k0_pay7 (iblk m c 0 t) (iblk m c 3 t) (iblk m c 1 t) (iblk m c 2 t)) (ix2 (y 1) (y 2)) := by
  unfold_out out0_10
  canon_tiles x h
  all_goals (pointwise [k0_pay9, k0_pay8, k0_pay7, k0_pay6, k0_pay5, k0_pay4, k0_pay2])
  all_goals (blk_point [])

/-- The first result array after the run. -/
theorem final9 (c : Dev nD) : (dats m 0 c).arrAt 9 cfg0.N = X1 (m ((c : Thread nD τ).loc main_arg0)) (m ((c : Thread nD τ).loc main_arg1)) (m ((c : Thread nD τ).loc main_arg2))
        (m ((c : Thread nD τ).loc main_arg3)) := by
  refine (dats m 0 c).arrAt_eq_of_covers 9 _ (by decide +kernel) fun t hf y => ?_
  have ht : t.val < 128 := t.isLt
  blk_simp
  rw [after0_9, point9]
  obtain ⟨-, -, -, -, -, -, -, e9, -⟩ := idx t
  have y1 : (y 1 : ℕ) < 256 := (y 1).isLt
  refine (row1 m c t (y 1) (y 2) ⟨t.val / 8, by omega⟩ ⟨t.val % 8 * 256 + (y 1 : ℕ), by omega⟩ rfl rfl).trans (congrArg _ ?_)
  blk_ext [e9]

/-- The second result array after the run. -/
theorem final10 (c : Dev nD) : (dats m 0 c).arrAt 10 cfg0.N = MOD (X1 (m ((c : Thread nD τ).loc main_arg0)) (m ((c : Thread nD τ).loc main_arg1)) (m ((c : Thread nD τ).loc main_arg2))
        (m ((c : Thread nD τ).loc main_arg3)))
    (m ((c : Thread nD τ).loc main_arg4)) (m ((c : Thread nD τ).loc main_arg5)) (m ((c : Thread nD τ).loc main_arg6)) := by
  refine (dats m 0 c).arrAt_eq_of_covers 10 _ (by decide +kernel) fun t hf y => ?_
  have ht : t.val < 128 := t.isLt
  blk_simp
  rw [after0_10, point10]
  obtain ⟨-, -, -, -, -, -, -, -, e10⟩ := idx t
  have y1 : (y 1 : ℕ) < 256 := (y 1).isLt
  refine (row2 m c t (y 1) (y 2) ⟨t.val / 8, by omega⟩ ⟨t.val % 8 * 256 + (y 1 : ℕ), by omega⟩ rfl rfl).trans (congrArg _ ?_)
  blk_ext [e10]

end Cert.Kernel3Ideal.OutProj

end
-- ==== Proof.Final.lean ====
/- The final combination: its result array is the reference's normalised sum of the residual and the weighted expert outputs. -/
module

public import proofs.«01_k».proof.Proof.Gen.Kernel4Ideal.Value
public import proofs.«01_k».proof.Proof.Gen.Reference4Ideal.Run
public import Idealize.ShloMosaic.Lib.Pipeline.ValueKit

@[expose] public section

set_option maxRecDepth 16384

noncomputable section

namespace Cert.Kernel4Ideal.Final

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The reference's result. -/
def REF (X : FVec Ideal S16x2048x2048 .f32) (Y2 : FVec Ideal S65536x2048 .f32) (RT : FVec Ideal S32768x128 .f32)
    (G2 : FVec Ideal S16x1x2048 .f32) (GF : FVec Ideal S2048 .f32) : FVec Ideal S32768x2048 .f32 :=
  shapeCast _ (mulf (mulf (addf X (mulf (broadcastInDim Cert.Reference4Ideal.S16x2048x2048 ![0, 1, 2] Cert.Reference4Ideal.Gen.bcast_S16x1x2048_S16x2048x2048_0_1_2 G2) (shapeCast _ (addf (mulf (broadcastInDim Cert.Reference4Ideal.S32768x2048 ![0, 1] Cert.Reference4Ideal.Gen.bcast_S32768x1_S32768x2048_0_1 (extractStridedSlice Cert.Reference4Ideal.S32768x1 ![0, 2] RT Cert.Reference4Ideal.Gen.slices_S32768x128_S32768x1_0_2)) (extractStridedSlice Cert.Reference4Ideal.S32768x2048 ![0, 0] Y2 Cert.Reference4Ideal.Gen.slices_S65536x2048_S32768x2048_0_0)) (mulf (broadcastInDim Cert.Reference4Ideal.S32768x2048 ![0, 1] Cert.Reference4Ideal.Gen.bcast_S32768x1_S32768x2048_0_1 (extractStridedSlice Cert.Reference4Ideal.S32768x1 ![0, 3] RT Cert.Reference4Ideal.Gen.slices_S32768x128_S32768x1_0_3)) (extractStridedSlice Cert.Reference4Ideal.S32768x2048 ![32768, 0] Y2 Cert.Reference4Ideal.Gen.slices_S65536x2048_S32768x2048_32768_0))) Cert.Reference4Ideal.Gen.shapeCasts_S32768x2048_S16x2048x2048))) (broadcastInDim Cert.Reference4Ideal.S16x2048x2048 ![0, 1, 2] Cert.Reference4Ideal.Gen.bcast_S16x2048x1_S16x2048x2048_0_1_2 (Host.rsqrt (addf (Host.divf (broadcastInDim Cert.Reference4Ideal.S16x2048x1 ![0, 1] Cert.Reference4Ideal.Gen.bcast_S16x2048_S16x2048x1_0_1 (Host.reduceAdd (mulf (addf X (mulf (broadcastInDim Cert.Reference4Ideal.S16x2048x2048 ![0, 1, 2] Cert.Reference4Ideal.Gen.bcast_S16x1x2048_S16x2048x2048_0_1_2 G2) (shapeCast _ (addf (mulf (broadcastInDim Cert.Reference4Ideal.S32768x2048 ![0, 1] Cert.Reference4Ideal.Gen.bcast_S32768x1_S32768x2048_0_1 (extractStridedSlice Cert.Reference4Ideal.S32768x1 ![0, 2] RT Cert.Reference4Ideal.Gen.slices_S32768x128_S32768x1_0_2)) (extractStridedSlice Cert.Reference4Ideal.S32768x2048 ![0, 0] Y2 Cert.Reference4Ideal.Gen.slices_S65536x2048_S32768x2048_0_0)) (mulf (broadcastInDim Cert.Reference4Ideal.S32768x2048 ![0, 1] Cert.Reference4Ideal.Gen.bcast_S32768x1_S32768x2048_0_1 (extractStridedSlice Cert.Reference4Ideal.S32768x1 ![0, 3] RT Cert.Reference4Ideal.Gen.slices_S32768x128_S32768x1_0_3)) (extractStridedSlice Cert.Reference4Ideal.S32768x2048 ![32768, 0] Y2 Cert.Reference4Ideal.Gen.slices_S65536x2048_S32768x2048_32768_0))) Cert.Reference4Ideal.Gen.shapeCasts_S32768x2048_S16x2048x2048))) (addf X (mulf (broadcastInDim Cert.Reference4Ideal.S16x2048x2048 ![0, 1, 2] Cert.Reference4Ideal.Gen.bcast_S16x1x2048_S16x2048x2048_0_1_2 G2) (shapeCast _ (addf (mulf (broadcastInDim Cert.Reference4Ideal.S32768x2048 ![0, 1] Cert.Reference4Ideal.Gen.bcast_S32768x1_S32768x2048_0_1 (extractStridedSlice Cert.Reference4Ideal.S32768x1 ![0, 2] RT Cert.Reference4Ideal.Gen.slices_S32768x128_S32768x1_0_2)) (extractStridedSlice Cert.Reference4Ideal.S32768x2048 ![0, 0] Y2 Cert.Reference4Ideal.Gen.slices_S65536x2048_S32768x2048_0_0)) (mulf (broadcastInDim Cert.Reference4Ideal.S32768x2048 ![0, 1] Cert.Reference4Ideal.Gen.bcast_S32768x1_S32768x2048_0_1 (extractStridedSlice Cert.Reference4Ideal.S32768x1 ![0, 3] RT Cert.Reference4Ideal.Gen.slices_S32768x128_S32768x1_0_3)) (extractStridedSlice Cert.Reference4Ideal.S32768x2048 ![32768, 0] Y2 Cert.Reference4Ideal.Gen.slices_S65536x2048_S32768x2048_32768_0))) Cert.Reference4Ideal.Gen.shapeCasts_S32768x2048_S16x2048x2048)))) (constant Cert.Reference4Ideal.S_ .f32 0x00000000#32) Cert.Reference4Ideal.Gen.reducesTo_S16x2048x2048_S16x2048_d2 Cert.Reference4Ideal.Gen.h_S_)) (broadcastInDim Cert.Reference4Ideal.S16x2048x1 ![] Cert.Reference4Ideal.Gen.bcast_S_S16x2048x1 (constant Cert.Reference4Ideal.S_ .f32 0x45000000#32))) (broadcastInDim Cert.Reference4Ideal.S16x2048x1 ![] Cert.Reference4Ideal.Gen.bcast_S_S16x2048x1 (constant Cert.Reference4Ideal.S_ .f32 0x358637BD#32)))))) (broadcastInDim Cert.Reference4Ideal.S16x2048x2048 ![0, 1, 2] Cert.Reference4Ideal.Gen.bcast_S1x1x2048_S16x2048x2048_0_1_2 (broadcastInDim Cert.Reference4Ideal.S1x1x2048 ![2] Cert.Reference4Ideal.Gen.bcast_S2048_S1x1x2048_2 GF))) Cert.Reference4Ideal.Gen.shapeCasts_S16x2048x2048_S32768x2048

theorem idx : ∀ t : Fin cfg0.N, win0_0.index t = ![t.val, 0] ∧ win0_1.index t = ![t.val, 0]
    ∧ win0_2.index t = ![t.val + 64, 0] ∧ win0_3.index t = ![t.val, 0] ∧ win0_4.index t = ![t.val / 4, 0, 0]
    ∧ win0_5.index t = ![0, 0] ∧ win0_6.index t = ![t.val, 0] :=
  (by decide +kernel : ∀ t : Fin grid0.N, _)

/-- One entry of the body's tile is the reference's. -/
theorem core (c : Dev nD) (t : Fin cfg0.N) (r : Fin 512) (k : Fin 2048) (n : Fin 32768) (hn : n.val = t.val * 512 + r.val) :
    k0_pay1 (iblk m c 3 t) (iblk m c 1 t) (iblk m c 2 t) (iblk m c 0 t) (iblk m c 4 t) (iblk m c 5 t) (ix2 r k)
      = REF (m ((c : Thread nD τ).loc main_arg0)) (m ((c : Thread nD τ).loc main_arg1)) (m ((c : Thread nD τ).loc main_arg2)) (m ((c : Thread nD τ).loc main_arg3)) (m ((c : Thread nD τ).loc main_arg4)) (ix2 n k) := by
  pointwise [k0_pay1, REF]
  blk_point [iblk, V, idx t]

theorem point (c : Dev nD) (t : Fin cfg0.N) (y : S512x2048.Idx) :
    out0_6 (iblk m c 0 t) (iblk m c 1 t) (iblk m c 2 t) (iblk m c 3 t) (iblk m c 4 t) (iblk m c 5 t) y
      = k0_pay1 (iblk m c 3 t) (iblk m c 1 t) (iblk m c 2 t) (iblk m c 0 t) (iblk m c 4 t) (iblk m c 5 t) (ix2 (y 0) (y 1)) := by
  unfold out0_6
  canon_tiles x h
  all_goals (pointwise [k0_pay1])
  all_goals (blk_point [])

/-- The result array after the run. -/
theorem final (c : Dev nD) : (dats m 0 c).arrAt 6 cfg0.N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht : t.val < 64 := t.isLt
  blk_simp
  rw [after0_6, point]
  obtain ⟨-, -, -, -, -, -, e6⟩ := idx t
  have y0 : (y 0 : ℕ) < 512 := (y 0).isLt
  refine (core m c t (y 0) (y 1) ⟨t.val * 512 + (y 0 : ℕ), by omega⟩ rfl).trans (congrArg _ ?_)
  blk_ext [e6]

end Cert.Kernel4Ideal.Final

end
-- ==== Proof.Ada.lean ====
/- The modulation: its result array is the reference's product of the activated conditioning with the weights, plus the bias. -/
module

public import proofs.«01_k».proof.Proof.Gen.Kernel5Ideal.Value
public import proofs.«01_k».proof.Proof.Gen.Reference5Ideal.Run
public import Idealize.ShloMosaic.Lib.Pipeline.ValueKit

@[expose] public section

set_option maxRecDepth 16384

noncomputable section

namespace Cert.Kernel5Ideal.Ada

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The reference's result. -/
def REF (C : FVec Ideal S16x2048 .f32) (W : FVec Ideal S1x2048x12288 .f32) (B : FVec Ideal S1x12288 .f32) :
    FVec Ideal S16x12288 .f32 :=
  addf (Host.dotGeneral Cert.Reference5Ideal.dot_S16x2048_S2048x12288_S16x12288_1_0_0_1_n_n none (mulf C (Host.divf (broadcastInDim Cert.Reference5Ideal.S16x2048 ![] Cert.Reference5Ideal.Gen.bcast_S_S16x2048 (constant Cert.Reference5Ideal.S_ .f32 0x3F800000#32)) (addf (broadcastInDim Cert.Reference5Ideal.S16x2048 ![] Cert.Reference5Ideal.Gen.bcast_S_S16x2048 (constant Cert.Reference5Ideal.S_ .f32 0x3F800000#32)) (Host.exp (Host.negf C))))) (shapeCast _ W Cert.Reference5Ideal.Gen.shapeCasts_S1x2048x12288_S2048x12288)) (broadcastInDim Cert.Reference5Ideal.S16x12288 ![0, 1] Cert.Reference5Ideal.Gen.bcast_S1x12288_S16x12288_0_1 (broadcastInDim Cert.Reference5Ideal.S1x12288 ![1] Cert.Reference5Ideal.Gen.bcast_S12288_S1x12288_1 (shapeCast _ B Cert.Reference5Ideal.Gen.shapeCasts_S1x12288_S12288)))

theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- One entry of the body's tile is the reference's. -/
theorem core (c : Dev nD) (t : Fin cfg0.N) (r : Fin 16) (k : Fin 1024) (n : Fin 12288) (hn : n.val = t.val * 1024 + k.val) :
    k0_pay1 (iblk m c 0 t) (iblk m c 1 t) (iblk m c 2 t) (ix2 r k)
      = REF (m ((c : Thread nD τ).loc main_arg0)) (m ((c : Thread nD τ).loc main_arg1)) (m ((c : Thread nD τ).loc main_arg2)) (ix2 r n) := by
  pointwise [k0_pay1, REF]
  simp only [Ideal.logistic]
  blk_point [iblk, V, idx t]

theorem point (c : Dev nD) (t : Fin cfg0.N) (y : S16x1024.Idx) :
    out0_3 (iblk m c 0 t) (iblk m c 1 t) (iblk m c 2 t) y
      = k0_pay1 (iblk m c 0 t) (iblk m c 1 t) (iblk m c 2 t) (ix2 (y 0) (y 1)) := by
  unfold out0_3
  canon_tiles x h
  all_goals (pointwise [k0_pay1])
  all_goals (blk_point [])

/-- The result array after the run. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 12 := t.isLt
  blk_simp
  rw [after0_3, point]
  obtain ⟨-, -, -, e3⟩ := idx t
  have y1 : (y 1 : ℕ) < 1024 := (y 1).isLt
  refine (core m c t (y 0) (y 1) ⟨t.val * 1024 + (y 1 : ℕ), by omega⟩ rfl).trans (congrArg _ ?_)
  blk_ext [e3]

end Cert.Kernel5Ideal.Ada

end
-- ==== Proof.MixHead.lean ====
module

public import proofs.«01_k».proof.Proof.Gen.KernelIdeal.Value
public import Idealize.ShloMosaic.Lib.Pipeline.ValueKit

@[expose] public section

set_option maxRecDepth 16384

noncomputable section

/-! One head of the token mixer's body: the convolution branch and the recurrence branch, as functions of the head's own
    loads. Eight heads run at every grid point, each on its own 128 channels. -/

namespace Cert.KernelIdeal.Mix

open Cert.KernelIdeal Cert.KernelIdeal.Gen Idealize.ShloMosaic Idealize.ShloMosaic.TcCoe Idealize.SL.Sem

variable {F : FTy → Type} [FloatOps F]

/-- The row number of each row of the tile. -/
def rows : IVec S256x128 32 := iota .tc S256x128 32 [0] iota_S256x128_d0_w32

/-- A loaded block as a tile. -/
def tile (v : Vec F S1x256x128 .f32) : FVec F S256x128 .f32 := shapeCast S256x128 v shapeCasts_S1x256x128_S256x128

/-- A loaded row of channels. -/
def chan (v : Vec F S1x128 .f32) : FVec F S1x128 .f32 := shapeCast S1x128 v shapeCasts_S1x128_S1x128

/-- A row of channels over every row of the tile. -/
def over (v : FVec F S1x128 .f32) : FVec F S256x128 .f32 := broadcastTo S256x128 v broadcasts_S1x128_S256x128

/-- A number at every place of the tile. -/
def num (w : BitVec 32) : FVec F S256x128 .f32 := broadcast S256x128 (Scalar.ofBits .f32 w : F .f32)

/-- The tile's rows `d` earlier, the first `d` of them from the eight rows kept of the tile before. -/
def shift (d : BitVec 32) (prev : Vec F S8x128 .f32) (u : FVec F S256x128 .f32) : FVec F S256x128 .f32 :=
  concatenate S256x128 0
    [⟨S8x128, select (cmpi .sge (extractStridedSlice S8x128 ![0, 0] rows slices_S256x128_o0_0_S8x128) (broadcast S8x128 d))
        (extractStridedSlice S8x128 ![0, 0] (dynamicRotate 0 d none u rotates_S256x128_d0) slices_S256x128_o0_0_S8x128)
        (dynamicRotate 0 d none prev rotates_S8x128_d0)⟩,
     ⟨S248x128, extractStridedSlice S248x128 ![8, 0] (dynamicRotate 0 d none u rotates_S256x128_d0) slices_S256x128_o8_0_S248x128⟩]
    concatenates_S8x128_S248x128_S256x128_d0

/-- The last eight rows of the tile. -/
def last8 (u : FVec F S256x128 .f32) : FVec F S8x128 .f32 :=
  shapeCast S8x128 (extractStridedSlice S8x128 ![248, 0] u slices_S256x128_o248_0_S8x128) shapeCasts_S8x128_S8x128

/-- A tile's squares averaged over each group of channels by the two products with `p`, one for the rounded square and one
    for what the rounding left. -/
def meanSq (y : FVec F S256x128 .f32) (p p' : Vec F S128x128 .bf16) : FVec F S256x128 .f32 :=
  addf
    (matmul dot_S256x128_S128x128_S256x128_1_0_0_1_n_n none (truncf .bf16 (mulf y y) bitsLt_bf16_f32)
      (shapeCast S128x128 p shapeCasts_S128x128_S128x128) (constant S256x128 .f32 0x00000000#32))
    (matmul dot_S256x128_S128x128_S256x128_1_0_0_1_n_n none
      (truncf .bf16 (subf (mulf y y) (extf .f32 (truncf .bf16 (mulf y y) bitsLt_bf16_f32 : FVec F S256x128 .bf16) bitsLt_bf16_f32)) bitsLt_bf16_f32)
      (shapeCast S128x128 p' shapeCasts_S128x128_S128x128) (constant S256x128 .f32 0x00000000#32))

/-- The head's normalised branch, as it is stored. -/
def normed (y : FVec F S256x128 .f32) (g : Vec F S1x128 .f32) (p p' : Vec F S128x128 .bf16) : FVec F S1x256x128 .bf16 :=
  shapeCast S1x256x128
    (truncf .bf16 (mulf (mulf y (rsqrt (addf (meanSq y p p') (num 0x358637BD#32)))) (over (chan g))) bitsLt_bf16_f32 : FVec F S256x128 .bf16)
    shapeCasts_S256x128_S1x256x128

/-- The short convolution's input. -/
def prod (c x : Vec F S1x256x128 .f32) : FVec F S256x128 .f32 := mulf (tile c) (tile x)

/-- The convolution branch before its norm. -/
def convA (b : Vec F S1x256x128 .f32) (u : FVec F S256x128 .f32) (prev : Vec F S8x128 .f32) (w2 w1 w0 : Vec F S1x128 .f32) : FVec F S256x128 .f32 :=
  mulf (tile b)
    (addf (addf (mulf (over (chan w2)) u) (mulf (over (chan w1)) (shift 1#32 prev u))) (mulf (over (chan w0)) (shift 2#32 prev u)))

/-- The recurrence branch's convolved input. -/
def convB (x : FVec F S256x128 .f32) (prev : Vec F S8x128 .f32) (w3 w2 w1 w0 bias : Vec F S1x128 .f32) : FVec F S256x128 .f32 :=
  addf
    (addf (addf (addf (mulf (over (chan w3)) x) (mulf (over (chan w2)) (shift 1#32 prev x))) (mulf (over (chan w1)) (shift 2#32 prev x)))
      (mulf (over (chan w0)) (shift 3#32 prev x)))
    (over (chan bias))

/-- The two gates' arguments side by side. -/
def gates (xc : FVec F S256x128 .f32) (w : Vec F S1x128x256 .bf16) : FVec F S256x256 .f32 :=
  matmul dot_S256x128_S128x256_S256x256_1_0_0_1_n_n none (truncf .bf16 xc bitsLt_bf16_f32)
    (shapeCast S128x256 w shapeCasts_S1x128x256_S128x256) (constant S256x256 .f32 0x00000000#32)

/-- The recurrence gate. -/
def gateR (xc : FVec F S256x128 .f32) (w : Vec F S1x128x256 .bf16) (ba : Vec F S1x128 .f32) : FVec F S256x128 .f32 :=
  logistic (addf (extractStridedSlice S256x128 ![0, 0] (gates xc w) slices_S256x256_o0_0_S256x128) (over (chan ba)))

/-- The input gate. -/
def gateI (xc : FVec F S256x128 .f32) (w : Vec F S1x128x256 .bf16) (bx : Vec F S1x128 .f32) : FVec F S256x128 .f32 :=
  logistic (addf (extractStridedSlice S256x128 ![0, 128] (gates xc w) slices_S256x256_o0_128_S256x128) (over (chan bx)))

/-- The softplus of minus the decay parameter. -/
def soft (lam : Vec F S1x128 .f32) : FVec F S1x128 .f32 :=
  addf (maximumf (subf (broadcast S1x128 (Scalar.ofBits .f32 0x00000000#32 : F .f32)) (chan lam)) (broadcast S1x128 (Scalar.ofBits .f32 0x00000000#32 : F .f32)))
    (log1p (exp (subf (broadcast S1x128 (Scalar.ofBits .f32 0x00000000#32 : F .f32))
      (absf (subf (broadcast S1x128 (Scalar.ofBits .f32 0x00000000#32 : F .f32)) (chan lam))))))

/-- The decay's logarithm. -/
def logA (r : FVec F S256x128 .f32) (lam : Vec F S1x128 .f32) : FVec F S256x128 .f32 :=
  mulf (mulf (num 0xC1000000#32) r) (over (soft lam))

/-- The recurrence's input. -/
def scanIn (la i xc : FVec F S256x128 .f32) : FVec F S256x128 .f32 :=
  mulf (mulf (sqrt (mulf (subf (num 0x00000000#32) (tanh la)) (addf (mulf (exp la) (exp la)) (num 0x3F800000#32)))) i) xc

/-- One doubling of the running decay. -/
def stepA (d : BitVec 32) (a : FVec F S256x128 .f32) : FVec F S256x128 .f32 :=
  mulf a (select (cmpi .sge rows (broadcast S256x128 d)) (dynamicRotate 0 d none a rotates_S256x128_d0) (num 0x3F800000#32))

/-- One doubling of the running sum. -/
def stepV (d : BitVec 32) (a v : FVec F S256x128 .f32) : FVec F S256x128 .f32 :=
  addf v (mulf a (select (cmpi .sge rows (broadcast S256x128 d)) (dynamicRotate 0 d none v rotates_S256x128_d0) (num 0x00000000#32)))

/-- The decay after the eight doublings. -/
def scanA (a : FVec F S256x128 .f32) : FVec F S256x128 .f32 :=
  stepA 128#32 (stepA 64#32 (stepA 32#32 (stepA 16#32 (stepA 8#32 (stepA 4#32 (stepA 2#32 (stepA 1#32 a)))))))

/-- The sum after the eight doublings. -/
def scanV (a v : FVec F S256x128 .f32) : FVec F S256x128 .f32 :=
  have a1 := stepA 1#32 a
  have a2 := stepA 2#32 a1
  have a4 := stepA 4#32 a2
  have a8 := stepA 8#32 a4
  have a16 := stepA 16#32 a8
  have a32 := stepA 32#32 a16
  have a64 := stepA 64#32 a32
  stepV 128#32 a64 (stepV 64#32 a32 (stepV 32#32 a16 (stepV 16#32 a8 (stepV 8#32 a4 (stepV 4#32 a2 (stepV 2#32 a1 (stepV 1#32 a v)))))))

/-- The state at every row of the tile, from the state before the tile. -/
def states (a v : FVec F S256x128 .f32) (h : Vec F S1x128 .f32) : FVec F S256x128 .f32 := addf (scanV a v) (mulf (scanA a) (over h))

/-- The recurrence's gate, by the hyperbolic tangent. -/
def gelu (g : FVec F S256x128 .f32) : FVec F S256x128 .f32 :=
  mulf (mulf (num 0x3F000000#32) g)
    (addf (num 0x3F800000#32) (tanh (mulf (num 0x3F4C422A#32) (addf g (mulf (num 0x3D372713#32) (mulf (mulf g g) g))))))

/-- The states of a head. -/
def hs (x : Vec F S1x256x128 .f32) (prev : Vec F S8x128 .f32) (w3 w2 w1 w0 bias : Vec F S1x128 .f32) (w : Vec F S1x128x256 .bf16)
    (ba bx lam : Vec F S1x128 .f32) (h : Vec F S1x128 .f32) : FVec F S256x128 .f32 :=
  have xc := convB (tile x) prev w3 w2 w1 w0 bias
  have la := logA (gateR xc w ba) lam
  states (exp la) (scanIn la (gateI xc w bx) xc) h

/-- The last row of the tile. -/
def last1 (v : FVec F S256x128 .f32) : FVec F S1x128 .f32 :=
  shapeCast S1x128 (extractStridedSlice S1x128 ![255, 0] v slices_S256x128_o255_0_S1x128) shapeCasts_S1x128_S1x128

/-- The convolution branch of a head. -/
def headA (b c x : Vec F S1x256x128 .f32) (prev : Vec F S8x128 .f32) (w2 w1 w0 g : Vec F S1x128 .f32) (p p' : Vec F S128x128 .bf16) :
    FVec F S1x256x128 .bf16 :=
  normed (convA b (prod c x) prev w2 w1 w0) g p p'

/-- The recurrence branch of a head. -/
def headB (gb x : Vec F S1x256x128 .f32) (prev : Vec F S8x128 .f32) (w3 w2 w1 w0 bias : Vec F S1x128 .f32) (w : Vec F S1x128x256 .bf16)
    (ba bx lam : Vec F S1x128 .f32) (h : Vec F S1x128 .f32) (g : Vec F S1x128 .f32) (p p' : Vec F S128x128 .bf16) : FVec F S1x256x128 .bf16 :=
  normed (mulf (hs x prev w3 w2 w1 w0 bias w ba bx lam h) (gelu (tile gb))) g p p'

end Cert.KernelIdeal.Mix

end
-- ==== Proof.MixPieces.lean ====
module

public import proofs.«01_k».proof.Proof.MixHead
public import Idealize.ShloMosaic.Lib.Pipeline.ReadBack

@[expose] public section

set_option maxRecDepth 16384

noncomputable section

/-! The pieces one grid point stores, head by head, in the words of `MixHead`: the same list whether or not the point is the
    first of its sequence, from the rows and the state kept of the point before. -/

namespace Cert.KernelIdeal.Mix

open Cert.KernelIdeal Cert.KernelIdeal.Gen Idealize.ShloMosaic Idealize.ShloMosaic.TcCoe Idealize.SL.Sem

variable {F : FTy → Type} [FloatOps F]

/-- The 128 channels from `o` of the projections' tile. -/
def colsAt (X : Vec F S1x256x5120 .f32) (o : ℕ) : Vec F S1x256x128 .f32 :=
  if h : ∀ a, (![0, 0, o] : Fin 3 → ℕ) a + (![1, 256, 128] : Fin 3 → ℕ) a ≤ S1x256x5120.size a then
    View.ld X (Rect.unit (s := S1x256x5120) ![0, 0, o] ![1, 256, 128] h)
  else fun _ => Scalar.ofBits .f32 0x00000000#32

/-- The 128 channels from `o` of row `j` of a two-axis array. -/
def rowAt {n : ℕ} (X : Vec F ⟨2, ![n, 1024]⟩ .f32) (j o : ℕ) : Vec F S1x128 .f32 :=
  if h : ∀ a, (![j, o] : Fin 2 → ℕ) a + (![1, 128] : Fin 2 → ℕ) a ≤ (⟨2, ![n, 1024]⟩ : Shape).size a then
    View.ld X (Rect.unit (s := ⟨2, ![n, 1024]⟩) ![j, o] ![1, 128] h)
  else fun _ => Scalar.ofBits .f32 0x00000000#32

/-- The 128 channels from `o` of the eight rows kept of the point before. -/
def eightAt (X : Vec F S8x1024 .f32) (o : ℕ) : Vec F S8x128 .f32 :=
  if h : ∀ a, (![0, o] : Fin 2 → ℕ) a + (![8, 128] : Fin 2 → ℕ) a ≤ S8x1024.size a then
    View.ld X (Rect.unit (s := S8x1024) ![0, o] ![8, 128] h)
  else fun _ => Scalar.ofBits .f32 0x00000000#32

/-- One head's pair of gate matrices. -/
def gateAt (X : Vec F S8x128x256 .bf16) (k : ℕ) : Vec F S1x128x256 .bf16 :=
  if h : ∀ a, (![k, 0, 0] : Fin 3 → ℕ) a + (![1, 128, 256] : Fin 3 → ℕ) a ≤ S8x128x256.size a then
    View.ld X (Rect.unit (s := S8x128x256) ![k, 0, 0] ![1, 128, 256] h)
  else fun _ => Scalar.ofBits .bf16 0x0000#16

/-- An averaging matrix, whole. -/
def allAt (X : Vec F S128x128 .bf16) : Vec F S128x128 .bf16 :=
  View.ld X (Rect.unit (s := S128x128) ![0, 0] ![128, 128] (by decide))

section Reads

variable {sig' : RefSig} {κ : Kind} {sp : Space}

theorem readAt_cols (v : View sig' κ sp S1x256x5120 .f32) (o : ℕ) (h) (f : v.ty.Contents (Elt F)) :
    v.readAt (Elt F) (Rect.unit (s := S1x256x5120) ![0, 0, o] ![1, 256, 128] h).toLoadRect f = colsAt (v.read (Elt F) f) o := by
  unfold colsAt; rw [dif_pos h]; rfl

theorem readAt_row1 (v : View sig' κ sp S1x1024 .f32) (j o : ℕ) (h) (f : v.ty.Contents (Elt F)) :
    v.readAt (Elt F) (Rect.unit (s := S1x1024) ![j, o] ![1, 128] h).toLoadRect f = rowAt (n := 1) (v.read (Elt F) f) j o := by
  unfold rowAt; rw [dif_pos h]; rfl

theorem readAt_row3 (v : View sig' κ sp S3x1024 .f32) (j o : ℕ) (h) (f : v.ty.Contents (Elt F)) :
    v.readAt (Elt F) (Rect.unit (s := S3x1024) ![j, o] ![1, 128] h).toLoadRect f = rowAt (n := 3) (v.read (Elt F) f) j o := by
  unfold rowAt; rw [dif_pos h]; rfl

theorem readAt_row4 (v : View sig' κ sp S4x1024 .f32) (j o : ℕ) (h) (f : v.ty.Contents (Elt F)) :
    v.readAt (Elt F) (Rect.unit (s := S4x1024) ![j, o] ![1, 128] h).toLoadRect f = rowAt (n := 4) (v.read (Elt F) f) j o := by
  unfold rowAt; rw [dif_pos h]; rfl

theorem readAt_eight (v : View sig' κ sp S8x1024 .f32) (o : ℕ) (h) (f : v.ty.Contents (Elt F)) :
    v.readAt (Elt F) (Rect.unit (s := S8x1024) ![0, o] ![8, 128] h).toLoadRect f = eightAt (v.read (Elt F) f) o := by
  unfold eightAt; rw [dif_pos h]; rfl

theorem readAt_gate (v : View sig' κ sp S8x128x256 .bf16) (k : ℕ) (h) (f : v.ty.Contents (Elt F)) :
    v.readAt (Elt F) (Rect.unit (s := S8x128x256) ![k, 0, 0] ![1, 128, 256] h).toLoadRect f = gateAt (v.read (Elt F) f) k := by
  unfold gateAt; rw [dif_pos h]; rfl

theorem readAt_all (v : View sig' κ sp S128x128 .bf16) (h) (f : v.ty.Contents (Elt F)) :
    v.readAt (Elt F) (Rect.unit (s := S128x128) ![0, 0] ![128, 128] h).toLoadRect f = allAt (v.read (Elt F) f) := by
  unfold allAt; exact id rfl

theorem readCov_eight_fill [∀ e, Nonempty (Elt F e)] (v : View sig' κ sp S8x1024 .f32) (o : ℕ) (h) (h') (Z : Vec F S8x1024 .f32) (L : List (View.Piece (Elt F) S8x1024 .f32)) :
    v.readCov (⟨Rect.unit (s := S8x1024) ![0, 0] ![8, 1024] h', Z⟩ :: L) (Rect.unit (s := S8x1024) ![0, o] ![8, 128] h).toLoadRect = eightAt Z o := by
  rw [View.readCov_fill v h' Z L _ (by intro a; fin_cases a <;> rfl)]
  unfold eightAt; rw [dif_pos h]

theorem readCov_row_fill [∀ e, Nonempty (Elt F e)] (v : View sig' κ sp S1x1024 .f32) (o : ℕ) (h) (h') (Z : Vec F S1x1024 .f32) (L : List (View.Piece (Elt F) S1x1024 .f32)) :
    v.readCov (⟨Rect.unit (s := S1x1024) ![0, 0] ![1, 1024] h', Z⟩ :: L) (Rect.unit (s := S1x1024) ![0, o] ![1, 128] h).toLoadRect = rowAt (n := 1) Z 0 o := by
  rw [View.readCov_fill v h' Z L _ (by intro a; fin_cases a <;> rfl)]
  unfold rowAt; rw [dif_pos h]

end Reads

theorem shift_eq (d : BitVec 32) (prev : Vec F S8x128 .f32) (u : FVec F S256x128 .f32) :
    concatenate S256x128 0
      [⟨S8x128, select (cmpi .sge (extractStridedSlice S8x128 ![0, 0] (iota .tc S256x128 32 [0] iota_S256x128_d0_w32) slices_S256x128_o0_0_S8x128) (broadcast S8x128 d))
          (extractStridedSlice S8x128 ![0, 0] (dynamicRotate 0 d none u rotates_S256x128_d0) slices_S256x128_o0_0_S8x128)
          (dynamicRotate 0 d none prev rotates_S8x128_d0)⟩,
       ⟨S248x128, extractStridedSlice S248x128 ![8, 0] (dynamicRotate 0 d none u rotates_S256x128_d0) slices_S256x128_o8_0_S248x128⟩]
      concatenates_S8x128_S248x128_S256x128_d0 = shift d prev u := by
  unfold shift rows; exact id rfl

theorem stepA_eq (d : BitVec 32) (a : FVec F S256x128 .f32) :
    mulf a (select (cmpi .sge (iota .tc S256x128 32 [0] iota_S256x128_d0_w32) (broadcast S256x128 d)) (dynamicRotate 0 d none a rotates_S256x128_d0)
      (broadcast S256x128 (Scalar.ofBits .f32 0x3F800000#32 : F .f32))) = stepA d a := by
  unfold stepA rows num; exact id rfl

theorem stepV_eq (d : BitVec 32) (a v : FVec F S256x128 .f32) :
    addf v (mulf a (select (cmpi .sge (iota .tc S256x128 32 [0] iota_S256x128_d0_w32) (broadcast S256x128 d)) (dynamicRotate 0 d none v rotates_S256x128_d0)
      (broadcast S256x128 (Scalar.ofBits .f32 0x00000000#32 : F .f32)))) = stepV d a v := by
  unfold stepV rows num; exact id rfl

/-- The convolution branch of head `k`, stored. -/
def yA (X0 : Vec F S1x256x5120 .f32) (X1 : Vec F S3x1024 .f32) (X2 : Vec F S4x1024 .f32) (X3 : Vec F S1x1024 .f32) (X4 : Vec F S8x128x256 .bf16) (X5 X6 X7 X8 X9 : Vec F S1x1024 .f32) (X10 X11 : Vec F S128x128 .bf16) (k : ℕ) (P : Vec F S8x128 .f32) : FVec F S1x256x128 .bf16 :=
  headA (colsAt X0 (128 * k)) (colsAt X0 (1024 + 128 * k)) (colsAt X0 (2048 + 128 * k)) P
    (rowAt (n := 3) X1 2 (128 * k)) (rowAt (n := 3) X1 1 (128 * k)) (rowAt (n := 3) X1 0 (128 * k))
    (rowAt (n := 1) X8 0 (128 * k)) (allAt X10) (allAt X10)

/-- The states of head `k`. -/
def hsK (X0 : Vec F S1x256x5120 .f32) (X1 : Vec F S3x1024 .f32) (X2 : Vec F S4x1024 .f32) (X3 : Vec F S1x1024 .f32) (X4 : Vec F S8x128x256 .bf16) (X5 X6 X7 X8 X9 : Vec F S1x1024 .f32) (X10 X11 : Vec F S128x128 .bf16) (k : ℕ) (P : Vec F S8x128 .f32) (h : Vec F S1x128 .f32) : FVec F S256x128 .f32 :=
  hs (colsAt X0 (4096 + 128 * k)) P
    (rowAt (n := 4) X2 3 (128 * k)) (rowAt (n := 4) X2 2 (128 * k)) (rowAt (n := 4) X2 1 (128 * k))
    (rowAt (n := 4) X2 0 (128 * k)) (rowAt (n := 1) X3 0 (128 * k)) (gateAt X4 k)
    (rowAt (n := 1) X5 0 (128 * k)) (rowAt (n := 1) X6 0 (128 * k)) (rowAt (n := 1) X7 0 (128 * k)) h

/-- The recurrence branch of head `k`, stored. -/
def yB (X0 : Vec F S1x256x5120 .f32) (X1 : Vec F S3x1024 .f32) (X2 : Vec F S4x1024 .f32) (X3 : Vec F S1x1024 .f32) (X4 : Vec F S8x128x256 .bf16) (X5 X6 X7 X8 X9 : Vec F S1x1024 .f32) (X10 X11 : Vec F S128x128 .bf16) (k : ℕ) (P : Vec F S8x128 .f32) (h : Vec F S1x128 .f32) : FVec F S1x256x128 .bf16 :=
  normed (mulf (hsK X0 X1 X2 X3 X4 X5 X6 X7 X8 X9 X10 X11 k P h) (gelu (tile (colsAt X0 (3072 + 128 * k)))))
    (rowAt (n := 1) X9 0 (128 * k)) (allAt X11) (allAt X11)

/-- The two pieces head `k` stores of the result. -/
def pieceA (X0 : Vec F S1x256x5120 .f32) (X1 : Vec F S3x1024 .f32) (X2 : Vec F S4x1024 .f32) (X3 : Vec F S1x1024 .f32) (X4 : Vec F S8x128x256 .bf16) (X5 X6 X7 X8 X9 : Vec F S1x1024 .f32) (X10 X11 : Vec F S128x128 .bf16) (k : ℕ) (hk : k < 8) (P : Vec F S8x128 .f32) : View.Piece (Elt F) S1x256x2048 .bf16 :=
  ⟨Rect.unit (s := S1x256x2048) ![0, 0, 128 * k] ![1, 256, 128] (by
    intro a; fin_cases a
    · exact (by decide : 0 + 1 ≤ 1)
    · exact (by decide : 0 + 256 ≤ 256)
    · exact (by omega : 128 * k + 128 ≤ 2048)), yA X0 X1 X2 X3 X4 X5 X6 X7 X8 X9 X10 X11 k P⟩

@[inherit_doc pieceA]
def pieceB (X0 : Vec F S1x256x5120 .f32) (X1 : Vec F S3x1024 .f32) (X2 : Vec F S4x1024 .f32) (X3 : Vec F S1x1024 .f32) (X4 : Vec F S8x128x256 .bf16) (X5 X6 X7 X8 X9 : Vec F S1x1024 .f32) (X10 X11 : Vec F S128x128 .bf16) (k : ℕ) (hk : k < 8) (P : Vec F S8x128 .f32) (h : Vec F S1x128 .f32) : View.Piece (Elt F) S1x256x2048 .bf16 :=
  ⟨Rect.unit (s := S1x256x2048) ![0, 0, 1024 + 128 * k] ![1, 256, 128] (by
    intro a; fin_cases a
    · exact (by decide : 0 + 1 ≤ 1)
    · exact (by decide : 0 + 256 ≤ 256)
    · exact (by omega : 1024 + 128 * k + 128 ≤ 2048)), yB X0 X1 X2 X3 X4 X5 X6 X7 X8 X9 X10 X11 k P h⟩

/-- The eight rows head `k` keeps. -/
def keep8 (k : ℕ) (hk : k < 8) (v : FVec F S8x128 .f32) : View.Piece (Elt F) S8x1024 .f32 :=
  ⟨Rect.unit (s := S8x1024) ![0, 128 * k] ![8, 128] (by
    intro a; fin_cases a
    · exact (by decide : 0 + 8 ≤ 8)
    · exact (by omega : 128 * k + 128 ≤ 1024)), v⟩

/-- The state head `k` keeps. -/
def keep1 (k : ℕ) (hk : k < 8) (v : FVec F S1x128 .f32) : View.Piece (Elt F) S1x1024 .f32 :=
  ⟨Rect.unit (s := S1x1024) ![0, 128 * k] ![1, 128] (by
    intro a; fin_cases a
    · exact (by decide : 0 + 1 ≤ 1)
    · exact (by omega : 128 * k + 128 ≤ 1024)), v⟩

/-- The products' last rows of head `k`. -/
def uK (X0 : Vec F S1x256x5120 .f32) (k : ℕ) : FVec F S8x128 .f32 :=
  last8 (prod (colsAt X0 (1024 + 128 * k)) (colsAt X0 (2048 + 128 * k)))

/-- The recurrence inputs' last rows of head `k`. -/
def xK (X0 : Vec F S1x256x5120 .f32) (k : ℕ) : FVec F S8x128 .f32 :=
  last8 (tile (colsAt X0 (4096 + 128 * k)))

end Cert.KernelIdeal.Mix

end
-- ==== Proof.MixSpec.lean ====
module

public import Idealize.ShloMosaic.Lib.Pipeline.ValueKit
public import Idealize.ShloMosaic.Lib.IdealHost

@[expose] public section

set_option maxRecDepth 16384

noncomputable section

/-! The token mixer of one head over the extended reals: the gated short convolution and the gated linear recurrence, row by
    row, and the laws the tiled evaluation needs of them. -/

namespace Cert.MixSpec

open Idealize.ShloMosaic

/-! ## Rows before -/

/-- The value `d` rows before, nothing before the first. -/
def back (d : ℕ) (f : ℕ → EReal) (s : ℕ) : EReal := if d ≤ s then f (s - d) else 0

/-! ## The doubling scan -/

/-- The product of the `n` decays that end at row `r`, one before the first row. -/
def run (a : ℕ → EReal) : ℕ → ℕ → EReal
  | 0, _ => 1
  | _ + 1, 0 => a 0
  | n + 1, r + 1 => a (r + 1) * run a n r

/-- The contribution to row `r` of the `n` inputs that end there, nothing before the first row. -/
def acc (a v : ℕ → EReal) : ℕ → ℕ → EReal
  | 0, _ => 0
  | _ + 1, 0 => v 0
  | n + 1, r + 1 => v (r + 1) + a (r + 1) * acc a v n r

theorem run_add (a : ℕ → EReal) (n m r : ℕ) : run a (n + m) r = run a n r * (if n ≤ r then run a m (r - n) else 1) := by
  induction n generalizing r with
  | zero => simp [run]
  | succ n ih =>
    rw [Nat.succ_add]
    cases r with
    | zero => simp [run]
    | succ r => simp only [run, ih, Nat.succ_le_succ_iff, Nat.succ_sub_succ, mul_assoc]

theorem run_nonneg {a : ℕ → EReal} (ha : ∀ r, 0 ≤ a r) (n r : ℕ) : 0 ≤ run a n r := by
  induction n generalizing r with
  | zero => simp [run]
  | succ n ih =>
    cases r with
    | zero => exact ha 0
    | succ r => exact mul_nonneg (ha _) (ih _)

theorem acc_add {a v : ℕ → EReal} (ha : ∀ r, 0 ≤ a r) (ht : ∀ r, a r ≠ ⊤) (n m r : ℕ) :
    acc a v (n + m) r = acc a v n r + run a n r * (if n ≤ r then acc a v m (r - n) else 0) := by
  induction n generalizing r with
  | zero => simp [run, acc]
  | succ n ih =>
    rw [Nat.succ_add]
    cases r with
    | zero => simp [run, acc]
    | succ r =>
      simp only [run, acc, ih, Nat.succ_le_succ_iff, Nat.succ_sub_succ, mul_assoc]
      rw [EReal.left_distrib_of_nonneg_of_ne_top (ha _) (ht _), add_assoc]

/-- The recurrence from a state before the first row. -/
def lin (a v : ℕ → EReal) (h : EReal) : ℕ → EReal
  | 0 => v 0 + a 0 * h
  | s + 1 => v (s + 1) + a (s + 1) * lin a v h s

theorem acc_run {a v : ℕ → EReal} (ha : ∀ r, 0 ≤ a r) (ht : ∀ r, a r ≠ ⊤) (h : EReal) (r n : ℕ) (hn : r < n) :
    acc a v n r + run a n r * h = lin a v h r := by
  induction r generalizing n with
  | zero =>
    obtain ⟨n, rfl⟩ : ∃ k, n = k + 1 := ⟨n - 1, by omega⟩
    rfl
  | succ r ih =>
    obtain ⟨n, rfl⟩ : ∃ k, n = k + 1 := ⟨n - 1, by omega⟩
    simp only [run, acc, lin, ← ih n (by omega)]
    rw [EReal.left_distrib_of_nonneg_of_ne_top (ha _) (ht _), add_assoc, mul_assoc]

/-- A tile of the recurrence, from the state the tile before left. -/
theorem lin_tile (a v : ℕ → EReal) (s0 r : ℕ) :
    lin (fun r => a (s0 + r)) (fun r => v (s0 + r)) (back 1 (lin a v 0) s0) r = lin a v 0 (s0 + r) := by
  induction r with
  | zero =>
    cases s0 with
    | zero => rfl
    | succ s => simp [lin, back]
  | succ r ih => rw [← Nat.add_assoc]; simp only [lin, ← ih, ← Nat.add_assoc]

/-! ## Real values -/

/-- A value that is a real number. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩
theorem IsR.add {x y : EReal} : IsR x → IsR y → IsR (x + y) := by
  rintro ⟨a, rfl⟩ ⟨b, rfl⟩; exact ⟨a + b, (EReal.coe_add a b).symm⟩
theorem IsR.mul {x y : EReal} : IsR x → IsR y → IsR (x * y) := by
  rintro ⟨a, rfl⟩ ⟨b, rfl⟩; exact ⟨a * b, (EReal.coe_mul a b).symm⟩
theorem IsR.tanh {x : EReal} : IsR x → IsR (Ideal.tanh x) := by
  rintro ⟨a, rfl⟩; exact ⟨_, rfl⟩
theorem IsR.sub_self {x : EReal} : IsR x → x - x = 0 := by
  rintro ⟨a, rfl⟩; rw [← EReal.coe_sub, _root_.sub_self]; rfl
theorem IsR.back {d : ℕ} {f : ℕ → EReal} (h : ∀ s, IsR (f s)) (s : ℕ) : IsR (back d f s) := by
  unfold MixSpec.back; split
  · exact h _
  · exact IsR.zero
theorem IsR.lin {a v : ℕ → EReal} {h : EReal} (ha : ∀ s, IsR (a s)) (hv : ∀ s, IsR (v s)) (hh : IsR h) (s : ℕ) : IsR (lin a v h s) := by
  induction s with
  | zero => exact (hv _).add ((ha _).mul hh)
  | succ s ih => exact (hv _).add ((ha _).mul ih)
theorem IsR.of_mem {x : EReal} (h0 : 0 ≤ x) (h1 : x ≤ 1) : IsR x := by
  refine ⟨x.toReal, (EReal.coe_toReal ?_ ?_).symm⟩
  · rintro rfl; exact absurd h1 (by decide)
  · rintro rfl; exact absurd h0 (by decide)

/-- A sum of real numbers times a constant. -/
theorem sum_mul_const {ι : Type*} (s : Finset ι) (f : ι → EReal) (hf : ∀ i, IsR (f i)) (c : ℝ) :
    ∑ i ∈ s, f i * (c : EReal) = (∑ i ∈ s, f i) * (c : EReal) := by
  classical
  choose g hg using hf
  obtain rfl : f = fun i => (g i : EReal) := funext hg
  simp only [← EReal.coe_mul]
  induction s using Finset.induction_on with
  | empty => simp
  | insert i s hi ih =>
    have hs : ∑ i ∈ s, (g i : EReal) = ((∑ i ∈ s, g i : ℝ) : EReal) := by
      clear ih hi
      induction s using Finset.induction_on with
      | empty => simp
      | insert j s hj ih => rw [Finset.sum_insert hj, Finset.sum_insert hj, ih, ← EReal.coe_add]
    rw [Finset.sum_insert hi, Finset.sum_insert hi, ih, hs, ← EReal.coe_mul, ← EReal.coe_add, ← EReal.coe_add, ← EReal.coe_mul, add_mul]

/-! ## The scalar functions -/

theorem logistic_nonneg (x : EReal) : 0 ≤ Ideal.logistic x := by
  induction x with
  | bot => simp
  | top => simp
  | coe r => rw [Ideal.logistic_coe]; exact_mod_cast (by positivity)

theorem logistic_le_one (x : EReal) : Ideal.logistic x ≤ 1 := by
  induction x with
  | bot => simp
  | top => simp
  | coe r =>
    rw [Ideal.logistic_coe]
    have : (1 + Real.exp (-r))⁻¹ ≤ 1 := inv_le_one_of_one_le₀ (by have := Real.exp_pos (-r); linarith)
    exact_mod_cast this

theorem exp_nonneg (x : EReal) : 0 ≤ Ideal.exp x := by
  induction x with
  | bot => simp
  | top => simp
  | coe r => rw [Ideal.exp_coe]; exact_mod_cast (Real.exp_pos r).le

theorem exp_le_one {x : EReal} (h : x ≤ 0) : Ideal.exp x ≤ 1 := by
  induction x with
  | bot => simp
  | top => exact absurd h (by decide)
  | coe r => rw [Ideal.exp_coe]; exact_mod_cast Real.exp_le_one_iff.2 (by exact_mod_cast h)

theorem log1p_exp_nonneg (x : EReal) : 0 ≤ Ideal.log1p (Ideal.exp x) := by
  induction x with
  | bot => simp only [Ideal.log1p, Ideal.exp_bot, add_zero]; rw [← EReal.coe_one, Ideal.log_coe, if_neg (by norm_num)]; simp
  | top => rw [Ideal.log1p, Ideal.exp_top, ← EReal.coe_one, EReal.coe_add_top, Ideal.log_top]; exact le_top
  | coe r =>
    have h := Real.exp_pos r
    rw [Ideal.log1p, Ideal.exp_coe, ← EReal.coe_one, ← EReal.coe_add, Ideal.log_coe, if_neg (by linarith)]
    exact_mod_cast Real.log_nonneg (by linarith)

/-- The softplus of minus a value. -/
def soft (x : EReal) : EReal :=
  max (0 - x) 0 + Ideal.log1p (Ideal.exp (0 - FloatOps.absf (F := Ideal) (φ := .f32) (0 - x)))

theorem soft_nonneg (x : EReal) : 0 ≤ soft x := add_nonneg (le_max_right _ _) (log1p_exp_nonneg _)

/-- The decay's slope. -/
def c8 : EReal := Ideal.ofBits .f32 3238002688#32

theorem c8_nonpos : c8 ≤ 0 := by
  have : c8 = ((-8 : ℝ) : EReal) := by
    simp [c8, Ideal.ofBits, Ideal.ieee, -EReal.coe_mul, -EReal.coe_neg]; norm_num
  rw [this]; exact_mod_cast (by norm_num : (-8 : ℝ) ≤ 0)

theorem mul_nonpos' {x y : EReal} (hx : x ≤ 0) (hy : 0 ≤ y) : x * y ≤ 0 := by
  rw [mul_comm]; exact EReal.mul_nonpos_iff.2 (Or.inl ⟨hy, hx⟩)

/-- The input's weight at the decay's logarithm, by the hyperbolic tangent. -/
def weight (l : EReal) : EReal := Ideal.sqrt ((0 - Ideal.tanh l) * (Ideal.exp l * Ideal.exp l + 1))

theorem weight_eq (l : EReal) : (0 - Ideal.tanh l) * (Ideal.exp l * Ideal.exp l + 1) = -(Ideal.expm1 (((2 : ℝ) : EReal) * l)) := by
  induction l with
  | bot =>
    rw [EReal.coe_mul_bot_of_pos (by norm_num)]
    simp [Ideal.expm1]
  | top =>
    rw [EReal.coe_mul_top_of_pos (by norm_num)]
    simp only [Ideal.expm1, Ideal.exp_top, Ideal.tanh_top, EReal.top_mul_top, ← EReal.coe_one, EReal.top_add_coe, EReal.top_sub_coe, EReal.neg_top]
    rw [zero_sub, ← EReal.coe_neg, EReal.coe_mul_top_of_neg (by norm_num)]
  | coe r =>
    rw [← EReal.coe_mul, Ideal.expm1, Ideal.exp_coe, Ideal.exp_coe, Ideal.tanh_coe]
    have h : -Real.tanh r * (Real.exp r * Real.exp r + 1) = -(Real.exp (2 * r) - 1) := by
      rw [Real.tanh_eq_sinh_div_cosh, Real.sinh_eq, Real.cosh_eq, two_mul, Real.exp_add, Real.exp_neg]
      have h := Real.exp_pos r
      field_simp
    rw [zero_sub]
    exact_mod_cast congrArg (fun x : ℝ => (x : EReal)) h

theorem IsR.weight {l : EReal} (h : l ≤ 0) : IsR (weight l) := by
  unfold MixSpec.weight
  rw [weight_eq]
  induction l with
  | bot =>
    rw [EReal.coe_mul_bot_of_pos (by norm_num)]
    refine ⟨1, ?_⟩
    simp only [Ideal.expm1, Ideal.exp_bot, zero_sub, neg_neg]
    rw [← EReal.coe_one, Ideal.sqrt_coe]; simp
  | top => exact absurd h (by decide)
  | coe r =>
    have hr : r ≤ 0 := by exact_mod_cast h
    rw [← EReal.coe_mul, Ideal.expm1, Ideal.exp_coe, ← EReal.coe_one, ← EReal.coe_sub, ← EReal.coe_neg, Ideal.sqrt_coe,
      if_neg (by have := Real.exp_le_one_iff.2 (by linarith : 2 * r ≤ 0); linarith)]
    exact ⟨_, rfl⟩

/-- The hyperbolic-tangent gate. -/
def gelu (g : EReal) : EReal :=
  Ideal.ofBits .f32 1056964608#32 * g *
    (1 + Ideal.tanh (Ideal.ofBits .f32 1061962282#32 * (g + Ideal.ofBits .f32 1027024659#32 * (g * g * g))))

theorem half_eq : Ideal.ofBits .f32 1056964608#32 = ((1 / 2 : ℝ) : EReal) := by
  simp [Ideal.ofBits, Ideal.ieee, -EReal.coe_mul]; norm_num

theorem IsR.half : IsR (Ideal.ofBits .f32 1056964608#32) := ⟨_, half_eq⟩

theorem IsR.c1 : IsR (Ideal.ofBits .f32 1061962282#32) := by
  simp [Ideal.ofBits, Ideal.ieee, -EReal.coe_mul]
  exact ⟨_, rfl⟩

theorem IsR.c2 : IsR (Ideal.ofBits .f32 1027024659#32) := by
  simp [Ideal.ofBits, Ideal.ieee, -EReal.coe_mul]
  exact ⟨_, rfl⟩

theorem IsR.gelu {g : EReal} (h : IsR g) : IsR (gelu g) :=
  (IsR.half.mul h).mul (IsR.one.add (IsR.tanh (IsR.c1.mul (h.add (IsR.c2.mul ((h.mul h).mul h))))))

/-! ## A head -/

/-- What one head of 128 channels is given: the five projections row by row, and its parameters. -/
structure Head where
  b : ℕ → Fin 128 → EReal
  c : ℕ → Fin 128 → EReal
  x : ℕ → Fin 128 → EReal
  g : ℕ → Fin 128 → EReal
  z : ℕ → Fin 128 → EReal
  w3 : Fin 3 → Fin 128 → EReal
  w4 : Fin 4 → Fin 128 → EReal
  b4 : Fin 128 → EReal
  wa : Fin 128 → Fin 128 → EReal
  wx : Fin 128 → Fin 128 → EReal
  ba : Fin 128 → EReal
  bx : Fin 128 → EReal
  lam : Fin 128 → EReal
  ga : Fin 128 → EReal
  gb : Fin 128 → EReal

namespace Head

variable (H : Head)

/-- The short convolution's input. -/
def u (s : ℕ) (l : Fin 128) : EReal := H.c s l * H.x s l

/-- The gated short convolution. -/
def ya (s : ℕ) (l : Fin 128) : EReal :=
  H.b s l * (H.w3 2 l * H.u s l + H.w3 1 l * back 1 (fun t => H.u t l) s + H.w3 0 l * back 2 (fun t => H.u t l) s)

/-- The recurrence's convolved input. -/
def xc (s : ℕ) (l : Fin 128) : EReal :=
  H.w4 3 l * H.z s l + H.w4 2 l * back 1 (fun t => H.z t l) s + H.w4 1 l * back 2 (fun t => H.z t l) s +
    H.w4 0 l * back 3 (fun t => H.z t l) s + H.b4 l

/-- The recurrence gate. -/
def r (s : ℕ) (l : Fin 128) : EReal := Ideal.logistic (∑ k, H.xc s k * H.wa k l + H.ba l)

/-- The input gate. -/
def i (s : ℕ) (l : Fin 128) : EReal := Ideal.logistic (∑ k, H.xc s k * H.wx k l + H.bx l)

/-- The decay's logarithm. -/
def la (s : ℕ) (l : Fin 128) : EReal := c8 * H.r s l * soft (H.lam l)

/-- The decay. -/
def a (s : ℕ) (l : Fin 128) : EReal := Ideal.exp (H.la s l)

/-- The recurrence's input. -/
def v (s : ℕ) (l : Fin 128) : EReal := weight (H.la s l) * H.i s l * H.xc s l

/-- The state. -/
def h (s : ℕ) (l : Fin 128) : EReal := lin (fun t => H.a t l) (fun t => H.v t l) 0 s

/-- The gated state. -/
def yb (s : ℕ) (l : Fin 128) : EReal := H.h s l * MixSpec.gelu (H.g s l)

/-- The convolution branch, normalised over groups of 64 channels. -/
def outA (s : ℕ) (l : Fin 128) : EReal :=
  H.ya s l * Ideal.rsqrt (∑ k : Fin 128, H.ya s k * H.ya s k * (if k.val / 64 = l.val / 64 then ((1 / 64 : ℝ) : EReal) else 0) +
    Ideal.ofBits .f32 897988541#32) * H.ga l

/-- The recurrence branch, normalised over the head's 128 channels. -/
def outB (s : ℕ) (l : Fin 128) : EReal :=
  H.yb s l * Ideal.rsqrt (∑ k : Fin 128, H.yb s k * H.yb s k * ((1 / 128 : ℝ) : EReal) + Ideal.ofBits .f32 897988541#32) * H.gb l

theorem la_nonpos (s l) : H.la s l ≤ 0 := mul_nonpos' (mul_nonpos' c8_nonpos (logistic_nonneg _)) (soft_nonneg _)
theorem a_nonneg (s l) : 0 ≤ H.a s l := exp_nonneg _
theorem a_le_one (s l) : H.a s l ≤ 1 := exp_le_one (H.la_nonpos s l)
theorem a_real (s l) : IsR (H.a s l) := IsR.of_mem (H.a_nonneg s l) (H.a_le_one s l)
theorem a_ne_top (s l) : H.a s l ≠ ⊤ := fun e => absurd (e ▸ H.a_le_one s l) (by decide)

/-- The head's projections and convolution weights are real numbers. -/
structure Real : Prop where
  b : ∀ s l, IsR (H.b s l)
  c : ∀ s l, IsR (H.c s l)
  x : ∀ s l, IsR (H.x s l)
  g : ∀ s l, IsR (H.g s l)
  z : ∀ s l, IsR (H.z s l)
  w3 : ∀ j l, IsR (H.w3 j l)
  w4 : ∀ j l, IsR (H.w4 j l)
  b4 : ∀ l, IsR (H.b4 l)

variable {H}

theorem Real.ya (R : H.Real) (s l) : IsR (H.ya s l) := by
  have hu : ∀ s l, IsR (H.u s l) := fun s l => (R.c s l).mul (R.x s l)
  exact (R.b s l).mul ((((R.w3 _ _).mul (hu _ _)).add ((R.w3 _ _).mul (IsR.back (fun t => hu t l) _))).add
    ((R.w3 _ _).mul (IsR.back (fun t => hu t l) _)))

theorem Real.xc (R : H.Real) (s l) : IsR (H.xc s l) :=
  (((((R.w4 _ _).mul (R.z _ _)).add ((R.w4 _ _).mul (IsR.back (fun t => R.z t l) _))).add
    ((R.w4 _ _).mul (IsR.back (fun t => R.z t l) _))).add ((R.w4 _ _).mul (IsR.back (fun t => R.z t l) _))).add (R.b4 l)

theorem Real.v (R : H.Real) (s l) : IsR (H.v s l) :=
  ((IsR.weight (H.la_nonpos s l)).mul (IsR.of_mem (logistic_nonneg _) (logistic_le_one _))).mul (R.xc s l)

theorem Real.h (R : H.Real) (s l) : IsR (H.h s l) := IsR.lin (fun t => H.a_real t l) (fun t => R.v t l) IsR.zero s

theorem Real.yb (R : H.Real) (s l) : IsR (H.yb s l) := (R.h s l).mul (R.g s l).gelu

end Head

end Cert.MixSpec

end
-- ==== Proof.MixVal.lean ====
module

public import proofs.«01_k».proof.Proof.MixPieces
public import proofs.«01_k».proof.Proof.MixSpec

@[expose] public section

set_option maxRecDepth 16384

noncomputable section

/-! One head's stored values over the extended reals: on the tile that begins at row `s0`, with the rows and the state of the
    tile before, they are the head's rows `s0, s0 + 1, …`. -/

namespace Cert.KernelIdeal.Mix

open Cert.KernelIdeal Cert.KernelIdeal.Gen Cert.MixSpec Idealize.ShloMosaic Idealize.ShloMosaic.TcCoe Idealize.SL.Sem

/-! ## Rows before -/

theorem sge_eq (d : Fin 256) (r : Fin 256) :
    IntOp.cmpi .sge (BitVec.ofNat 32 r.val) (BitVec.ofNat 32 d.val) = if d.val ≤ r.val then 1#1 else 0#1 := by
  have h1 : (BitVec.ofNat 32 r.val).toInt = r.val := by
    rw [BitVec.toInt_eq_toNat_cond, BitVec.toNat_ofNat]; omega
  have h2 : (BitVec.ofNat 32 d.val).toInt = d.val := by
    rw [BitVec.toInt_eq_toNat_cond, BitVec.toNat_ofNat]; omega
  by_cases h : d.val ≤ r.val
  · rw [if_pos h]; simp [IntOp.cmpi, BitVec.sle, h1, h2, h]
  · rw [if_neg h]; simp [IntOp.cmpi, BitVec.sle, h1, h2, h]

theorem select_sge {α : Type} (d r : ℕ) (hd : d < 256) (hr : r < 256) (x y : α) :
    Scalar.select (IntOp.cmpi .sge (BitVec.ofNat 32 r) (BitVec.ofNat 32 d)) x y = if d ≤ r then x else y := by
  rw [sge_eq ⟨d, hd⟩ ⟨r, hr⟩]
  by_cases h : d ≤ r <;> simp [h, Scalar.select]

/-- The rows kept of the tile before. -/
def Kept (f : ℕ → Fin 128 → EReal) (s0 : ℕ) (prev : Vec Ideal S8x128 .f32) : Prop :=
  ∀ (j : Fin 8) (l : Fin 128), prev (ix2 j l) = if 8 ≤ s0 + j.val then f (s0 + j.val - 8) l else 0

theorem shift_apply {f : ℕ → Fin 128 → EReal} {s0 : ℕ} {prev : Vec Ideal S8x128 .f32} {u : FVec Ideal S256x128 .f32}
    (hs : s0 = 0 ∨ 8 ≤ s0) (hu : ∀ (r : Fin 256) (l : Fin 128), u (ix2 r l) = f (s0 + r.val) l) (hp : Kept f s0 prev)
    (d : ℕ) (hd : 0 < d ∧ d < 4) (r : Fin 256) (l : Fin 128) :
    shift (BitVec.ofNat 32 d) prev u (ix2 r l) = back d (fun t => f t l) (s0 + r.val) := by
  have hd' : (BitVec.ofNat 32 d).toNat = d := by rw [BitVec.toNat_ofNat]; omega
  pointwise [shift, rows]
  show (if h : r.val < 8 then Scalar.select (IntOp.cmpi CmpIPredicate.sge (BitVec.ofNat 32 r.val) (BitVec.ofNat 32 d))
      (u (ix2 ⟨(r.val + 256 - (BitVec.ofNat 32 d).toNat % 256) % 256, Nat.mod_lt _ (by decide)⟩ l))
      (prev (ix2 ⟨(r.val + 8 - (BitVec.ofNat 32 d).toNat % 8) % 8, Nat.mod_lt _ (by decide)⟩ l))
    else u (ix2 ⟨(8 + (r.val - 8) + 256 - (BitVec.ofNat 32 d).toNat % 256) % 256, Nat.mod_lt _ (by decide)⟩ l)) = _
  rw [select_sge d r.val (by omega) r.isLt, hu, hu, hp, hd']
  unfold back
  by_cases h8 : r.val < 8
  · rw [dif_pos h8]
    by_cases h : d ≤ r.val
    · rw [if_pos h, if_pos (by omega)]; congr 1; show s0 + (r.val + 256 - d % 256) % 256 = _; omega
    · rw [if_neg h]
      show (if 8 ≤ s0 + (r.val + 8 - d % 8) % 8 then f (s0 + (r.val + 8 - d % 8) % 8 - 8) l else 0) = _
      rcases hs with rfl | hs
      · rw [if_neg (by omega), if_neg (by omega)]
      · rw [if_pos (by omega), if_pos (by omega)]; congr 1; omega
  · rw [dif_neg h8, if_pos (by omega)]
    congr 1; show s0 + (8 + (r.val - 8) + 256 - d % 256) % 256 = _; omega

/-! ## The scan -/

/-- One doubling of the decays, read at a row. -/
theorem stepA_apply {n : ℕ} (hn : n < 256) {a : ℕ → Fin 128 → EReal} {A : FVec Ideal S256x128 .f32}
    (hA : ∀ (r : Fin 256) (l : Fin 128), A (ix2 r l) = run (fun t => a t l) n r.val) (r : Fin 256) (l : Fin 128) :
    stepA (BitVec.ofNat 32 n) A (ix2 r l) = run (fun t => a t l) (n + n) r.val := by
  have hd' : (BitVec.ofNat 32 n).toNat = n := by rw [BitVec.toNat_ofNat]; omega
  rw [run_add]
  pointwise [stepA, rows, num]
  show A (ix2 r l) * Scalar.select (IntOp.cmpi CmpIPredicate.sge (BitVec.ofNat 32 r.val) (BitVec.ofNat 32 n))
      (A (ix2 ⟨(r.val + 256 - (BitVec.ofNat 32 n).toNat % 256) % 256, Nat.mod_lt _ (by decide)⟩ l)) 1 = _
  rw [select_sge n r.val (by omega) r.isLt, hA, hA, hd']
  by_cases h : n ≤ r.val
  · rw [if_pos h, if_pos h]; congr 2; show (r.val + 256 - n % 256) % 256 = _; omega
  · rw [if_neg h, if_neg h]

/-- One doubling of the sums, read at a row. -/
theorem stepV_apply {n : ℕ} (hn : n < 256) {a v : ℕ → Fin 128 → EReal} (ha : ∀ r l, 0 ≤ a r l) (ht : ∀ r l, a r l ≠ ⊤) {A V : FVec Ideal S256x128 .f32}
    (hA : ∀ (r : Fin 256) (l : Fin 128), A (ix2 r l) = run (fun t => a t l) n r.val)
    (hV : ∀ (r : Fin 256) (l : Fin 128), V (ix2 r l) = acc (fun t => a t l) (fun t => v t l) n r.val) (r : Fin 256) (l : Fin 128) :
    stepV (BitVec.ofNat 32 n) A V (ix2 r l) = acc (fun t => a t l) (fun t => v t l) (n + n) r.val := by
  have hd' : (BitVec.ofNat 32 n).toNat = n := by rw [BitVec.toNat_ofNat]; omega
  rw [acc_add (fun t => ha t l) (fun t => ht t l)]
  pointwise [stepV, rows, num]
  show V (ix2 r l) + Scalar.select (IntOp.cmpi CmpIPredicate.sge (BitVec.ofNat 32 r.val) (BitVec.ofNat 32 n))
      (A (ix2 r l) * V (ix2 ⟨(r.val + 256 - (BitVec.ofNat 32 n).toNat % 256) % 256, Nat.mod_lt _ (by decide)⟩ l)) 0 = _
  rw [select_sge n r.val (by omega) r.isLt, hA, hV, hV, hd']
  by_cases h : n ≤ r.val
  · rw [if_pos h, if_pos h]; congr 3; show (r.val + 256 - n % 256) % 256 = _; omega
  · rw [if_neg h, if_neg h, mul_zero]

/-- The states of a tile are the recurrence from the state before it. -/
theorem states_apply {a v : ℕ → Fin 128 → EReal} (ha : ∀ r l, 0 ≤ a r l) (ht : ∀ r l, a r l ≠ ⊤) {A V : FVec Ideal S256x128 .f32}
    {h : Vec Ideal S1x128 .f32}
    (hA : ∀ (r : Fin 256) (l : Fin 128), A (ix2 r l) = a r.val l) (hV : ∀ (r : Fin 256) (l : Fin 128), V (ix2 r l) = v r.val l)
    (r : Fin 256) (l : Fin 128) :
    states A V h (ix2 r l) = lin (fun t => a t l) (fun t => v t l) (h (ix2 0 l)) r.val := by
  have run1 : ∀ (r : Fin 256) (l : Fin 128), A (ix2 r l) = run (fun t => a t l) 1 r.val := by
    intro r l; rw [hA]; cases r.val <;> simp [run]
  have acc1 : ∀ (r : Fin 256) (l : Fin 128), V (ix2 r l) = acc (fun t => a t l) (fun t => v t l) 1 r.val := by
    intro r l; rw [hV]; cases r.val <;> simp [acc]
  have r2 := stepA_apply (n := 1) (by decide) run1
  have r4 := stepA_apply (n := 2) (by decide) r2
  have r8 := stepA_apply (n := 4) (by decide) r4
  have r16 := stepA_apply (n := 8) (by decide) r8
  have r32 := stepA_apply (n := 16) (by decide) r16
  have r64 := stepA_apply (n := 32) (by decide) r32
  have r128 := stepA_apply (n := 64) (by decide) r64
  have r256 := stepA_apply (n := 128) (by decide) r128
  have v2 := stepV_apply (n := 1) (by decide) ha ht run1 acc1
  have v4 := stepV_apply (n := 2) (by decide) ha ht r2 v2
  have v8 := stepV_apply (n := 4) (by decide) ha ht r4 v4
  have v16 := stepV_apply (n := 8) (by decide) ha ht r8 v8
  have v32 := stepV_apply (n := 16) (by decide) ha ht r16 v16
  have v64 := stepV_apply (n := 32) (by decide) ha ht r32 v32
  have v128 := stepV_apply (n := 64) (by decide) ha ht r64 v64
  have v256 := stepV_apply (n := 128) (by decide) ha ht r128 v128
  rw [← acc_run (fun t => ha t l) (fun t => ht t l) _ r.val 256 r.isLt]
  unfold states
  pointwise [over]
  exact congrArg₂ (· + ·) (v256 r l) (congrArg (· * h (ix2 0 l)) (r256 r l))

/-! ## The branches -/

/-- A loaded row of parameters. -/
def IsRow (p : Fin 128 → EReal) (w : Vec Ideal S1x128 .f32) : Prop := ∀ l : Fin 128, w (ix2 0 l) = p l

/-- A loaded tile of a projection. -/
def IsTile (f : ℕ → Fin 128 → EReal) (s0 : ℕ) (v : Vec Ideal S1x256x128 .f32) : Prop :=
  ∀ (r : Fin 256) (l : Fin 128), v (ix3 0 r l) = f (s0 + r.val) l

theorem tile_apply {f : ℕ → Fin 128 → EReal} {s0 : ℕ} {v : Vec Ideal S1x256x128 .f32} (h : IsTile f s0 v) (r : Fin 256) (l : Fin 128) :
    tile v (ix2 r l) = f (s0 + r.val) l := by
  have := h r l
  pointwise [tile]
  exact this

variable {H : Head} {s0 : ℕ}

theorem prod_apply {c x : Vec Ideal S1x256x128 .f32} (hc : IsTile H.c s0 c) (hx : IsTile H.x s0 x) (r : Fin 256) (l : Fin 128) :
    prod c x (ix2 r l) = H.u (s0 + r.val) l := by
  have h1 := tile_apply hc r l
  have h2 := tile_apply hx r l
  unfold prod Head.u
  rw [← h1, ← h2]; rfl

theorem over_apply {w : Vec Ideal S1x128 .f32} {p : Fin 128 → EReal} (h : IsRow p w) (r : Fin 256) (l : Fin 128) :
    over (chan w) (ix2 r l) = p l := by
  have := h l
  pointwise [over, chan]
  exact this

theorem convA_apply {b c x : Vec Ideal S1x256x128 .f32} {prev : Vec Ideal S8x128 .f32} {w2 w1 w0 : Vec Ideal S1x128 .f32}
    (hs : s0 = 0 ∨ 8 ≤ s0) (hb : IsTile H.b s0 b) (hc : IsTile H.c s0 c) (hx : IsTile H.x s0 x) (hp : Kept H.u s0 prev)
    (h2 : IsRow (H.w3 2) w2) (h1 : IsRow (H.w3 1) w1) (h0 : IsRow (H.w3 0) w0) (r : Fin 256) (l : Fin 128) :
    convA b (prod c x) prev w2 w1 w0 (ix2 r l) = H.ya (s0 + r.val) l := by
  unfold convA Head.ya
  rw [← tile_apply hb r l, ← prod_apply hc hx r l, ← over_apply h2 r l, ← over_apply h1 r l, ← over_apply h0 r l,
    ← shift_apply hs (prod_apply hc hx) hp 1 (by decide) r l, ← shift_apply hs (prod_apply hc hx) hp 2 (by decide) r l]
  rfl

theorem convB_apply {z : Vec Ideal S1x256x128 .f32} {prev : Vec Ideal S8x128 .f32} {w3 w2 w1 w0 b4 : Vec Ideal S1x128 .f32}
    (hs : s0 = 0 ∨ 8 ≤ s0) (hz : IsTile H.z s0 z) (hp : Kept H.z s0 prev)
    (h3 : IsRow (H.w4 3) w3) (h2 : IsRow (H.w4 2) w2) (h1 : IsRow (H.w4 1) w1) (h0 : IsRow (H.w4 0) w0) (hb : IsRow H.b4 b4) (r : Fin 256) (l : Fin 128) :
    convB (tile z) prev w3 w2 w1 w0 b4 (ix2 r l) = H.xc (s0 + r.val) l := by
  unfold convB Head.xc
  rw [← tile_apply hz r l, ← over_apply h3 r l, ← over_apply h2 r l, ← over_apply h1 r l, ← over_apply h0 r l, ← over_apply hb r l,
    ← shift_apply hs (tile_apply hz) hp 1 (by decide) r l, ← shift_apply hs (tile_apply hz) hp 2 (by decide) r l,
    ← shift_apply hs (tile_apply hz) hp 3 (by decide) r l]
  rfl

/-- The loaded pair of gate matrices. -/
def IsGate (H : Head) (w : Vec Ideal S1x128x256 .bf16) : Prop :=
  (∀ k l : Fin 128, w (ix3 0 k ⟨l.val, by omega⟩) = H.wa k l) ∧ ∀ k l : Fin 128, w (ix3 0 k ⟨128 + l.val, by omega⟩) = H.wx k l

section Gates

variable {xc : FVec Ideal S256x128 .f32} {w : Vec Ideal S1x128x256 .bf16} {ba bx lam : Vec Ideal S1x128 .f32}
  (hxc : ∀ (r : Fin 256) (l : Fin 128), xc (ix2 r l) = H.xc (s0 + r.val) l) (hw : IsGate H w)
include hxc hw

theorem gateR_apply (hb : IsRow H.ba ba) (r : Fin 256) (l : Fin 128) : gateR xc w ba (ix2 r l) = H.r (s0 + r.val) l := by
  have hb := hb l
  have hw := hw.1
  unfold Head.r
  pointwise [gateR, gates, over, chan]
  refine congrArg Ideal.logistic (congrArg₂ (· + ·) (Finset.sum_congr rfl fun k _ => ?_) hb)
  rw [hxc, ← hw]

theorem gateI_apply (hb : IsRow H.bx bx) (r : Fin 256) (l : Fin 128) : gateI xc w bx (ix2 r l) = H.i (s0 + r.val) l := by
  have hb := hb l
  have hw := hw.2
  unfold Head.i
  pointwise [gateI, gates, over, chan]
  refine congrArg Ideal.logistic (congrArg₂ (· + ·) (Finset.sum_congr rfl fun k _ => ?_) hb)
  rw [hxc, ← hw]

theorem logA_apply (hb : IsRow H.ba ba) (hl : IsRow H.lam lam) (r : Fin 256) (l : Fin 128) :
    logA (gateR xc w ba) lam (ix2 r l) = H.la (s0 + r.val) l := by
  have h1 := gateR_apply hxc hw hb r l
  have hl := hl l
  unfold Head.la MixSpec.soft
  rw [← h1, ← hl]
  pointwise [logA, Mix.soft, num, over, chan]
  rfl

end Gates

theorem scanIn_apply {la i xc : FVec Ideal S256x128 .f32} (r : Fin 256) (l : Fin 128) :
    scanIn la i xc (ix2 r l) = weight (la (ix2 r l)) * i (ix2 r l) * xc (ix2 r l) := by
  unfold weight
  pointwise [scanIn, num]

theorem hs_apply {z : Vec Ideal S1x256x128 .f32} {prev : Vec Ideal S8x128 .f32} {w3 w2 w1 w0 b4 : Vec Ideal S1x128 .f32}
    {w : Vec Ideal S1x128x256 .bf16} {ba bx lam h : Vec Ideal S1x128 .f32}
    (hs : s0 = 0 ∨ 8 ≤ s0) (hz : IsTile H.z s0 z) (hp : Kept H.z s0 prev)
    (h3 : IsRow (H.w4 3) w3) (h2 : IsRow (H.w4 2) w2) (h1 : IsRow (H.w4 1) w1) (h0 : IsRow (H.w4 0) w0) (hb : IsRow H.b4 b4)
    (hw : IsGate H w) (hba : IsRow H.ba ba) (hbx : IsRow H.bx bx) (hl : IsRow H.lam lam) (hh : IsRow (fun l => back 1 (fun t => H.h t l) s0) h)
    (r : Fin 256) (l : Fin 128) :
    Mix.hs z prev w3 w2 w1 w0 b4 w ba bx lam h (ix2 r l) = H.h (s0 + r.val) l := by
  have hxc := convB_apply hs hz hp h3 h2 h1 h0 hb
  have hla := logA_apply hxc hw hba hl
  have hi := gateI_apply hxc hw hbx
  unfold Mix.hs Head.h
  rw [← lin_tile]
  refine (states_apply (a := fun r l => H.a (s0 + r) l) (v := fun r l => H.v (s0 + r) l) (fun r l => H.a_nonneg _ l) (fun r l => H.a_ne_top _ l)
    (fun r l => ?_) (fun r l => ?_) r l).trans ?_
  · unfold Head.a; rw [← hla]; rfl
  · unfold Head.v; rw [scanIn_apply, hla, hi, hxc]
  · rw [hh l]; rfl

theorem gelu_apply (g : FVec Ideal S256x128 .f32) (r : Fin 256) (l : Fin 128) : Mix.gelu g (ix2 r l) = MixSpec.gelu (g (ix2 r l)) := by
  unfold MixSpec.gelu
  pointwise [Mix.gelu, num]

/-- The norm of a real branch. -/
theorem normed_apply {y : FVec Ideal S256x128 .f32} {g : Vec Ideal S1x128 .f32} {p : Vec Ideal S128x128 .bf16} {f : ℕ → Fin 128 → EReal} {q : Fin 128 → EReal}
    (hy : ∀ (r : Fin 256) (l : Fin 128), y (ix2 r l) = f (s0 + r.val) l) (hR : ∀ s l, IsR (f s l)) (hg : IsRow q g) (r : Fin 256) (l : Fin 128) :
    normed y g p p (ix3 0 r l) = f (s0 + r.val) l *
      Ideal.rsqrt (∑ k : Fin 128, f (s0 + r.val) k * f (s0 + r.val) k * p (ix2 k l) + Ideal.ofBits .f32 897988541#32) * q l := by
  have hg := hg l
  pointwise [normed, meanSq, num, over, chan]
  refine congrArg₂ (· * ·) (congrArg₂ (· * ·) (hy r l) (congrArg Ideal.rsqrt (congrArg (· + _) ?_))) hg
  refine (congrArg₂ (· + ·) (Finset.sum_congr rfl fun k _ => ?_) (Finset.sum_eq_zero fun k _ => ?_)).trans (add_zero _)
  · rw [hy]
  · rw [hy]
    refine Eq.trans (congrArg (· * _) ((hR _ k).mul (hR _ k)).sub_self) (zero_mul _)

end Cert.KernelIdeal.Mix

end
-- ==== Proof.MixHeads.lean ====
/- The heads of the token mixer, from its arguments. -/
module

public import proofs.«01_k».proof.Proof.MixSpec

@[expose] public section

set_option maxRecDepth 16384

noncomputable section

namespace Cert.MixSpec

open Idealize.ShloMosaic

/-! ## The arguments, read at natural numbers -/

/-- The projections of a sequence at a row and a channel. -/
def proj (P : FVec Ideal ⟨3, ![16, 2048, 5120]⟩ .f32) (b : Fin 16) (s n : ℕ) : EReal :=
  if h : s < 2048 ∧ n < 5120 then P (ix3 b ⟨s, h.1⟩ ⟨n, h.2⟩) else 0

/-- A weight of a convolution. -/
def tap {K : ℕ} (W : FVec Ideal ⟨3, ![1, K, 1024]⟩ .f32) (j : Fin K) (n : ℕ) : EReal :=
  if h : n < 1024 then W (ix3 0 j ⟨n, h⟩) else 0

/-- A parameter of a channel. -/
def param (A : FVec Ideal ⟨2, ![1, 1024]⟩ .f32) (n : ℕ) : EReal := if h : n < 1024 then A (ix2 0 ⟨n, h⟩) else 0

/-- A weight of a head's gate. -/
def gateW (W : FVec Ideal ⟨4, ![1, 8, 128, 128]⟩ .f32) (k : ℕ) (i l : Fin 128) : EReal :=
  if h : k < 8 then W (ix4 0 ⟨k, h⟩ i l) else 0

/-- The heads of a sequence. -/
def headsOf (P : FVec Ideal ⟨3, ![16, 2048, 5120]⟩ .f32) (W3 : FVec Ideal ⟨3, ![1, 3, 1024]⟩ .f32) (W4 : FVec Ideal ⟨3, ![1, 4, 1024]⟩ .f32)
    (B4 : FVec Ideal ⟨2, ![1, 1024]⟩ .f32) (WA : FVec Ideal ⟨4, ![1, 8, 128, 128]⟩ .f32) (BA : FVec Ideal ⟨2, ![1, 1024]⟩ .f32)
    (WX : FVec Ideal ⟨4, ![1, 8, 128, 128]⟩ .f32) (BX LAM GA GB : FVec Ideal ⟨2, ![1, 1024]⟩ .f32) (b : Fin 16) (k : ℕ) : Head where
  b s l := proj P b s (128 * k + l.val)
  c s l := proj P b s (1024 + 128 * k + l.val)
  x s l := proj P b s (2048 + 128 * k + l.val)
  g s l := proj P b s (3072 + 128 * k + l.val)
  z s l := proj P b s (4096 + 128 * k + l.val)
  w3 j l := tap W3 j (128 * k + l.val)
  w4 j l := tap W4 j (128 * k + l.val)
  b4 l := param B4 (128 * k + l.val)
  wa i l := gateW WA k i l
  wx i l := gateW WX k i l
  ba l := param BA (128 * k + l.val)
  bx l := param BX (128 * k + l.val)
  lam l := param LAM (128 * k + l.val)
  ga l := param GA (128 * k + l.val)
  gb l := param GB (128 * k + l.val)

/-- Heads over real projections, convolution weights and bias are real. -/
theorem headsOf_real {P : FVec Ideal ⟨3, ![16, 2048, 5120]⟩ .f32} {W3 : FVec Ideal ⟨3, ![1, 3, 1024]⟩ .f32} {W4 : FVec Ideal ⟨3, ![1, 4, 1024]⟩ .f32}
    {B4 : FVec Ideal ⟨2, ![1, 1024]⟩ .f32} {WA : FVec Ideal ⟨4, ![1, 8, 128, 128]⟩ .f32} {BA : FVec Ideal ⟨2, ![1, 1024]⟩ .f32}
    {WX : FVec Ideal ⟨4, ![1, 8, 128, 128]⟩ .f32} {BX LAM GA GB : FVec Ideal ⟨2, ![1, 1024]⟩ .f32} {b : Fin 16} {k : ℕ}
    (hP : ∀ i, IsR (P i)) (h3 : ∀ i, IsR (W3 i)) (h4 : ∀ i, IsR (W4 i)) (hB : ∀ i, IsR (B4 i)) :
    (headsOf P W3 W4 B4 WA BA WX BX LAM GA GB b k).Real := by
  have p : ∀ b s n, IsR (proj P b s n) := by
    intro b s n; unfold proj; split
    · exact hP _
    · exact IsR.zero
  have t3 : ∀ j n, IsR (tap W3 j n) := by
    intro j n; unfold tap; split
    · exact h3 _
    · exact IsR.zero
  have t4 : ∀ j n, IsR (tap W4 j n) := by
    intro j n; unfold tap; split
    · exact h4 _
    · exact IsR.zero
  have q : ∀ n, IsR (param B4 n) := by
    intro n; unfold param; split
    · exact hB _
    · exact IsR.zero
  exact ⟨fun _ _ => p _ _ _, fun _ _ => p _ _ _, fun _ _ => p _ _ _, fun _ _ => p _ _ _, fun _ _ => p _ _ _,
    fun _ _ => t3 _ _, fun _ _ => t4 _ _, fun _ => q _⟩

theorem proj_at (P : FVec Ideal ⟨3, ![16, 2048, 5120]⟩ .f32) (b : Fin 16) (s : Fin 2048) (n : Fin 5120) : proj P b s.val n.val = P (ix3 b s n) := by
  unfold proj; rw [dif_pos ⟨s.isLt, n.isLt⟩]
theorem tap_at {K : ℕ} (W : FVec Ideal ⟨3, ![1, K, 1024]⟩ .f32) (j : Fin K) (n : Fin 1024) : tap W j n.val = W (ix3 0 j n) := by
  unfold tap; rw [dif_pos n.isLt]
theorem param_at (A : FVec Ideal ⟨2, ![1, 1024]⟩ .f32) (n : Fin 1024) : param A n.val = A (ix2 0 n) := by
  unfold param; rw [dif_pos n.isLt]
theorem gateW_at (W : FVec Ideal ⟨4, ![1, 8, 128, 128]⟩ .f32) (k : Fin 8) (i l : Fin 128) : gateW W k.val i l = W (ix4 0 k i l) := by
  unfold gateW; rw [dif_pos k.isLt]

/-- The result of all heads at a row and a channel. -/
def outAt (Hd : ℕ → Head) (s n : ℕ) : EReal :=
  if n < 1024 then (Hd (n / 128)).outA s ⟨n % 128, Nat.mod_lt _ (by decide)⟩
  else (Hd ((n - 1024) / 128)).outB s ⟨(n - 1024) % 128, Nat.mod_lt _ (by decide)⟩

end Cert.MixSpec

end
-- ==== Proof.MixTile.lean ====
/- A tile of the token mixer: from blocks that hold a range of the rows and scratch that holds what the tile before left, the
   stores are the mixer's rows, and the scratch is left as the next tile takes it. -/
module

public import proofs.«01_k».proof.Proof.MixVal
public import proofs.«01_k».proof.Proof.MixHeads
public import Idealize.ShloMosaic.Lib.Pipeline.ReadBack

@[expose] public section

set_option maxRecDepth 16384

noncomputable section

namespace Cert.KernelIdeal.Mix

open Cert.KernelIdeal Cert.KernelIdeal.Gen Cert.MixSpec Idealize.ShloMosaic Idealize.ShloMosaic.TcCoe Idealize.SL.Sem

/-! ## The loads, read -/

theorem colsAt_apply (X : Vec Ideal S1x256x5120 .f32) (o : ℕ) (ho : o + 128 ≤ 5120) (r : Fin 256) (l : Fin 128) :
    colsAt X o (ix3 0 r l) = X (ix3 0 r ⟨o + l.val, by omega⟩) := by
  unfold colsAt
  rw [dif_pos (by intro a; fin_cases a <;> first | exact Nat.le_refl _ | exact ho)]
  pointwise []

theorem rowAt_apply {n : ℕ} (X : Vec Ideal ⟨2, ![n, 1024]⟩ .f32) (j : Fin n) (o : ℕ) (ho : o + 128 ≤ 1024) (l : Fin 128) :
    rowAt X j.val o (ix2 0 l) = X (ix2 j ⟨o + l.val, by omega⟩) := by
  unfold rowAt
  rw [dif_pos (by intro a; fin_cases a <;> first | exact j.isLt | exact ho)]
  refine congrArg X (funext fun a => ?_)
  fin_cases a <;> exact Fin.ext (by show _ + 1 * _ = _; simp)

theorem eightAt_apply (X : Vec Ideal S8x1024 .f32) (o : ℕ) (ho : o + 128 ≤ 1024) (j : Fin 8) (l : Fin 128) :
    eightAt X o (ix2 j l) = X (ix2 j ⟨o + l.val, by omega⟩) := by
  unfold eightAt
  rw [dif_pos (by intro a; fin_cases a <;> first | exact Nat.le_refl _ | exact ho)]
  pointwise []

theorem gateAt_apply (X : Vec Ideal S8x128x256 .bf16) (k : ℕ) (hk : k < 8) (i : Fin 128) (l : Fin 256) :
    gateAt X k (ix3 0 i l) = X (ix3 ⟨k, hk⟩ i l) := by
  unfold gateAt
  rw [dif_pos (by intro a; fin_cases a <;> first | exact Nat.le_refl _ | exact hk)]
  pointwise []

theorem allAt_apply (X : Vec Ideal S128x128 .bf16) (i l : Fin 128) : allAt X (ix2 i l) = X (ix2 i l) := by
  unfold allAt
  pointwise []

/-! ## A tile's blocks -/

/-- The blocks hold the rows from `s0` of every head's projections, and every head's parameters. -/
structure Block (Hd : ℕ → Head) (s0 : ℕ) (X0 : Vec Ideal S1x256x5120 .f32) (X1 : Vec Ideal S3x1024 .f32) (X2 : Vec Ideal S4x1024 .f32) (X3 : Vec Ideal S1x1024 .f32) (X4 : Vec Ideal S8x128x256 .bf16) (X5 X6 X7 X8 X9 : Vec Ideal S1x1024 .f32) (X10 X11 : Vec Ideal S128x128 .bf16) : Prop where
  b : ∀ (k : ℕ) (hk : k < 8) (r : Fin 256) (l : Fin 128), X0 (ix3 0 r ⟨128 * k + l.val, by omega⟩) = (Hd k).b (s0 + r.val) l
  c : ∀ (k : ℕ) (hk : k < 8) (r : Fin 256) (l : Fin 128), X0 (ix3 0 r ⟨1024 + 128 * k + l.val, by omega⟩) = (Hd k).c (s0 + r.val) l
  x : ∀ (k : ℕ) (hk : k < 8) (r : Fin 256) (l : Fin 128), X0 (ix3 0 r ⟨2048 + 128 * k + l.val, by omega⟩) = (Hd k).x (s0 + r.val) l
  g : ∀ (k : ℕ) (hk : k < 8) (r : Fin 256) (l : Fin 128), X0 (ix3 0 r ⟨3072 + 128 * k + l.val, by omega⟩) = (Hd k).g (s0 + r.val) l
  z : ∀ (k : ℕ) (hk : k < 8) (r : Fin 256) (l : Fin 128), X0 (ix3 0 r ⟨4096 + 128 * k + l.val, by omega⟩) = (Hd k).z (s0 + r.val) l
  w3 : ∀ (k : ℕ) (hk : k < 8) (j : Fin 3) (l : Fin 128), X1 (ix2 j ⟨128 * k + l.val, by omega⟩) = (Hd k).w3 j l
  w4 : ∀ (k : ℕ) (hk : k < 8) (j : Fin 4) (l : Fin 128), X2 (ix2 j ⟨128 * k + l.val, by omega⟩) = (Hd k).w4 j l
  b4 : ∀ (k : ℕ) (hk : k < 8) (l : Fin 128), X3 (ix2 0 ⟨128 * k + l.val, by omega⟩) = (Hd k).b4 l
  ba : ∀ (k : ℕ) (hk : k < 8) (l : Fin 128), X5 (ix2 0 ⟨128 * k + l.val, by omega⟩) = (Hd k).ba l
  bx : ∀ (k : ℕ) (hk : k < 8) (l : Fin 128), X6 (ix2 0 ⟨128 * k + l.val, by omega⟩) = (Hd k).bx l
  lam : ∀ (k : ℕ) (hk : k < 8) (l : Fin 128), X7 (ix2 0 ⟨128 * k + l.val, by omega⟩) = (Hd k).lam l
  ga : ∀ (k : ℕ) (hk : k < 8) (l : Fin 128), X8 (ix2 0 ⟨128 * k + l.val, by omega⟩) = (Hd k).ga l
  gb : ∀ (k : ℕ) (hk : k < 8) (l : Fin 128), X9 (ix2 0 ⟨128 * k + l.val, by omega⟩) = (Hd k).gb l
  wa : ∀ (k : ℕ) (hk : k < 8) (i l : Fin 128), X4 (ix3 ⟨k, hk⟩ i ⟨l.val, by omega⟩) = (Hd k).wa i l
  wx : ∀ (k : ℕ) (hk : k < 8) (i l : Fin 128), X4 (ix3 ⟨k, hk⟩ i ⟨128 + l.val, by omega⟩) = (Hd k).wx i l
  pa : ∀ i l : Fin 128, X10 (ix2 i l) = if i.val / 64 = l.val / 64 then ((1 / 64 : ℝ) : EReal) else 0
  pb : ∀ i l : Fin 128, X11 (ix2 i l) = ((1 / 128 : ℝ) : EReal)
  real : ∀ k, k < 8 → (Hd k).Real

/-- Rows kept of all heads, as the tile from row `s0` takes them. -/
def KeptAll (f : ℕ → ℕ → Fin 128 → EReal) (s0 : ℕ) (S : Vec Ideal S8x1024 .f32) : Prop :=
  ∀ (j : Fin 8) (n : Fin 1024), S (ix2 j n) = if 8 ≤ s0 + j.val then f (n.val / 128) (s0 + j.val - 8) ⟨n.val % 128, Nat.mod_lt _ (by decide)⟩ else 0

/-- The states of all heads before row `s0`. -/
def StateAll (Hd : ℕ → Head) (s0 : ℕ) (S : Vec Ideal S1x1024 .f32) : Prop :=
  ∀ n : Fin 1024, S (ix2 0 n) = back 1 (fun t => (Hd (n.val / 128)).h t ⟨n.val % 128, Nat.mod_lt _ (by decide)⟩) s0

theorem at_head {α : Type} (f : ℕ → Fin 128 → α) (k : ℕ) (l : Fin 128) :
    f ((128 * k + l.val) / 128) ⟨(128 * k + l.val) % 128, Nat.mod_lt _ (by decide)⟩ = f k l := by
  have e1 : (128 * k + l.val) / 128 = k := by omega
  have e2 : (⟨(128 * k + l.val) % 128, Nat.mod_lt _ (by decide)⟩ : Fin 128) = l := Fin.ext (by show (128 * k + l.val) % 128 = _; omega)
  rw [e1, e2]

theorem KeptAll.head {f : ℕ → ℕ → Fin 128 → EReal} {s0 : ℕ} {S : Vec Ideal S8x1024 .f32} (h : KeptAll f s0 S) (k : ℕ) (hk : k < 8) :
    Kept (f k) s0 (eightAt S (128 * k)) := by
  intro j l
  rw [eightAt_apply _ _ (by omega), h]
  exact at_head (fun k l => if 8 ≤ s0 + j.val then f k (s0 + j.val - 8) l else 0) k l

theorem StateAll.head {Hd : ℕ → Head} {s0 : ℕ} {S : Vec Ideal S1x1024 .f32} (h : StateAll Hd s0 S) (k : ℕ) (hk : k < 8) :
    IsRow (fun l => back 1 (fun t => (Hd k).h t l) s0) (rowAt (n := 1) S 0 (128 * k)) := by
  intro l
  refine (rowAt_apply (n := 1) S 0 _ (by omega) l).trans ((h _).trans ?_)
  exact at_head (fun k l => back 1 (fun t => (Hd k).h t l) s0) k l

theorem row_head {X : Vec Ideal S1x1024 .f32} {p : Fin 128 → EReal} (k : ℕ) (hk : k < 8)
    (h : ∀ l : Fin 128, X (ix2 0 ⟨128 * k + l.val, by omega⟩) = p l) : IsRow p (rowAt (n := 1) X 0 (128 * k)) :=
  fun l => (rowAt_apply (n := 1) X 0 _ (by omega) l).trans (h l)

section Tile

variable {Hd : ℕ → Head} {s0 : ℕ} {X0 : Vec Ideal S1x256x5120 .f32} {X1 : Vec Ideal S3x1024 .f32} {X2 : Vec Ideal S4x1024 .f32} {X3 : Vec Ideal S1x1024 .f32} {X4 : Vec Ideal S8x128x256 .bf16} {X5 X6 X7 X8 X9 : Vec Ideal S1x1024 .f32} {X10 X11 : Vec Ideal S128x128 .bf16}
  (B : Block Hd s0 X0 X1 X2 X3 X4 X5 X6 X7 X8 X9 X10 X11) (k : ℕ) (hk : k < 8)
include B hk

theorem Block.row3 (j : Fin 3) : IsRow ((Hd k).w3 j) (rowAt (n := 3) X1 j.val (128 * k)) :=
  fun l => (rowAt_apply (n := 3) X1 j _ (by omega) l).trans (B.w3 k hk j l)

theorem Block.row4 (j : Fin 4) : IsRow ((Hd k).w4 j) (rowAt (n := 4) X2 j.val (128 * k)) :=
  fun l => (rowAt_apply (n := 4) X2 j _ (by omega) l).trans (B.w4 k hk j l)

theorem Block.gate : IsGate (Hd k) (gateAt X4 k) :=
  ⟨fun i l => (gateAt_apply X4 k hk i _).trans (B.wa k hk i l), fun i l => (gateAt_apply X4 k hk i _).trans (B.wx k hk i l)⟩

theorem Block.tb : IsTile (Hd k).b s0 (colsAt X0 (128 * k)) := fun r l => (colsAt_apply X0 _ (by omega) r l).trans (B.b k hk r l)
theorem Block.tc : IsTile (Hd k).c s0 (colsAt X0 (1024 + 128 * k)) := fun r l => (colsAt_apply X0 _ (by omega) r l).trans (B.c k hk r l)
theorem Block.tx : IsTile (Hd k).x s0 (colsAt X0 (2048 + 128 * k)) := fun r l => (colsAt_apply X0 _ (by omega) r l).trans (B.x k hk r l)
theorem Block.tg : IsTile (Hd k).g s0 (colsAt X0 (3072 + 128 * k)) := fun r l => (colsAt_apply X0 _ (by omega) r l).trans (B.g k hk r l)
theorem Block.tz : IsTile (Hd k).z s0 (colsAt X0 (4096 + 128 * k)) := fun r l => (colsAt_apply X0 _ (by omega) r l).trans (B.z k hk r l)

theorem Block.ya {P : Vec Ideal S8x128 .f32} (hs : s0 = 0 ∨ 8 ≤ s0) (hP : Kept (Hd k).u s0 P) (r : Fin 256) (l : Fin 128) :
    yA X0 X1 X2 X3 X4 X5 X6 X7 X8 X9 X10 X11 k P (ix3 0 r l) = (Hd k).outA (s0 + r.val) l := by
  unfold yA headA
  refine (normed_apply (convA_apply hs (B.tb k hk) (B.tc k hk) (B.tx k hk) hP (B.row3 k hk 2) (B.row3 k hk 1) (B.row3 k hk 0))
    (B.real k hk).ya (row_head k hk (B.ga k hk)) r l).trans ?_
  unfold Head.outA
  simp only [allAt_apply, B.pa]

theorem Block.state {P : Vec Ideal S8x128 .f32} {h : Vec Ideal S1x128 .f32} (hs : s0 = 0 ∨ 8 ≤ s0) (hP : Kept (Hd k).z s0 P)
    (hh : IsRow (fun l => back 1 (fun t => (Hd k).h t l) s0) h) (r : Fin 256) (l : Fin 128) :
    hsK X0 X1 X2 X3 X4 X5 X6 X7 X8 X9 X10 X11 k P h (ix2 r l) = (Hd k).h (s0 + r.val) l :=
  hs_apply hs (B.tz k hk) hP (B.row4 k hk 3) (B.row4 k hk 2) (B.row4 k hk 1) (B.row4 k hk 0) (row_head k hk (B.b4 k hk)) (B.gate k hk)
    (row_head k hk (B.ba k hk)) (row_head k hk (B.bx k hk)) (row_head k hk (B.lam k hk)) hh r l

theorem Block.yb {P : Vec Ideal S8x128 .f32} {h : Vec Ideal S1x128 .f32} (hs : s0 = 0 ∨ 8 ≤ s0) (hP : Kept (Hd k).z s0 P)
    (hh : IsRow (fun l => back 1 (fun t => (Hd k).h t l) s0) h) (r : Fin 256) (l : Fin 128) :
    yB X0 X1 X2 X3 X4 X5 X6 X7 X8 X9 X10 X11 k P h (ix3 0 r l) = (Hd k).outB (s0 + r.val) l := by
  unfold yB
  refine (normed_apply (s0 := s0) (f := (Hd k).yb) (fun r l => ?_) (B.real k hk).yb (row_head k hk (B.gb k hk)) r l).trans ?_
  · unfold Head.yb
    rw [← B.state k hk hs hP hh r l, ← tile_apply (B.tg k hk) r l, ← gelu_apply]
    rfl
  · unfold Head.outB
    simp only [allAt_apply, B.pb]

theorem Block.keepU (j : Fin 8) (l : Fin 128) : uK X0 k (ix2 j l) = (Hd k).u (s0 + 256 + j.val - 8) l := by
  have h := prod_apply (B.tc k hk) (B.tx k hk) ⟨248 + j.val, by omega⟩ l
  unfold uK
  pointwise [last8]
  exact h.trans (congrArg (fun s => (Hd k).u s l) (by show s0 + (248 + j.val) = _; omega))

theorem Block.keepX (j : Fin 8) (l : Fin 128) : xK X0 k (ix2 j l) = (Hd k).z (s0 + 256 + j.val - 8) l := by
  have h := tile_apply (B.tz k hk) ⟨248 + j.val, by omega⟩ l
  unfold xK
  pointwise [last8]
  exact h.trans (congrArg (fun s => (Hd k).z s l) (by show s0 + (248 + j.val) = _; omega))

theorem Block.keepH {P : Vec Ideal S8x128 .f32} {h : Vec Ideal S1x128 .f32} (hs : s0 = 0 ∨ 8 ≤ s0) (hP : Kept (Hd k).z s0 P)
    (hh : IsRow (fun l => back 1 (fun t => (Hd k).h t l) s0) h) (l : Fin 128) :
    last1 (hsK X0 X1 X2 X3 X4 X5 X6 X7 X8 X9 X10 X11 k P h) (ix2 0 l) = back 1 (fun t => (Hd k).h t l) (s0 + 256) := by
  have h := B.state k hk hs hP hh ⟨255, by decide⟩ l
  unfold back
  rw [if_pos (by omega)]
  pointwise [last1]
  exact h

end Tile

/-! ## The stores, read -/

/-- The stores of the result, the last first. -/
def outPieces (X0 : Vec Ideal S1x256x5120 .f32) (X1 : Vec Ideal S3x1024 .f32) (X2 : Vec Ideal S4x1024 .f32) (X3 : Vec Ideal S1x1024 .f32) (X4 : Vec Ideal S8x128x256 .bf16) (X5 X6 X7 X8 X9 : Vec Ideal S1x1024 .f32) (X10 X11 : Vec Ideal S128x128 .bf16) (PA PB : ℕ → Vec Ideal S8x128 .f32) (h : ℕ → Vec Ideal S1x128 .f32) : List (View.Piece (Elt Ideal) S1x256x2048 .bf16) :=
  [pieceB X0 X1 X2 X3 X4 X5 X6 X7 X8 X9 X10 X11 7 (by decide) (PB 7) (h 7),
   pieceA X0 X1 X2 X3 X4 X5 X6 X7 X8 X9 X10 X11 7 (by decide) (PA 7),
   pieceB X0 X1 X2 X3 X4 X5 X6 X7 X8 X9 X10 X11 6 (by decide) (PB 6) (h 6),
   pieceA X0 X1 X2 X3 X4 X5 X6 X7 X8 X9 X10 X11 6 (by decide) (PA 6),
   pieceB X0 X1 X2 X3 X4 X5 X6 X7 X8 X9 X10 X11 5 (by decide) (PB 5) (h 5),
   pieceA X0 X1 X2 X3 X4 X5 X6 X7 X8 X9 X10 X11 5 (by decide) (PA 5),
   pieceB X0 X1 X2 X3 X4 X5 X6 X7 X8 X9 X10 X11 4 (by decide) (PB 4) (h 4),
   pieceA X0 X1 X2 X3 X4 X5 X6 X7 X8 X9 X10 X11 4 (by decide) (PA 4),
   pieceB X0 X1 X2 X3 X4 X5 X6 X7 X8 X9 X10 X11 3 (by decide) (PB 3) (h 3),
   pieceA X0 X1 X2 X3 X4 X5 X6 X7 X8 X9 X10 X11 3 (by decide) (PA 3),
   pieceB X0 X1 X2 X3 X4 X5 X6 X7 X8 X9 X10 X11 2 (by decide) (PB 2) (h 2),
   pieceA X0 X1 X2 X3 X4 X5 X6 X7 X8 X9 X10 X11 2 (by decide) (PA 2),
   pieceB X0 X1 X2 X3 X4 X5 X6 X7 X8 X9 X10 X11 1 (by decide) (PB 1) (h 1),
   pieceA X0 X1 X2 X3 X4 X5 X6 X7 X8 X9 X10 X11 1 (by decide) (PA 1),
   pieceB X0 X1 X2 X3 X4 X5 X6 X7 X8 X9 X10 X11 0 (by decide) (PB 0) (h 0),
   pieceA X0 X1 X2 X3 X4 X5 X6 X7 X8 X9 X10 X11 0 (by decide) (PA 0)]

/-- The stores of kept rows, the last first. -/
def keepPieces (v : ℕ → FVec Ideal S8x128 .f32) : List (View.Piece (Elt Ideal) S8x1024 .f32) :=
  [keep8 7 (by decide) (v 7), keep8 6 (by decide) (v 6), keep8 5 (by decide) (v 5), keep8 4 (by decide) (v 4), keep8 3 (by decide) (v 3), keep8 2 (by decide) (v 2), keep8 1 (by decide) (v 1), keep8 0 (by decide) (v 0)]

/-- The stores of kept states, the last first. -/
def statePieces (v : ℕ → FVec Ideal S1x128 .f32) : List (View.Piece (Elt Ideal) S1x1024 .f32) :=
  [keep1 7 (by decide) (v 7), keep1 6 (by decide) (v 6), keep1 5 (by decide) (v 5), keep1 4 (by decide) (v 4), keep1 3 (by decide) (v 3), keep1 2 (by decide) (v 2), keep1 1 (by decide) (v 1), keep1 0 (by decide) (v 0)]

theorem mem_keep8 (k : ℕ) (hk : k < 8) (v : FVec Ideal S8x128 .f32) (y : S8x1024.Idx) :
    y ∈ (keep8 (F := Ideal) k hk v).1.set ↔ 128 * k ≤ (y 1).val ∧ (y 1).val < 128 * k + 128 := by
  have h0 : (y 0).val < 8 := (y 0).isLt
  unfold keep8
  rw [Rect.mem_set_unit]
  exact ⟨fun h => h 1, fun h a => by fin_cases a; exacts [⟨Nat.zero_le _, by simpa using h0⟩, h]⟩

theorem mem_keep1 (k : ℕ) (hk : k < 8) (v : FVec Ideal S1x128 .f32) (y : S1x1024.Idx) :
    y ∈ (keep1 (F := Ideal) k hk v).1.set ↔ 128 * k ≤ (y 1).val ∧ (y 1).val < 128 * k + 128 := by
  have h0 : (y 0).val < 1 := (y 0).isLt
  unfold keep1
  rw [Rect.mem_set_unit]
  exact ⟨fun h => h 1, fun h a => by fin_cases a; exacts [⟨Nat.zero_le _, by simpa using h0⟩, h]⟩

section Out

variable {X0 : Vec Ideal S1x256x5120 .f32} {X1 : Vec Ideal S3x1024 .f32} {X2 : Vec Ideal S4x1024 .f32} {X3 : Vec Ideal S1x1024 .f32} {X4 : Vec Ideal S8x128x256 .bf16} {X5 X6 X7 X8 X9 : Vec Ideal S1x1024 .f32} {X10 X11 : Vec Ideal S128x128 .bf16}

theorem mem_pieceA (k : ℕ) (hk : k < 8) (P : Vec Ideal S8x128 .f32) (y : S1x256x2048.Idx) :
    y ∈ (pieceA X0 X1 X2 X3 X4 X5 X6 X7 X8 X9 X10 X11 k hk P).1.set ↔ 128 * k ≤ (y 2).val ∧ (y 2).val < 128 * k + 128 := by
  have h0 : (y 0).val < 1 := (y 0).isLt
  have h1 : (y 1).val < 256 := (y 1).isLt
  unfold pieceA
  rw [Rect.mem_set_unit]
  exact ⟨fun h => h 2, fun h a => by fin_cases a; exacts [⟨Nat.zero_le _, by simpa using h0⟩, ⟨Nat.zero_le _, by simpa using h1⟩, h]⟩

theorem mem_pieceB (k : ℕ) (hk : k < 8) (P : Vec Ideal S8x128 .f32) (h : Vec Ideal S1x128 .f32) (y : S1x256x2048.Idx) :
    y ∈ (pieceB X0 X1 X2 X3 X4 X5 X6 X7 X8 X9 X10 X11 k hk P h).1.set ↔ 1024 + 128 * k ≤ (y 2).val ∧ (y 2).val < 1024 + 128 * k + 128 := by
  have h0 : (y 0).val < 1 := (y 0).isLt
  have h1 : (y 1).val < 256 := (y 1).isLt
  unfold pieceB
  rw [Rect.mem_set_unit]
  exact ⟨fun h => h 2, fun h a => by fin_cases a; exacts [⟨Nat.zero_le _, by simpa using h0⟩, ⟨Nat.zero_le _, by simpa using h1⟩, h]⟩

variable {Hd : ℕ → Head} {s0 : ℕ}

/-- A tile of the result. -/
def outTile (Hd : ℕ → Head) (s0 : ℕ) : S1x256x2048.Idx → EReal := fun y => outAt Hd (s0 + (y 1).val) (y 2).val

theorem pieceA_of (k : ℕ) (hk : k < 8) (P : Vec Ideal S8x128 .f32)
    (hA : ∀ (r : Fin 256) (l : Fin 128), yA X0 X1 X2 X3 X4 X5 X6 X7 X8 X9 X10 X11 k P (ix3 0 r l) = (Hd k).outA (s0 + r.val) l) :
    ∀ x, (pieceA X0 X1 X2 X3 X4 X5 X6 X7 X8 X9 X10 X11 k hk P).2 x = outTile Hd s0 ((pieceA X0 X1 X2 X3 X4 X5 X6 X7 X8 X9 X10 X11 k hk P).1.emb x) := by
  show ∀ x : S1x256x128.Idx, yA X0 X1 X2 X3 X4 X5 X6 X7 X8 X9 X10 X11 k P x = _
  intro x
  idx_vars x
  obtain rfl : x0 = 0 := Subsingleton.elim _ _
  have e : (pieceA X0 X1 X2 X3 X4 X5 X6 X7 X8 X9 X10 X11 k hk P).1.emb (ix3 0 x1 x2) = ix3 0 x1 ⟨128 * k + x2.val, by omega⟩ := by
    funext a
    fin_cases a
    · rfl
    · exact Fin.ext (by show 0 + 1 * x1.val = _; simp)
    · exact Fin.ext (by show 128 * k + 1 * x2.val = _; simp)
  refine (hA x1 x2).trans (Eq.trans ?_ (congrArg (outTile Hd s0) e).symm)
  show _ = outAt Hd (s0 + x1.val) (128 * k + x2.val)
  unfold outAt
  rw [if_pos (by omega)]
  exact (at_head (fun k l => (Hd k).outA (s0 + x1.val) l) k x2).symm

theorem pieceB_of (k : ℕ) (hk : k < 8) (P : Vec Ideal S8x128 .f32) (h : Vec Ideal S1x128 .f32)
    (hB : ∀ (r : Fin 256) (l : Fin 128), yB X0 X1 X2 X3 X4 X5 X6 X7 X8 X9 X10 X11 k P h (ix3 0 r l) = (Hd k).outB (s0 + r.val) l) :
    ∀ x, (pieceB X0 X1 X2 X3 X4 X5 X6 X7 X8 X9 X10 X11 k hk P h).2 x = outTile Hd s0 ((pieceB X0 X1 X2 X3 X4 X5 X6 X7 X8 X9 X10 X11 k hk P h).1.emb x) := by
  show ∀ x : S1x256x128.Idx, yB X0 X1 X2 X3 X4 X5 X6 X7 X8 X9 X10 X11 k P h x = _
  intro x
  idx_vars x
  obtain rfl : x0 = 0 := Subsingleton.elim _ _
  have e : (pieceB X0 X1 X2 X3 X4 X5 X6 X7 X8 X9 X10 X11 k hk P h).1.emb (ix3 0 x1 x2) = ix3 0 x1 ⟨1024 + (128 * k + x2.val), by omega⟩ := by
    funext a
    fin_cases a
    · rfl
    · exact Fin.ext (by show 0 + 1 * x1.val = _; simp)
    · exact Fin.ext (by show 1024 + 128 * k + 1 * x2.val = 1024 + (128 * k + x2.val); omega)
  refine (hB x1 x2).trans (Eq.trans ?_ (congrArg (outTile Hd s0) e).symm)
  show _ = outAt Hd (s0 + x1.val) (1024 + (128 * k + x2.val))
  unfold outAt
  rw [if_neg (by omega)]
  simp only [Nat.add_sub_cancel_left]
  exact (at_head (fun k l => (Hd k).outB (s0 + x1.val) l) k x2).symm

/-- What the stores of a tile leave of the result. -/
theorem canon_out (B : Block Hd s0 X0 X1 X2 X3 X4 X5 X6 X7 X8 X9 X10 X11) (hs : s0 = 0 ∨ 8 ≤ s0) {PA PB : ℕ → Vec Ideal S8x128 .f32} {h : ℕ → Vec Ideal S1x128 .f32}
    (hA : ∀ k, k < 8 → Kept (Hd k).u s0 (PA k)) (hB : ∀ k, k < 8 → Kept (Hd k).z s0 (PB k))
    (hh : ∀ k, k < 8 → IsRow (fun l => back 1 (fun t => (Hd k).h t l) s0) (h k)) (y : S1x256x2048.Idx) :
    View.canon (outPieces X0 X1 X2 X3 X4 X5 X6 X7 X8 X9 X10 X11 PA PB h) y = outTile Hd s0 y := by
  have pA := fun k (hk : k < 8) => pieceA_of (Hd := Hd) (s0 := s0) k hk (PA k) (B.ya k hk hs (hA k hk))
  have pB := fun k (hk : k < 8) => pieceB_of (Hd := Hd) (s0 := s0) k hk (PB k) (h k) (B.yb k hk hs (hB k hk) (hh k hk))
  have h2 : (y 2).val < 2048 := (y 2).isLt
  rw [← List.append_nil (outPieces X0 X1 X2 X3 X4 X5 X6 X7 X8 X9 X10 X11 PA PB h)]
  refine View.canon_append_of_piecesOf (Val := Elt Ideal) (e := .bf16) (outTile Hd s0) [] _ ?_ y ?_
  · exact ⟨pB 7 _, pA 7 _, pB 6 _, pA 6 _, pB 5 _, pA 5 _, pB 4 _, pA 4 _, pB 3 _, pA 3 _, pB 2 _, pA 2 _, pB 1 _, pA 1 _, pB 0 _, pA 0 _, trivial⟩
  · simp only [outPieces, List.exists_mem_cons_iff, mem_pieceA, mem_pieceB]
    omega

end Out

/-- The rows kept of a tile. -/
def keepTile (f : ℕ → ℕ → Fin 128 → EReal) (s0 : ℕ) : S8x1024.Idx → EReal := fun y : S8x1024.Idx => f ((y 1).val / 128) (s0 + 256 + (y 0).val - 8) ⟨(y 1).val % 128, Nat.mod_lt _ (by decide)⟩

/-- The states kept of a tile. -/
def stateTile (Hd : ℕ → Head) (s0 : ℕ) : S1x1024.Idx → EReal := fun y : S1x1024.Idx => back 1 (fun t => (Hd ((y 1).val / 128)).h t ⟨(y 1).val % 128, Nat.mod_lt _ (by decide)⟩) (s0 + 256)

theorem keep8_of (f : ℕ → ℕ → Fin 128 → EReal) (s0 k : ℕ) (hk : k < 8) (v : FVec Ideal S8x128 .f32)
    (hv : ∀ (j : Fin 8) (l : Fin 128), v (ix2 j l) = f k (s0 + 256 + j.val - 8) l) :
    ∀ x, (keep8 k hk v).2 x = keepTile f s0 ((keep8 (F := Ideal) k hk v).1.emb x) := by
  show ∀ x : S8x128.Idx, v x = _
  intro x
  idx_vars x
  have e : (keep8 (F := Ideal) k hk v).1.emb (ix2 x0 x1) = ix2 x0 ⟨128 * k + x1.val, by omega⟩ := by
    funext a
    fin_cases a
    · exact Fin.ext (by show 0 + 1 * x0.val = _; simp)
    · exact Fin.ext (by show 128 * k + 1 * x1.val = _; simp)
  refine (hv x0 x1).trans (Eq.trans ?_ (congrArg (keepTile f s0) e).symm)
  exact (at_head (fun k l => f k (s0 + 256 + x0.val - 8) l) k x1).symm

/-- What the stores of kept rows leave, over any stores before. -/
theorem canon_keep (f : ℕ → ℕ → Fin 128 → EReal) (s0 : ℕ) {v : ℕ → FVec Ideal S8x128 .f32} (L : List (View.Piece (Elt Ideal) S8x1024 .f32))
    (hv : ∀ k, k < 8 → ∀ (j : Fin 8) (l : Fin 128), v k (ix2 j l) = f k (s0 + 256 + j.val - 8) l) :
    KeptAll f (s0 + 256) (View.canon (keepPieces v ++ L)) := by
  have p := fun k (hk : k < 8) => keep8_of f s0 k hk (v k) (hv k hk)
  intro j n
  rw [if_pos (by omega)]
  refine View.canon_append_of_piecesOf (Val := Elt Ideal) (e := .f32) (keepTile f s0) L _ ?_ (ix2 j n) ?_
  · exact ⟨p 7 _, p 6 _, p 5 _, p 4 _, p 3 _, p 2 _, p 1 _, p 0 _, trivial⟩
  · have hn : ((ix2 j n : S8x1024.Idx) 1).val < 1024 := n.isLt
    simp only [keepPieces, List.exists_mem_cons_iff, mem_keep8]
    omega

theorem keep1_of (Hd : ℕ → Head) (s0 k : ℕ) (hk : k < 8) (v : FVec Ideal S1x128 .f32)
    (hv : ∀ l : Fin 128, v (ix2 0 l) = back 1 (fun t => (Hd k).h t l) (s0 + 256)) :
    ∀ x, (keep1 k hk v).2 x = stateTile Hd s0 ((keep1 (F := Ideal) k hk v).1.emb x) := by
  show ∀ x : S1x128.Idx, v x = _
  intro x
  idx_vars x
  obtain rfl : x0 = 0 := Subsingleton.elim _ _
  have e : (keep1 (F := Ideal) k hk v).1.emb (ix2 0 x1) = ix2 0 ⟨128 * k + x1.val, by omega⟩ := by
    funext a
    fin_cases a
    · rfl
    · exact Fin.ext (by show 128 * k + 1 * x1.val = _; simp)
  refine (hv x1).trans (Eq.trans ?_ (congrArg (stateTile Hd s0) e).symm)
  exact (at_head (fun k l => back 1 (fun t => (Hd k).h t l) (s0 + 256)) k x1).symm

/-- What the stores of states leave, over any stores before. -/
theorem canon_state (Hd : ℕ → Head) (s0 : ℕ) {v : ℕ → FVec Ideal S1x128 .f32} (L : List (View.Piece (Elt Ideal) S1x1024 .f32))
    (hv : ∀ k, k < 8 → ∀ l : Fin 128, v k (ix2 0 l) = back 1 (fun t => (Hd k).h t l) (s0 + 256)) :
    StateAll Hd (s0 + 256) (View.canon (statePieces v ++ L)) := by
  have p := fun k (hk : k < 8) => keep1_of Hd s0 k hk (v k) (hv k hk)
  intro n
  refine View.canon_append_of_piecesOf (Val := Elt Ideal) (e := .f32) (stateTile Hd s0) L _ ?_ (ix2 0 n) ?_
  · exact ⟨p 7 _, p 6 _, p 5 _, p 4 _, p 3 _, p 2 _, p 1 _, p 0 _, trivial⟩
  · have hn : ((ix2 0 n : S1x1024.Idx) 1).val < 1024 := n.isLt
    simp only [statePieces, List.exists_mem_cons_iff, mem_keep1]
    omega

end Cert.KernelIdeal.Mix

end
-- ==== Proof.MixBlocks.lean ====
/- The blocks a grid point of the token mixer is given hold its rows of the heads. -/
module

public import proofs.«01_k».proof.Proof.MixTile
public import proofs.«01_k».proof.Proof.Gen.KernelIdeal.Value
public import Idealize.ShloMosaic.Lib.StableHlo.ReadAt

@[expose] public section

set_option maxRecDepth 16384

noncomputable section

namespace Cert.KernelIdeal.Mix

open Cert.KernelIdeal Cert.KernelIdeal.Gen Cert.MixSpec Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 8, t.val % 8, 0] ∧ win0_1.index t = ![0, 0] ∧ win0_2.index t = ![0, 0]
    ∧ win0_3.index t = ![0, 0] ∧ win0_4.index t = ![0, 0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] :=
  (by decide +kernel : ∀ t : Fin grid0.N, _)

theorem blk0 (c : Dev nD) (t : Fin cfg0.N) (r : Fin 256) (n : Fin 5120) (b : Fin 16) (s : Fin 2048) (hb : b.val = t.val / 8)
    (hs : s.val = t.val % 8 * 256 + r.val) : iblk m c 0 t (ix3 0 r n) = m ((c : Thread nD τ).loc main_arg0) (ix3 b s n) := by
  blk_point [iblk, V, idx t]

/-! ## The arrays the host computes -/

/-- The floor of a lane by 64, as the host divides. -/
def floor64 (x : BitVec 32) : BitVec 32 :=
  Scalar.select (IntOp.andi (IntOp.cmpi .ne (if x = 0 then 0 else if x.msb = true then -1 else 1) (if (64#32) = 0 then 0 else if BitVec.msb (64#32) = true then -1 else (1 : BitVec 32)))
    (IntOp.cmpi .ne (IntOp.remsi ArithUnit.host x 64#32) 0#32)) (IntOp.subi (IntOp.divsi ArithUnit.host x 64#32) 1#32) (IntOp.divsi ArithUnit.host x 64#32)

theorem floor64_eq : ∀ i : Fin 128, floor64 (BitVec.ofNat 32 i.val) = BitVec.ofNat 32 (i.val / 64) := by decide +kernel

theorem same64 : ∀ i l : Fin 128, (FloatOps.uitofp (F := Ideal) .bf16 (IntOp.cmpi .eq (floor64 (BitVec.ofNat 32 i.val)) (floor64 (BitVec.ofNat 32 l.val))) : EReal)
    = if i.val / 64 = l.val / 64 then 1 else 0 := by
  intro i l
  rw [floor64_eq, floor64_eq]
  have hi : i.val / 64 < 2 := by omega
  have hl : l.val / 64 < 2 := by omega
  generalize i.val / 64 = a at hi ⊢
  generalize l.val / 64 = b at hl ⊢
  interval_cases a <;> interval_cases b
  · show ((((1#1 : BitVec 1).toNat : ℝ)) : EReal) = _
    simp
  · show ((((0#1 : BitVec 1).toNat : ℝ)) : EReal) = _
    simp
  · show ((((0#1 : BitVec 1).toNat : ℝ)) : EReal) = _
    simp
  · show ((((1#1 : BitVec 1).toNat : ℝ)) : EReal) = _
    simp

theorem c64 : Ideal.ofBits .bf16 17024#16 = ((64 : ℝ) : EReal) := by
  simp [Ideal.ofBits, Ideal.ieee, -EReal.coe_mul]; norm_num

theorem c128 : Ideal.ofBits .bf16 15360#16 = ((1 / 128 : ℝ) : EReal) := by
  simp [Ideal.ofBits, Ideal.ieee, -EReal.coe_mul]; norm_num

theorem v4_at (c : Dev nD) (j : Fin 3) (n : Fin 1024) : (V m c main_v4 : FVec Ideal S3x1024 .f32) (ix2 j n) = m ((c : Thread nD τ).loc main_arg1) (ix3 0 j n) := by
  unfold V
  simp only [hostOps0, hostOps0_1, hostOps0_2, hostOps0_3, hostOps0_4, List.flatten_cons, List.flatten_nil, List.append_nil, List.cons_append,
    List.nil_append]
  after_reads_at

theorem v5_at (c : Dev nD) (j : Fin 4) (n : Fin 1024) : (V m c main_v5 : FVec Ideal S4x1024 .f32) (ix2 j n) = m ((c : Thread nD τ).loc main_arg2) (ix3 0 j n) := by
  unfold V
  simp only [hostOps0, hostOps0_1, hostOps0_2, hostOps0_3, hostOps0_4, List.flatten_cons, List.flatten_nil, List.append_nil, List.cons_append,
    List.nil_append]
  after_reads_at

theorem v24_at (c : Dev nD) (n : Fin 1024) : (V m c main_v24 : FVec Ideal S1x1024 .f32) (ix2 0 n) = m ((c : Thread nD τ).loc main_arg3) (ix2 0 n) := by
  unfold V
  simp only [hostOps0, hostOps0_1, hostOps0_2, hostOps0_3, hostOps0_4, List.flatten_cons, List.flatten_nil, List.append_nil, List.cons_append,
    List.nil_append]
  after_reads_at

theorem v25_at (c : Dev nD) (n : Fin 1024) : (V m c main_v25 : FVec Ideal S1x1024 .f32) (ix2 0 n) = m ((c : Thread nD τ).loc main_arg5) (ix2 0 n) := by
  unfold V
  simp only [hostOps0, hostOps0_1, hostOps0_2, hostOps0_3, hostOps0_4, List.flatten_cons, List.flatten_nil, List.append_nil, List.cons_append,
    List.nil_append]
  after_reads_at

theorem v26_at (c : Dev nD) (n : Fin 1024) : (V m c main_v26 : FVec Ideal S1x1024 .f32) (ix2 0 n) = m ((c : Thread nD τ).loc main_arg7) (ix2 0 n) := by
  unfold V
  simp only [hostOps0, hostOps0_1, hostOps0_2, hostOps0_3, hostOps0_4, List.flatten_cons, List.flatten_nil, List.append_nil, List.cons_append,
    List.nil_append]
  after_reads_at

theorem v27_at (c : Dev nD) (n : Fin 1024) : (V m c main_v27 : FVec Ideal S1x1024 .f32) (ix2 0 n) = m ((c : Thread nD τ).loc main_arg8) (ix2 0 n) := by
  unfold V
  simp only [hostOps0, hostOps0_1, hostOps0_2, hostOps0_3, hostOps0_4, List.flatten_cons, List.flatten_nil, List.append_nil, List.cons_append,
    List.nil_append]
  after_reads_at

theorem v28_at (c : Dev nD) (n : Fin 1024) : (V m c main_v28 : FVec Ideal S1x1024 .f32) (ix2 0 n) = m ((c : Thread nD τ).loc main_arg9) (ix2 0 n) := by
  unfold V
  simp only [hostOps0, hostOps0_1, hostOps0_2, hostOps0_3, hostOps0_4, List.flatten_cons, List.flatten_nil, List.append_nil, List.cons_append,
    List.nil_append]
  after_reads_at

theorem v29_at (c : Dev nD) (n : Fin 1024) : (V m c main_v29 : FVec Ideal S1x1024 .f32) (ix2 0 n) = m ((c : Thread nD τ).loc main_arg10) (ix2 0 n) := by
  unfold V
  simp only [hostOps0, hostOps0_1, hostOps0_2, hostOps0_3, hostOps0_4, List.flatten_cons, List.flatten_nil, List.append_nil, List.cons_append,
    List.nil_append]
  after_reads_at

theorem v3a_at (c : Dev nD) (k : Fin 8) (i l : Fin 128) : (V m c main_v3 : FVec Ideal S8x128x256 .bf16) (ix3 k i ⟨l.val, by omega⟩) = m ((c : Thread nD τ).loc main_arg4) (ix4 0 k i l) := by
  unfold V
  simp only [hostOps0, hostOps0_1, hostOps0_2, hostOps0_3, hostOps0_4, List.flatten_cons, List.flatten_nil, List.append_nil, List.cons_append,
    List.nil_append]
  after_reads_at
  after_reads_at

theorem v3x_at (c : Dev nD) (k : Fin 8) (i l : Fin 128) : (V m c main_v3 : FVec Ideal S8x128x256 .bf16) (ix3 k i ⟨128 + l.val, by omega⟩) = m ((c : Thread nD τ).loc main_arg6) (ix4 0 k i l) := by
  unfold V
  simp only [hostOps0, hostOps0_1, hostOps0_2, hostOps0_3, hostOps0_4, List.flatten_cons, List.flatten_nil, List.append_nil, List.cons_append,
    List.nil_append]
  after_reads_at
  after_reads_at

theorem v23_at (c : Dev nD) (i l : Fin 128) : (V m c main_v23 : FVec Ideal S128x128 .bf16) (ix2 i l) = ((1 / 128 : ℝ) : EReal) := by
  unfold V
  simp only [hostOps0, hostOps0_1, hostOps0_2, hostOps0_3, hostOps0_4, List.flatten_cons, List.flatten_nil, List.append_nil, List.cons_append,
    List.nil_append]
  after_reads_at
  exact c128

theorem v22_at (c : Dev nD) (i l : Fin 128) : (V m c main_v22 : FVec Ideal S128x128 .bf16) (ix2 i l) = if i.val / 64 = l.val / 64 then ((1 / 64 : ℝ) : EReal) else 0 := by
  unfold V
  simp only [hostOps0, hostOps0_1, hostOps0_2, hostOps0_3, hostOps0_4, List.flatten_cons, List.flatten_nil, List.append_nil, List.cons_append,
    List.nil_append]
  after_reads_at
  show Ideal.div (FloatOps.uitofp (F := Ideal) .bf16 (IntOp.cmpi .eq (floor64 (BitVec.ofNat 32 i.val)) (floor64 (BitVec.ofNat 32 l.val)))) (Ideal.ofBits .bf16 17024#16) = _
  rw [same64, c64, Ideal.div_coe (by norm_num)]
  split <;> simp

/-! ## The windows of the parameters hold the whole arrays -/

theorem blk1 (c : Dev nD) (t : Fin cfg0.N) (i : S3x1024.Idx) : iblk m c 1 t i = (V m c main_v4 : FVec Ideal S3x1024 .f32) i := by
  blk_point [iblk, idx t]

theorem blk2 (c : Dev nD) (t : Fin cfg0.N) (i : S4x1024.Idx) : iblk m c 2 t i = (V m c main_v5 : FVec Ideal S4x1024 .f32) i := by
  blk_point [iblk, idx t]

theorem blk3 (c : Dev nD) (t : Fin cfg0.N) (i : S1x1024.Idx) : iblk m c 3 t i = (V m c main_v24 : FVec Ideal S1x1024 .f32) i := by
  blk_point [iblk, idx t]

theorem blk4 (c : Dev nD) (t : Fin cfg0.N) (i : S8x128x256.Idx) : iblk m c 4 t i = (V m c main_v3 : FVec Ideal S8x128x256 .bf16) i := by
  blk_point [iblk, idx t]

theorem blk5 (c : Dev nD) (t : Fin cfg0.N) (i : S1x1024.Idx) : iblk m c 5 t i = (V m c main_v25 : FVec Ideal S1x1024 .f32) i := by
  blk_point [iblk, idx t]

theorem blk6 (c : Dev nD) (t : Fin cfg0.N) (i : S1x1024.Idx) : iblk m c 6 t i = (V m c main_v26 : FVec Ideal S1x1024 .f32) i := by
  blk_point [iblk, idx t]

theorem blk7 (c : Dev nD) (t : Fin cfg0.N) (i : S1x1024.Idx) : iblk m c 7 t i = (V m c main_v27 : FVec Ideal S1x1024 .f32) i := by
  blk_point [iblk, idx t]

theorem blk8 (c : Dev nD) (t : Fin cfg0.N) (i : S1x1024.Idx) : iblk m c 8 t i = (V m c main_v28 : FVec Ideal S1x1024 .f32) i := by
  blk_point [iblk, idx t]

theorem blk9 (c : Dev nD) (t : Fin cfg0.N) (i : S1x1024.Idx) : iblk m c 9 t i = (V m c main_v29 : FVec Ideal S1x1024 .f32) i := by
  blk_point [iblk, idx t]

theorem blk10 (c : Dev nD) (t : Fin cfg0.N) (i : S128x128.Idx) : iblk m c 10 t i = (V m c main_v22 : FVec Ideal S128x128 .bf16) i := by
  blk_point [iblk, idx t]

theorem blk11 (c : Dev nD) (t : Fin cfg0.N) (i : S128x128.Idx) : iblk m c 11 t i = (V m c main_v23 : FVec Ideal S128x128 .bf16) i := by
  blk_point [iblk, idx t]

end Cert.KernelIdeal.Mix

end
-- ==== Proof.MixRunA.lean ====
module

public import proofs.«01_k».proof.Proof.MixPieces

@[expose] public section

set_option maxRecDepth 16384
set_option maxHeartbeats 8000000

noncomputable section

/-! The pieces a grid point stores at the first tile of a sequence, as the heads' branches. -/

namespace Cert.KernelIdeal.Mix

open Cert.KernelIdeal Cert.KernelIdeal.Gen Idealize.ShloMosaic Idealize.ShloMosaic.TcCoe Idealize.SL.Sem

variable {F : FTy → Type} [FloatOps F]

theorem outA  (c : Dev nD) (i : grid0.Coords) (arg2 : Memref sig .tc .vmem S1x256x5120 .f32) (harg2 : arg2.IsWhole) (arg3 : Memref sig .tc .vmem S3x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x256x2048 .bf16) (harg14 : arg14.IsWhole) (arg15 : Memref sig .tc .vmem S8x1024 .f32) (harg15 : arg15.IsWhole) (arg16 : Memref sig .tc .vmem S8x1024 .f32) (harg16 : arg16.IsWhole) (arg17 : Memref sig .tc .vmem S1x1024 .f32) (harg17 : arg17.IsWhole) (hc0 : cond0_0 i)
    (x0 : Vec F S1x256x5120 .f32) (x1 : Vec F S3x1024 .f32) (x2 : Vec F S4x1024 .f32) (x3 : Vec F S1x1024 .f32) (x4 : Vec F S8x128x256 .bf16) (x5 : Vec F S1x1024 .f32) (x6 : Vec F S1x1024 .f32) (x7 : Vec F S1x1024 .f32) (x8 : Vec F S1x1024 .f32) (x9 : Vec F S1x1024 .f32) (x10 : Vec F S128x128 .bf16) (x11 : Vec F S128x128 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).1 = [
      pieceB (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 7 (by decide) (eightAt k0_pay3 896) (rowAt (n := 1) k0_pay4 0 896),
      pieceA (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 7 (by decide) (eightAt k0_pay2 896),
      pieceB (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 6 (by decide) (eightAt k0_pay3 768) (rowAt (n := 1) k0_pay4 0 768),
      pieceA (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 6 (by decide) (eightAt k0_pay2 768),
      pieceB (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 5 (by decide) (eightAt k0_pay3 640) (rowAt (n := 1) k0_pay4 0 640),
      pieceA (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 5 (by decide) (eightAt k0_pay2 640),
      pieceB (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 4 (by decide) (eightAt k0_pay3 512) (rowAt (n := 1) k0_pay4 0 512),
      pieceA (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 4 (by decide) (eightAt k0_pay2 512),
      pieceB (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 3 (by decide) (eightAt k0_pay3 384) (rowAt (n := 1) k0_pay4 0 384),
      pieceA (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 3 (by decide) (eightAt k0_pay2 384),
      pieceB (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 2 (by decide) (eightAt k0_pay3 256) (rowAt (n := 1) k0_pay4 0 256),
      pieceA (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 2 (by decide) (eightAt k0_pay2 256),
      pieceB (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 1 (by decide) (eightAt k0_pay3 128) (rowAt (n := 1) k0_pay4 0 128),
      pieceA (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 1 (by decide) (eightAt k0_pay2 128),
      pieceB (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 0 (by decide) (eightAt k0_pay3 0) (rowAt (n := 1) k0_pay4 0 0),
      pieceA (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 0 (by decide) (eightAt k0_pay2 0)] := by
  unfold kernelRun0_A pieceA pieceB
  dsimp only
  refine congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (rfl))))))))))))))))
  all_goals
    simp only [kernelRun0_A.sl.r, kernelRun0_A.sl.v0, kernelRun0_A.sl.v1, kernelRun0_A.sl.v2, kernelRun0_A.sl.v3, kernelRun0_A.sl.r_1, kernelRun0_A.sl.r_2, kernelRun0_A.sl.r_3, kernelRun0_A.sl.r_4,
      kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13,
      kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22,
      kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31,
      kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40,
      kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49,
      kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58,
      kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67,
      kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76,
      kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85,
      kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94,
      kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103,
      kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112,
      kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121,
      kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130,
      kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139,
      kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148,
      kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157,
      kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166,
      kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175,
      kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184,
      kernelRun0_A.sl.r_185, kernelRun0_A.sl.r_186, kernelRun0_A.sl.r_187, kernelRun0_A.sl.r_188, kernelRun0_A.sl.cst_112, kernelRun0_A.sl.cst_241, kernelRun0_A.sl.cst_385, kernelRun0_A.sl.cst_531, kernelRun0_A.sl.cst_657,
      k0_pay1, k0_pay5, k0_pay6, k0_pay7, k0_pay8, k0_pay9, k0_pay10, k0_pay11, k0_pay12,
      k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57,
      k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75,
      k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93,
      k0_pay94, k0_pay95, k0_pay96, k0_pay97, k0_pay98, k0_pay99, k0_pay100, k0_pay101, k0_pay102,
      k0_pay103, k0_pay104, k0_pay105, k0_pay106, k0_pay107, k0_pay108, k0_pay109, k0_pay110, k0_pay111,
      k0_pay112, k0_pay113, k0_pay114, k0_pay115, k0_pay116, k0_pay117, k0_pay118, k0_pay119, k0_pay120,
      k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138,
      k0_pay139, k0_pay140, k0_pay141, k0_pay142, k0_pay143, k0_pay144, k0_pay145, k0_pay146, k0_pay147,
      k0_pay148, k0_pay149, k0_pay150, k0_pay151, k0_pay152, k0_pay153, k0_pay154, k0_pay155, k0_pay156,
      k0_pay157, k0_pay158, k0_pay159, k0_pay160, k0_pay161, k0_pay162, k0_pay163, k0_pay164, k0_pay165,
      k0_pay166, k0_pay167, k0_pay168, k0_pay169, k0_pay170, k0_pay171, k0_pay172, k0_pay173, k0_pay174,
      k0_pay175, k0_pay176, k0_pay177, k0_pay178, k0_pay179, k0_pay180, k0_pay181, k0_pay182, k0_pay183,
      k0_pay184, k0_pay185, k0_pay186, k0_pay187, k0_pay188, k0_pay189, k0_pay190, k0_pay191, k0_pay192,
      k0_pay193, k0_pay194, k0_pay195, k0_pay196, k0_pay197, k0_pay198, k0_pay199, k0_pay200, k0_pay201,
      k0_pay202, k0_pay203, k0_pay204, k0_pay205, k0_pay206, k0_pay207, k0_pay208, k0_pay209, k0_pay210,
      k0_pay211, k0_pay212, k0_pay213, k0_pay214, k0_pay215, k0_pay216, k0_pay217, k0_pay218, k0_pay219,
      k0_pay220, k0_pay221, k0_pay222, k0_pay223, k0_pay224, k0_pay225, k0_pay226, k0_pay227, k0_pay228,
      k0_pay229, k0_pay230, k0_pay231, k0_pay232, k0_pay233, k0_pay234, k0_pay235, k0_pay236, k0_pay237,
      k0_pay238, k0_pay239, k0_pay240, k0_pay241, k0_pay242, k0_pay243, k0_pay244, k0_pay245, k0_pay246,
      k0_pay247, k0_pay248, k0_pay249, k0_pay250, k0_pay251, k0_pay252, k0_pay253, k0_pay254, k0_pay255,
      k0_pay256, k0_pay257, k0_pay258, k0_pay259, k0_pay260, k0_pay261, k0_pay262, k0_pay263, k0_pay264,
      k0_pay265, k0_pay266, k0_pay267, k0_pay268, k0_pay269, k0_pay270, k0_pay271, k0_pay272, k0_pay273,
      k0_pay274, k0_pay275, k0_pay276, k0_pay277, k0_pay278, k0_pay279, k0_pay280, k0_pay281, k0_pay282,
      k0_pay283, k0_pay284, k0_pay285, k0_pay286, k0_pay287, k0_pay288, k0_pay289, k0_pay290, k0_pay291,
      k0_pay292, k0_pay293, k0_pay294, k0_pay295, k0_pay296, k0_pay297, k0_pay298, k0_pay299, k0_pay300,
      k0_pay301, k0_pay302, k0_pay303, k0_pay304, k0_pay305, k0_pay306, k0_pay307, k0_pay308, k0_pay309,
      k0_pay310, k0_pay311, k0_pay312, k0_pay313, k0_pay314, k0_pay315, k0_pay316, k0_pay317, k0_pay318,
      k0_pay319, k0_pay320, k0_pay321, k0_pay322, k0_pay323, k0_pay324, k0_pay325, k0_pay326, k0_pay327,
      k0_pay328, k0_pay329, k0_pay330, k0_pay331, k0_pay332, k0_pay333, k0_pay334, k0_pay335, k0_pay336,
      k0_pay337, k0_pay338, k0_pay339, k0_pay340, k0_pay341, k0_pay342, k0_pay343, k0_pay344, k0_pay345,
      k0_pay346, k0_pay347, k0_pay348, k0_pay349, k0_pay350, k0_pay351, k0_pay352, k0_pay353, k0_pay354,
      k0_pay355, k0_pay356, k0_pay357, k0_pay358, k0_pay359, k0_pay360, yA, yB, hsK,
      uK, xK, headA, headB, hs, states, scanA, scanV, scanIn,
      logA, soft, gateI, gateR, gates, convB, convA, prod, normed,
      meanSq, last8, last1, num, over, chan, tile, rows, gelu,
      shift_eq 1#32, shift_eq 2#32, shift_eq 3#32, stepA_eq 1#32, stepV_eq 1#32, stepA_eq 2#32, stepV_eq 2#32, stepA_eq 4#32, stepV_eq 4#32,
      stepA_eq 8#32, stepV_eq 8#32, stepA_eq 16#32, stepV_eq 16#32, stepA_eq 32#32, stepV_eq 32#32, stepA_eq 64#32, stepV_eq 64#32, stepA_eq 128#32,
      stepV_eq 128#32, Nat.reduceMul, Nat.reduceAdd]
    simp (disch := decide) only [readAt_cols, readAt_row1, readAt_row3, readAt_row4, readAt_gate, readAt_all,
      kernelRun0_A.sl.v1178, kernelRun0_A.sl.v621, kernelRun0_A.sl.v1483, kernelRun0_A.sl.v687, kernelRun0_A.sl.v926, kernelRun0_A.sl.v263, kernelRun0_A.sl.v316, kernelRun0_A.sl.v1231, kernelRun0_A.sl.v992,
      kernelRun0_A.sl.v1788, kernelRun0_A.sl.v1297, kernelRun0_A.sl.v382, kernelRun0_A.sl.v568, kernelRun0_A.sl.v2146, kernelRun0_A.sl.v77, kernelRun0_A.sl.v1536, kernelRun0_A.sl.v11, kernelRun0_A.sl.v1841,
      kernelRun0_A.sl.v1907, kernelRun0_A.sl.v2398, kernelRun0_A.sl.v2212, kernelRun0_A.sl.v873, kernelRun0_A.sl.v2093, kernelRun0_A.sl.v1602,
      kernelRun0_A.sl.HS1_2, kernelRun0_A.sl.HS1_5, kernelRun0_A.sl.HS2_1, kernelRun0_A.sl.HS0_2, kernelRun0_A.sl.HS2_2, kernelRun0_A.sl.HS0_6, kernelRun0_A.sl.HS2_5, kernelRun0_A.sl.HS0_4, kernelRun0_A.sl.HS2_3,
      kernelRun0_A.sl.HS1_8, kernelRun0_A.sl.HS0_8, kernelRun0_A.sl.HS1_7, kernelRun0_A.sl.HS0_3, kernelRun0_A.sl.HS2_6, kernelRun0_A.sl.HS0_7, kernelRun0_A.sl.HS2_7, kernelRun0_A.sl.HS2_8, kernelRun0_A.sl.HS0_1,
      kernelRun0_A.sl.HS2_4, kernelRun0_A.sl.HS1_3, kernelRun0_A.sl.HS0_5, kernelRun0_A.sl.HS1_1, kernelRun0_A.sl.HS1_6, kernelRun0_A.sl.HS1_4,
      ↓View.readCov_skip, ↓readCov_eight_fill, ↓readCov_row_fill]

theorem keepUA  (c : Dev nD) (i : grid0.Coords) (arg2 : Memref sig .tc .vmem S1x256x5120 .f32) (harg2 : arg2.IsWhole) (arg3 : Memref sig .tc .vmem S3x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x256x2048 .bf16) (harg14 : arg14.IsWhole) (arg15 : Memref sig .tc .vmem S8x1024 .f32) (harg15 : arg15.IsWhole) (arg16 : Memref sig .tc .vmem S8x1024 .f32) (harg16 : arg16.IsWhole) (arg17 : Memref sig .tc .vmem S1x1024 .f32) (harg17 : arg17.IsWhole) (hc0 : cond0_0 i)
    (x0 : Vec F S1x256x5120 .f32) (x1 : Vec F S3x1024 .f32) (x2 : Vec F S4x1024 .f32) (x3 : Vec F S1x1024 .f32) (x4 : Vec F S8x128x256 .bf16) (x5 : Vec F S1x1024 .f32) (x6 : Vec F S1x1024 .f32) (x7 : Vec F S1x1024 .f32) (x8 : Vec F S1x1024 .f32) (x9 : Vec F S1x1024 .f32) (x10 : Vec F S128x128 .bf16) (x11 : Vec F S128x128 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).2.1 = [
      keep8 7 (by decide) (uK (arg2.view.read (Elt F) (harg2.unread x0)) 7),
      keep8 6 (by decide) (uK (arg2.view.read (Elt F) (harg2.unread x0)) 6),
      keep8 5 (by decide) (uK (arg2.view.read (Elt F) (harg2.unread x0)) 5),
      keep8 4 (by decide) (uK (arg2.view.read (Elt F) (harg2.unread x0)) 4),
      keep8 3 (by decide) (uK (arg2.view.read (Elt F) (harg2.unread x0)) 3),
      keep8 2 (by decide) (uK (arg2.view.read (Elt F) (harg2.unread x0)) 2),
      keep8 1 (by decide) (uK (arg2.view.read (Elt F) (harg2.unread x0)) 1),
      keep8 0 (by decide) (uK (arg2.view.read (Elt F) (harg2.unread x0)) 0),
      ⟨Rect.unit (s := S8x1024) ![0, 0] ![8, 1024] (by decide), k0_pay2⟩] := by
  unfold kernelRun0_A keep8
  dsimp only
  refine congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (rfl))))))))
  all_goals
    simp only [kernelRun0_A.sl.r, kernelRun0_A.sl.v0, kernelRun0_A.sl.v1, kernelRun0_A.sl.v2, kernelRun0_A.sl.v3, kernelRun0_A.sl.r_1, kernelRun0_A.sl.r_2, kernelRun0_A.sl.r_3, kernelRun0_A.sl.r_4,
      kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13,
      kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22,
      kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31,
      kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40,
      kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49,
      kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58,
      kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67,
      kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76,
      kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85,
      kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94,
      kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103,
      kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112,
      kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121,
      kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130,
      kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139,
      kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148,
      kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157,
      kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166,
      kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175,
      kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184,
      kernelRun0_A.sl.r_185, kernelRun0_A.sl.r_186, kernelRun0_A.sl.r_187, kernelRun0_A.sl.r_188, kernelRun0_A.sl.cst_112, kernelRun0_A.sl.cst_241, kernelRun0_A.sl.cst_385, kernelRun0_A.sl.cst_531, kernelRun0_A.sl.cst_657,
      k0_pay1, k0_pay5, k0_pay6, k0_pay7, k0_pay8, k0_pay9, k0_pay10, k0_pay11, k0_pay12,
      k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57,
      k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75,
      k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93,
      k0_pay94, k0_pay95, k0_pay96, k0_pay97, k0_pay98, k0_pay99, k0_pay100, k0_pay101, k0_pay102,
      k0_pay103, k0_pay104, k0_pay105, k0_pay106, k0_pay107, k0_pay108, k0_pay109, k0_pay110, k0_pay111,
      k0_pay112, k0_pay113, k0_pay114, k0_pay115, k0_pay116, k0_pay117, k0_pay118, k0_pay119, k0_pay120,
      k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138,
      k0_pay139, k0_pay140, k0_pay141, k0_pay142, k0_pay143, k0_pay144, k0_pay145, k0_pay146, k0_pay147,
      k0_pay148, k0_pay149, k0_pay150, k0_pay151, k0_pay152, k0_pay153, k0_pay154, k0_pay155, k0_pay156,
      k0_pay157, k0_pay158, k0_pay159, k0_pay160, k0_pay161, k0_pay162, k0_pay163, k0_pay164, k0_pay165,
      k0_pay166, k0_pay167, k0_pay168, k0_pay169, k0_pay170, k0_pay171, k0_pay172, k0_pay173, k0_pay174,
      k0_pay175, k0_pay176, k0_pay177, k0_pay178, k0_pay179, k0_pay180, k0_pay181, k0_pay182, k0_pay183,
      k0_pay184, k0_pay185, k0_pay186, k0_pay187, k0_pay188, k0_pay189, k0_pay190, k0_pay191, k0_pay192,
      k0_pay193, k0_pay194, k0_pay195, k0_pay196, k0_pay197, k0_pay198, k0_pay199, k0_pay200, k0_pay201,
      k0_pay202, k0_pay203, k0_pay204, k0_pay205, k0_pay206, k0_pay207, k0_pay208, k0_pay209, k0_pay210,
      k0_pay211, k0_pay212, k0_pay213, k0_pay214, k0_pay215, k0_pay216, k0_pay217, k0_pay218, k0_pay219,
      k0_pay220, k0_pay221, k0_pay222, k0_pay223, k0_pay224, k0_pay225, k0_pay226, k0_pay227, k0_pay228,
      k0_pay229, k0_pay230, k0_pay231, k0_pay232, k0_pay233, k0_pay234, k0_pay235, k0_pay236, k0_pay237,
      k0_pay238, k0_pay239, k0_pay240, k0_pay241, k0_pay242, k0_pay243, k0_pay244, k0_pay245, k0_pay246,
      k0_pay247, k0_pay248, k0_pay249, k0_pay250, k0_pay251, k0_pay252, k0_pay253, k0_pay254, k0_pay255,
      k0_pay256, k0_pay257, k0_pay258, k0_pay259, k0_pay260, k0_pay261, k0_pay262, k0_pay263, k0_pay264,
      k0_pay265, k0_pay266, k0_pay267, k0_pay268, k0_pay269, k0_pay270, k0_pay271, k0_pay272, k0_pay273,
      k0_pay274, k0_pay275, k0_pay276, k0_pay277, k0_pay278, k0_pay279, k0_pay280, k0_pay281, k0_pay282,
      k0_pay283, k0_pay284, k0_pay285, k0_pay286, k0_pay287, k0_pay288, k0_pay289, k0_pay290, k0_pay291,
      k0_pay292, k0_pay293, k0_pay294, k0_pay295, k0_pay296, k0_pay297, k0_pay298, k0_pay299, k0_pay300,
      k0_pay301, k0_pay302, k0_pay303, k0_pay304, k0_pay305, k0_pay306, k0_pay307, k0_pay308, k0_pay309,
      k0_pay310, k0_pay311, k0_pay312, k0_pay313, k0_pay314, k0_pay315, k0_pay316, k0_pay317, k0_pay318,
      k0_pay319, k0_pay320, k0_pay321, k0_pay322, k0_pay323, k0_pay324, k0_pay325, k0_pay326, k0_pay327,
      k0_pay328, k0_pay329, k0_pay330, k0_pay331, k0_pay332, k0_pay333, k0_pay334, k0_pay335, k0_pay336,
      k0_pay337, k0_pay338, k0_pay339, k0_pay340, k0_pay341, k0_pay342, k0_pay343, k0_pay344, k0_pay345,
      k0_pay346, k0_pay347, k0_pay348, k0_pay349, k0_pay350, k0_pay351, k0_pay352, k0_pay353, k0_pay354,
      k0_pay355, k0_pay356, k0_pay357, k0_pay358, k0_pay359, k0_pay360, yA, yB, hsK,
      uK, xK, headA, headB, hs, states, scanA, scanV, scanIn,
      logA, soft, gateI, gateR, gates, convB, convA, prod, normed,
      meanSq, last8, last1, num, over, chan, tile, rows, gelu,
      shift_eq 1#32, shift_eq 2#32, shift_eq 3#32, stepA_eq 1#32, stepV_eq 1#32, stepA_eq 2#32, stepV_eq 2#32, stepA_eq 4#32, stepV_eq 4#32,
      stepA_eq 8#32, stepV_eq 8#32, stepA_eq 16#32, stepV_eq 16#32, stepA_eq 32#32, stepV_eq 32#32, stepA_eq 64#32, stepV_eq 64#32, stepA_eq 128#32,
      stepV_eq 128#32, Nat.reduceMul, Nat.reduceAdd]
    simp only [readAt_cols, readAt_row1, readAt_row3, readAt_row4, readAt_eight, readAt_gate, readAt_all]

theorem keepXA  (c : Dev nD) (i : grid0.Coords) (arg2 : Memref sig .tc .vmem S1x256x5120 .f32) (harg2 : arg2.IsWhole) (arg3 : Memref sig .tc .vmem S3x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x256x2048 .bf16) (harg14 : arg14.IsWhole) (arg15 : Memref sig .tc .vmem S8x1024 .f32) (harg15 : arg15.IsWhole) (arg16 : Memref sig .tc .vmem S8x1024 .f32) (harg16 : arg16.IsWhole) (arg17 : Memref sig .tc .vmem S1x1024 .f32) (harg17 : arg17.IsWhole) (hc0 : cond0_0 i)
    (x0 : Vec F S1x256x5120 .f32) (x1 : Vec F S3x1024 .f32) (x2 : Vec F S4x1024 .f32) (x3 : Vec F S1x1024 .f32) (x4 : Vec F S8x128x256 .bf16) (x5 : Vec F S1x1024 .f32) (x6 : Vec F S1x1024 .f32) (x7 : Vec F S1x1024 .f32) (x8 : Vec F S1x1024 .f32) (x9 : Vec F S1x1024 .f32) (x10 : Vec F S128x128 .bf16) (x11 : Vec F S128x128 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).2.2.1 = [
      keep8 7 (by decide) (xK (arg2.view.read (Elt F) (harg2.unread x0)) 7),
      keep8 6 (by decide) (xK (arg2.view.read (Elt F) (harg2.unread x0)) 6),
      keep8 5 (by decide) (xK (arg2.view.read (Elt F) (harg2.unread x0)) 5),
      keep8 4 (by decide) (xK (arg2.view.read (Elt F) (harg2.unread x0)) 4),
      keep8 3 (by decide) (xK (arg2.view.read (Elt F) (harg2.unread x0)) 3),
      keep8 2 (by decide) (xK (arg2.view.read (Elt F) (harg2.unread x0)) 2),
      keep8 1 (by decide) (xK (arg2.view.read (Elt F) (harg2.unread x0)) 1),
      keep8 0 (by decide) (xK (arg2.view.read (Elt F) (harg2.unread x0)) 0),
      ⟨Rect.unit (s := S8x1024) ![0, 0] ![8, 1024] (by decide), k0_pay3⟩] := by
  unfold kernelRun0_A keep8
  dsimp only
  refine congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (rfl))))))))
  all_goals
    simp only [kernelRun0_A.sl.r, kernelRun0_A.sl.v0, kernelRun0_A.sl.v1, kernelRun0_A.sl.v2, kernelRun0_A.sl.v3, kernelRun0_A.sl.r_1, kernelRun0_A.sl.r_2, kernelRun0_A.sl.r_3, kernelRun0_A.sl.r_4,
      kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13,
      kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22,
      kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31,
      kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40,
      kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49,
      kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58,
      kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67,
      kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76,
      kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85,
      kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94,
      kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103,
      kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112,
      kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121,
      kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130,
      kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139,
      kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148,
      kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157,
      kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166,
      kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175,
      kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184,
      kernelRun0_A.sl.r_185, kernelRun0_A.sl.r_186, kernelRun0_A.sl.r_187, kernelRun0_A.sl.r_188, kernelRun0_A.sl.cst_112, kernelRun0_A.sl.cst_241, kernelRun0_A.sl.cst_385, kernelRun0_A.sl.cst_531, kernelRun0_A.sl.cst_657,
      k0_pay1, k0_pay5, k0_pay6, k0_pay7, k0_pay8, k0_pay9, k0_pay10, k0_pay11, k0_pay12,
      k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57,
      k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75,
      k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93,
      k0_pay94, k0_pay95, k0_pay96, k0_pay97, k0_pay98, k0_pay99, k0_pay100, k0_pay101, k0_pay102,
      k0_pay103, k0_pay104, k0_pay105, k0_pay106, k0_pay107, k0_pay108, k0_pay109, k0_pay110, k0_pay111,
      k0_pay112, k0_pay113, k0_pay114, k0_pay115, k0_pay116, k0_pay117, k0_pay118, k0_pay119, k0_pay120,
      k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138,
      k0_pay139, k0_pay140, k0_pay141, k0_pay142, k0_pay143, k0_pay144, k0_pay145, k0_pay146, k0_pay147,
      k0_pay148, k0_pay149, k0_pay150, k0_pay151, k0_pay152, k0_pay153, k0_pay154, k0_pay155, k0_pay156,
      k0_pay157, k0_pay158, k0_pay159, k0_pay160, k0_pay161, k0_pay162, k0_pay163, k0_pay164, k0_pay165,
      k0_pay166, k0_pay167, k0_pay168, k0_pay169, k0_pay170, k0_pay171, k0_pay172, k0_pay173, k0_pay174,
      k0_pay175, k0_pay176, k0_pay177, k0_pay178, k0_pay179, k0_pay180, k0_pay181, k0_pay182, k0_pay183,
      k0_pay184, k0_pay185, k0_pay186, k0_pay187, k0_pay188, k0_pay189, k0_pay190, k0_pay191, k0_pay192,
      k0_pay193, k0_pay194, k0_pay195, k0_pay196, k0_pay197, k0_pay198, k0_pay199, k0_pay200, k0_pay201,
      k0_pay202, k0_pay203, k0_pay204, k0_pay205, k0_pay206, k0_pay207, k0_pay208, k0_pay209, k0_pay210,
      k0_pay211, k0_pay212, k0_pay213, k0_pay214, k0_pay215, k0_pay216, k0_pay217, k0_pay218, k0_pay219,
      k0_pay220, k0_pay221, k0_pay222, k0_pay223, k0_pay224, k0_pay225, k0_pay226, k0_pay227, k0_pay228,
      k0_pay229, k0_pay230, k0_pay231, k0_pay232, k0_pay233, k0_pay234, k0_pay235, k0_pay236, k0_pay237,
      k0_pay238, k0_pay239, k0_pay240, k0_pay241, k0_pay242, k0_pay243, k0_pay244, k0_pay245, k0_pay246,
      k0_pay247, k0_pay248, k0_pay249, k0_pay250, k0_pay251, k0_pay252, k0_pay253, k0_pay254, k0_pay255,
      k0_pay256, k0_pay257, k0_pay258, k0_pay259, k0_pay260, k0_pay261, k0_pay262, k0_pay263, k0_pay264,
      k0_pay265, k0_pay266, k0_pay267, k0_pay268, k0_pay269, k0_pay270, k0_pay271, k0_pay272, k0_pay273,
      k0_pay274, k0_pay275, k0_pay276, k0_pay277, k0_pay278, k0_pay279, k0_pay280, k0_pay281, k0_pay282,
      k0_pay283, k0_pay284, k0_pay285, k0_pay286, k0_pay287, k0_pay288, k0_pay289, k0_pay290, k0_pay291,
      k0_pay292, k0_pay293, k0_pay294, k0_pay295, k0_pay296, k0_pay297, k0_pay298, k0_pay299, k0_pay300,
      k0_pay301, k0_pay302, k0_pay303, k0_pay304, k0_pay305, k0_pay306, k0_pay307, k0_pay308, k0_pay309,
      k0_pay310, k0_pay311, k0_pay312, k0_pay313, k0_pay314, k0_pay315, k0_pay316, k0_pay317, k0_pay318,
      k0_pay319, k0_pay320, k0_pay321, k0_pay322, k0_pay323, k0_pay324, k0_pay325, k0_pay326, k0_pay327,
      k0_pay328, k0_pay329, k0_pay330, k0_pay331, k0_pay332, k0_pay333, k0_pay334, k0_pay335, k0_pay336,
      k0_pay337, k0_pay338, k0_pay339, k0_pay340, k0_pay341, k0_pay342, k0_pay343, k0_pay344, k0_pay345,
      k0_pay346, k0_pay347, k0_pay348, k0_pay349, k0_pay350, k0_pay351, k0_pay352, k0_pay353, k0_pay354,
      k0_pay355, k0_pay356, k0_pay357, k0_pay358, k0_pay359, k0_pay360, yA, yB, hsK,
      uK, xK, headA, headB, hs, states, scanA, scanV, scanIn,
      logA, soft, gateI, gateR, gates, convB, convA, prod, normed,
      meanSq, last8, last1, num, over, chan, tile, rows, gelu,
      shift_eq 1#32, shift_eq 2#32, shift_eq 3#32, stepA_eq 1#32, stepV_eq 1#32, stepA_eq 2#32, stepV_eq 2#32, stepA_eq 4#32, stepV_eq 4#32,
      stepA_eq 8#32, stepV_eq 8#32, stepA_eq 16#32, stepV_eq 16#32, stepA_eq 32#32, stepV_eq 32#32, stepA_eq 64#32, stepV_eq 64#32, stepA_eq 128#32,
      stepV_eq 128#32, Nat.reduceMul, Nat.reduceAdd]
    simp only [readAt_cols, readAt_row1, readAt_row3, readAt_row4, readAt_eight, readAt_gate, readAt_all]

theorem keepHA  (c : Dev nD) (i : grid0.Coords) (arg2 : Memref sig .tc .vmem S1x256x5120 .f32) (harg2 : arg2.IsWhole) (arg3 : Memref sig .tc .vmem S3x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x256x2048 .bf16) (harg14 : arg14.IsWhole) (arg15 : Memref sig .tc .vmem S8x1024 .f32) (harg15 : arg15.IsWhole) (arg16 : Memref sig .tc .vmem S8x1024 .f32) (harg16 : arg16.IsWhole) (arg17 : Memref sig .tc .vmem S1x1024 .f32) (harg17 : arg17.IsWhole) (hc0 : cond0_0 i)
    (x0 : Vec F S1x256x5120 .f32) (x1 : Vec F S3x1024 .f32) (x2 : Vec F S4x1024 .f32) (x3 : Vec F S1x1024 .f32) (x4 : Vec F S8x128x256 .bf16) (x5 : Vec F S1x1024 .f32) (x6 : Vec F S1x1024 .f32) (x7 : Vec F S1x1024 .f32) (x8 : Vec F S1x1024 .f32) (x9 : Vec F S1x1024 .f32) (x10 : Vec F S128x128 .bf16) (x11 : Vec F S128x128 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).2.2.2.1 = [
      keep1 7 (by decide) (last1 (hsK (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 7 (eightAt k0_pay3 896) (rowAt (n := 1) k0_pay4 0 896))),
      keep1 6 (by decide) (last1 (hsK (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 6 (eightAt k0_pay3 768) (rowAt (n := 1) k0_pay4 0 768))),
      keep1 5 (by decide) (last1 (hsK (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 5 (eightAt k0_pay3 640) (rowAt (n := 1) k0_pay4 0 640))),
      keep1 4 (by decide) (last1 (hsK (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 4 (eightAt k0_pay3 512) (rowAt (n := 1) k0_pay4 0 512))),
      keep1 3 (by decide) (last1 (hsK (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 3 (eightAt k0_pay3 384) (rowAt (n := 1) k0_pay4 0 384))),
      keep1 2 (by decide) (last1 (hsK (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 2 (eightAt k0_pay3 256) (rowAt (n := 1) k0_pay4 0 256))),
      keep1 1 (by decide) (last1 (hsK (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 1 (eightAt k0_pay3 128) (rowAt (n := 1) k0_pay4 0 128))),
      keep1 0 (by decide) (last1 (hsK (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 0 (eightAt k0_pay3 0) (rowAt (n := 1) k0_pay4 0 0))),
      ⟨Rect.unit (s := S1x1024) ![0, 0] ![1, 1024] (by decide), k0_pay4⟩] := by
  unfold kernelRun0_A keep1
  dsimp only
  refine congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (rfl))))))))
  all_goals
    simp only [kernelRun0_A.sl.r, kernelRun0_A.sl.v0, kernelRun0_A.sl.v1, kernelRun0_A.sl.v2, kernelRun0_A.sl.v3, kernelRun0_A.sl.r_1, kernelRun0_A.sl.r_2, kernelRun0_A.sl.r_3, kernelRun0_A.sl.r_4,
      kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13,
      kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22,
      kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31,
      kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40,
      kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49,
      kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58,
      kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67,
      kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76,
      kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85,
      kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94,
      kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103,
      kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112,
      kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121,
      kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130,
      kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139,
      kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148,
      kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157,
      kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166,
      kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175,
      kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184,
      kernelRun0_A.sl.r_185, kernelRun0_A.sl.r_186, kernelRun0_A.sl.r_187, kernelRun0_A.sl.r_188, kernelRun0_A.sl.cst_112, kernelRun0_A.sl.cst_241, kernelRun0_A.sl.cst_385, kernelRun0_A.sl.cst_531, kernelRun0_A.sl.cst_657,
      k0_pay1, k0_pay5, k0_pay6, k0_pay7, k0_pay8, k0_pay9, k0_pay10, k0_pay11, k0_pay12,
      k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57,
      k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75,
      k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93,
      k0_pay94, k0_pay95, k0_pay96, k0_pay97, k0_pay98, k0_pay99, k0_pay100, k0_pay101, k0_pay102,
      k0_pay103, k0_pay104, k0_pay105, k0_pay106, k0_pay107, k0_pay108, k0_pay109, k0_pay110, k0_pay111,
      k0_pay112, k0_pay113, k0_pay114, k0_pay115, k0_pay116, k0_pay117, k0_pay118, k0_pay119, k0_pay120,
      k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138,
      k0_pay139, k0_pay140, k0_pay141, k0_pay142, k0_pay143, k0_pay144, k0_pay145, k0_pay146, k0_pay147,
      k0_pay148, k0_pay149, k0_pay150, k0_pay151, k0_pay152, k0_pay153, k0_pay154, k0_pay155, k0_pay156,
      k0_pay157, k0_pay158, k0_pay159, k0_pay160, k0_pay161, k0_pay162, k0_pay163, k0_pay164, k0_pay165,
      k0_pay166, k0_pay167, k0_pay168, k0_pay169, k0_pay170, k0_pay171, k0_pay172, k0_pay173, k0_pay174,
      k0_pay175, k0_pay176, k0_pay177, k0_pay178, k0_pay179, k0_pay180, k0_pay181, k0_pay182, k0_pay183,
      k0_pay184, k0_pay185, k0_pay186, k0_pay187, k0_pay188, k0_pay189, k0_pay190, k0_pay191, k0_pay192,
      k0_pay193, k0_pay194, k0_pay195, k0_pay196, k0_pay197, k0_pay198, k0_pay199, k0_pay200, k0_pay201,
      k0_pay202, k0_pay203, k0_pay204, k0_pay205, k0_pay206, k0_pay207, k0_pay208, k0_pay209, k0_pay210,
      k0_pay211, k0_pay212, k0_pay213, k0_pay214, k0_pay215, k0_pay216, k0_pay217, k0_pay218, k0_pay219,
      k0_pay220, k0_pay221, k0_pay222, k0_pay223, k0_pay224, k0_pay225, k0_pay226, k0_pay227, k0_pay228,
      k0_pay229, k0_pay230, k0_pay231, k0_pay232, k0_pay233, k0_pay234, k0_pay235, k0_pay236, k0_pay237,
      k0_pay238, k0_pay239, k0_pay240, k0_pay241, k0_pay242, k0_pay243, k0_pay244, k0_pay245, k0_pay246,
      k0_pay247, k0_pay248, k0_pay249, k0_pay250, k0_pay251, k0_pay252, k0_pay253, k0_pay254, k0_pay255,
      k0_pay256, k0_pay257, k0_pay258, k0_pay259, k0_pay260, k0_pay261, k0_pay262, k0_pay263, k0_pay264,
      k0_pay265, k0_pay266, k0_pay267, k0_pay268, k0_pay269, k0_pay270, k0_pay271, k0_pay272, k0_pay273,
      k0_pay274, k0_pay275, k0_pay276, k0_pay277, k0_pay278, k0_pay279, k0_pay280, k0_pay281, k0_pay282,
      k0_pay283, k0_pay284, k0_pay285, k0_pay286, k0_pay287, k0_pay288, k0_pay289, k0_pay290, k0_pay291,
      k0_pay292, k0_pay293, k0_pay294, k0_pay295, k0_pay296, k0_pay297, k0_pay298, k0_pay299, k0_pay300,
      k0_pay301, k0_pay302, k0_pay303, k0_pay304, k0_pay305, k0_pay306, k0_pay307, k0_pay308, k0_pay309,
      k0_pay310, k0_pay311, k0_pay312, k0_pay313, k0_pay314, k0_pay315, k0_pay316, k0_pay317, k0_pay318,
      k0_pay319, k0_pay320, k0_pay321, k0_pay322, k0_pay323, k0_pay324, k0_pay325, k0_pay326, k0_pay327,
      k0_pay328, k0_pay329, k0_pay330, k0_pay331, k0_pay332, k0_pay333, k0_pay334, k0_pay335, k0_pay336,
      k0_pay337, k0_pay338, k0_pay339, k0_pay340, k0_pay341, k0_pay342, k0_pay343, k0_pay344, k0_pay345,
      k0_pay346, k0_pay347, k0_pay348, k0_pay349, k0_pay350, k0_pay351, k0_pay352, k0_pay353, k0_pay354,
      k0_pay355, k0_pay356, k0_pay357, k0_pay358, k0_pay359, k0_pay360, yA, yB, hsK,
      uK, xK, headA, headB, hs, states, scanA, scanV, scanIn,
      logA, soft, gateI, gateR, gates, convB, convA, prod, normed,
      meanSq, last8, last1, num, over, chan, tile, rows, gelu,
      shift_eq 1#32, shift_eq 2#32, shift_eq 3#32, stepA_eq 1#32, stepV_eq 1#32, stepA_eq 2#32, stepV_eq 2#32, stepA_eq 4#32, stepV_eq 4#32,
      stepA_eq 8#32, stepV_eq 8#32, stepA_eq 16#32, stepV_eq 16#32, stepA_eq 32#32, stepV_eq 32#32, stepA_eq 64#32, stepV_eq 64#32, stepA_eq 128#32,
      stepV_eq 128#32, Nat.reduceMul, Nat.reduceAdd]
    simp (disch := decide) only [readAt_cols, readAt_row1, readAt_row3, readAt_row4, readAt_gate, readAt_all,
      kernelRun0_A.sl.v1178, kernelRun0_A.sl.v621, kernelRun0_A.sl.v1483, kernelRun0_A.sl.v687, kernelRun0_A.sl.v926, kernelRun0_A.sl.v263, kernelRun0_A.sl.v316, kernelRun0_A.sl.v1231, kernelRun0_A.sl.v992,
      kernelRun0_A.sl.v1788, kernelRun0_A.sl.v1297, kernelRun0_A.sl.v382, kernelRun0_A.sl.v568, kernelRun0_A.sl.v2146, kernelRun0_A.sl.v77, kernelRun0_A.sl.v1536, kernelRun0_A.sl.v11, kernelRun0_A.sl.v1841,
      kernelRun0_A.sl.v1907, kernelRun0_A.sl.v2398, kernelRun0_A.sl.v2212, kernelRun0_A.sl.v873, kernelRun0_A.sl.v2093, kernelRun0_A.sl.v1602,
      kernelRun0_A.sl.HS1_2, kernelRun0_A.sl.HS1_5, kernelRun0_A.sl.HS2_1, kernelRun0_A.sl.HS0_2, kernelRun0_A.sl.HS2_2, kernelRun0_A.sl.HS0_6, kernelRun0_A.sl.HS2_5, kernelRun0_A.sl.HS0_4, kernelRun0_A.sl.HS2_3,
      kernelRun0_A.sl.HS1_8, kernelRun0_A.sl.HS0_8, kernelRun0_A.sl.HS1_7, kernelRun0_A.sl.HS0_3, kernelRun0_A.sl.HS2_6, kernelRun0_A.sl.HS0_7, kernelRun0_A.sl.HS2_7, kernelRun0_A.sl.HS2_8, kernelRun0_A.sl.HS0_1,
      kernelRun0_A.sl.HS2_4, kernelRun0_A.sl.HS1_3, kernelRun0_A.sl.HS0_5, kernelRun0_A.sl.HS1_1, kernelRun0_A.sl.HS1_6, kernelRun0_A.sl.HS1_4,
      ↓View.readCov_skip, ↓readCov_eight_fill, ↓readCov_row_fill]

end Cert.KernelIdeal.Mix

end
-- ==== Proof.MixRunB.lean ====
module

public import proofs.«01_k».proof.Proof.MixPieces

@[expose] public section

set_option maxRecDepth 16384
set_option maxHeartbeats 8000000

noncomputable section

/-! The pieces a grid point stores after the first tile of a sequence, as the heads' branches. -/

namespace Cert.KernelIdeal.Mix

open Cert.KernelIdeal Cert.KernelIdeal.Gen Idealize.ShloMosaic Idealize.ShloMosaic.TcCoe Idealize.SL.Sem

variable {F : FTy → Type} [FloatOps F]

theorem outB  (c : Dev nD) (i : grid0.Coords) (arg2 : Memref sig .tc .vmem S1x256x5120 .f32) (harg2 : arg2.IsWhole) (arg3 : Memref sig .tc .vmem S3x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x256x2048 .bf16) (harg14 : arg14.IsWhole) (arg15 : Memref sig .tc .vmem S8x1024 .f32) (harg15 : arg15.IsWhole) (arg16 : Memref sig .tc .vmem S8x1024 .f32) (harg16 : arg16.IsWhole) (arg17 : Memref sig .tc .vmem S1x1024 .f32) (harg17 : arg17.IsWhole) (hc0 : ¬cond0_0 i)
    (x0 : Vec F S1x256x5120 .f32) (x1 : Vec F S3x1024 .f32) (x2 : Vec F S4x1024 .f32) (x3 : Vec F S1x1024 .f32) (x4 : Vec F S8x128x256 .bf16) (x5 : Vec F S1x1024 .f32) (x6 : Vec F S1x1024 .f32) (x7 : Vec F S1x1024 .f32) (x8 : Vec F S1x1024 .f32) (x9 : Vec F S1x1024 .f32) (x10 : Vec F S128x128 .bf16) (x11 : Vec F S128x128 .bf16) (xs0 : Vec F S8x1024 .f32) (xs1 : Vec F S8x1024 .f32) (xs2 : Vec F S1x1024 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1 xs2).1 = [
      pieceB (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 7 (by decide) (eightAt (arg16.view.read (Elt F) (harg16.unread xs1)) 896) (rowAt (n := 1) (arg17.view.read (Elt F) (harg17.unread xs2)) 0 896),
      pieceA (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 7 (by decide) (eightAt (arg15.view.read (Elt F) (harg15.unread xs0)) 896),
      pieceB (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 6 (by decide) (eightAt (arg16.view.read (Elt F) (harg16.unread xs1)) 768) (rowAt (n := 1) (arg17.view.read (Elt F) (harg17.unread xs2)) 0 768),
      pieceA (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 6 (by decide) (eightAt (arg15.view.read (Elt F) (harg15.unread xs0)) 768),
      pieceB (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 5 (by decide) (eightAt (arg16.view.read (Elt F) (harg16.unread xs1)) 640) (rowAt (n := 1) (arg17.view.read (Elt F) (harg17.unread xs2)) 0 640),
      pieceA (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 5 (by decide) (eightAt (arg15.view.read (Elt F) (harg15.unread xs0)) 640),
      pieceB (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 4 (by decide) (eightAt (arg16.view.read (Elt F) (harg16.unread xs1)) 512) (rowAt (n := 1) (arg17.view.read (Elt F) (harg17.unread xs2)) 0 512),
      pieceA (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 4 (by decide) (eightAt (arg15.view.read (Elt F) (harg15.unread xs0)) 512),
      pieceB (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 3 (by decide) (eightAt (arg16.view.read (Elt F) (harg16.unread xs1)) 384) (rowAt (n := 1) (arg17.view.read (Elt F) (harg17.unread xs2)) 0 384),
      pieceA (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 3 (by decide) (eightAt (arg15.view.read (Elt F) (harg15.unread xs0)) 384),
      pieceB (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 2 (by decide) (eightAt (arg16.view.read (Elt F) (harg16.unread xs1)) 256) (rowAt (n := 1) (arg17.view.read (Elt F) (harg17.unread xs2)) 0 256),
      pieceA (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 2 (by decide) (eightAt (arg15.view.read (Elt F) (harg15.unread xs0)) 256),
      pieceB (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 1 (by decide) (eightAt (arg16.view.read (Elt F) (harg16.unread xs1)) 128) (rowAt (n := 1) (arg17.view.read (Elt F) (harg17.unread xs2)) 0 128),
      pieceA (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 1 (by decide) (eightAt (arg15.view.read (Elt F) (harg15.unread xs0)) 128),
      pieceB (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 0 (by decide) (eightAt (arg16.view.read (Elt F) (harg16.unread xs1)) 0) (rowAt (n := 1) (arg17.view.read (Elt F) (harg17.unread xs2)) 0 0),
      pieceA (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 0 (by decide) (eightAt (arg15.view.read (Elt F) (harg15.unread xs0)) 0)] := by
  unfold kernelRun0_B pieceA pieceB
  dsimp only
  refine congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (rfl))))))))))))))))
  all_goals
    simp only [kernelRun0_B.sl.r, kernelRun0_B.sl.v0, kernelRun0_B.sl.v1, kernelRun0_B.sl.v2, kernelRun0_B.sl.v3, kernelRun0_B.sl.r_1, kernelRun0_B.sl.r_2, kernelRun0_B.sl.r_3, kernelRun0_B.sl.r_4,
      kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13,
      kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22,
      kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31,
      kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40,
      kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49,
      kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58,
      kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67,
      kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76,
      kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85,
      kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94,
      kernelRun0_B.sl.r_95, kernelRun0_B.sl.r_96, kernelRun0_B.sl.r_97, kernelRun0_B.sl.r_98, kernelRun0_B.sl.r_99, kernelRun0_B.sl.v316, kernelRun0_B.sl.v382, kernelRun0_B.sl.v568, kernelRun0_B.sl.v621,
      kernelRun0_B.sl.v687, kernelRun0_B.sl.v873, kernelRun0_B.sl.v926, kernelRun0_B.sl.v992, kernelRun0_B.sl.r_100, kernelRun0_B.sl.r_101, kernelRun0_B.sl.r_102, kernelRun0_B.sl.r_103, kernelRun0_B.sl.r_104,
      kernelRun0_B.sl.r_105, kernelRun0_B.sl.r_106, kernelRun0_B.sl.r_107, kernelRun0_B.sl.r_108, kernelRun0_B.sl.r_109, kernelRun0_B.sl.r_110, kernelRun0_B.sl.r_111, kernelRun0_B.sl.r_112, kernelRun0_B.sl.r_113,
      kernelRun0_B.sl.r_114, kernelRun0_B.sl.r_115, kernelRun0_B.sl.r_116, kernelRun0_B.sl.r_117, kernelRun0_B.sl.r_118, kernelRun0_B.sl.r_119, kernelRun0_B.sl.r_120, kernelRun0_B.sl.r_121, kernelRun0_B.sl.r_122,
      kernelRun0_B.sl.r_123, kernelRun0_B.sl.r_124, kernelRun0_B.sl.r_125, kernelRun0_B.sl.r_126, kernelRun0_B.sl.r_127, kernelRun0_B.sl.r_128, kernelRun0_B.sl.r_129, kernelRun0_B.sl.r_130, kernelRun0_B.sl.r_131,
      kernelRun0_B.sl.r_132, kernelRun0_B.sl.r_133, kernelRun0_B.sl.r_134, kernelRun0_B.sl.r_135, kernelRun0_B.sl.r_136, kernelRun0_B.sl.r_137, kernelRun0_B.sl.r_138, kernelRun0_B.sl.r_139, kernelRun0_B.sl.r_140,
      kernelRun0_B.sl.r_141, kernelRun0_B.sl.r_142, kernelRun0_B.sl.r_143, kernelRun0_B.sl.r_144, kernelRun0_B.sl.r_145, kernelRun0_B.sl.r_146, kernelRun0_B.sl.r_147, kernelRun0_B.sl.r_148, kernelRun0_B.sl.r_149,
      kernelRun0_B.sl.r_150, kernelRun0_B.sl.r_151, kernelRun0_B.sl.r_152, kernelRun0_B.sl.r_153, kernelRun0_B.sl.r_154, kernelRun0_B.sl.r_155, kernelRun0_B.sl.r_156, kernelRun0_B.sl.r_157, kernelRun0_B.sl.r_158,
      kernelRun0_B.sl.r_159, kernelRun0_B.sl.r_160, kernelRun0_B.sl.r_161, kernelRun0_B.sl.r_162, kernelRun0_B.sl.r_163, kernelRun0_B.sl.r_164, kernelRun0_B.sl.r_165, kernelRun0_B.sl.r_166, kernelRun0_B.sl.r_167,
      kernelRun0_B.sl.r_168, kernelRun0_B.sl.r_169, kernelRun0_B.sl.r_170, kernelRun0_B.sl.r_171, kernelRun0_B.sl.r_172, kernelRun0_B.sl.r_173, kernelRun0_B.sl.r_174, kernelRun0_B.sl.r_175, kernelRun0_B.sl.r_176,
      kernelRun0_B.sl.r_177, kernelRun0_B.sl.r_178, kernelRun0_B.sl.r_179, kernelRun0_B.sl.r_180, kernelRun0_B.sl.r_181, kernelRun0_B.sl.r_182, kernelRun0_B.sl.r_183, kernelRun0_B.sl.r_184, kernelRun0_B.sl.r_185,
      kernelRun0_B.sl.r_186, kernelRun0_B.sl.r_187, kernelRun0_B.sl.r_188, kernelRun0_B.sl.r_189, kernelRun0_B.sl.r_190, kernelRun0_B.sl.v1178, kernelRun0_B.sl.v1231, kernelRun0_B.sl.v1297, kernelRun0_B.sl.v1483,
      kernelRun0_B.sl.v1536, kernelRun0_B.sl.v1602, kernelRun0_B.sl.v1788, kernelRun0_B.sl.v1841, kernelRun0_B.sl.v1907, kernelRun0_B.sl.v2093, kernelRun0_B.sl.v2146, kernelRun0_B.sl.v2212, kernelRun0_B.sl.v2398,
      kernelRun0_B.sl.cst_112, kernelRun0_B.sl.cst_241, kernelRun0_B.sl.cst_385, kernelRun0_B.sl.cst_531, kernelRun0_B.sl.cst_657, k0_pay1, k0_pay5, k0_pay6, k0_pay7,
      k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25,
      k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52,
      k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79,
      k0_pay80, k0_pay81, k0_pay82, k0_pay83, k0_pay84, k0_pay85, k0_pay86, k0_pay87, k0_pay88,
      k0_pay89, k0_pay90, k0_pay91, k0_pay92, k0_pay93, k0_pay94, k0_pay95, k0_pay96, k0_pay97,
      k0_pay98, k0_pay99, k0_pay100, k0_pay101, k0_pay102, k0_pay103, k0_pay104, k0_pay105, k0_pay106,
      k0_pay107, k0_pay108, k0_pay109, k0_pay110, k0_pay111, k0_pay112, k0_pay113, k0_pay114, k0_pay115,
      k0_pay116, k0_pay117, k0_pay118, k0_pay119, k0_pay120, k0_pay121, k0_pay122, k0_pay123, k0_pay124,
      k0_pay125, k0_pay126, k0_pay127, k0_pay128, k0_pay129, k0_pay130, k0_pay131, k0_pay132, k0_pay133,
      k0_pay134, k0_pay135, k0_pay136, k0_pay137, k0_pay138, k0_pay139, k0_pay140, k0_pay141, k0_pay142,
      k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160,
      k0_pay161, k0_pay162, k0_pay163, k0_pay164, k0_pay165, k0_pay166, k0_pay167, k0_pay168, k0_pay169,
      k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187,
      k0_pay188, k0_pay189, k0_pay190, k0_pay191, k0_pay192, k0_pay193, k0_pay194, k0_pay195, k0_pay196,
      k0_pay197, k0_pay198, k0_pay199, k0_pay200, k0_pay201, k0_pay202, k0_pay203, k0_pay204, k0_pay205,
      k0_pay206, k0_pay207, k0_pay208, k0_pay209, k0_pay210, k0_pay211, k0_pay212, k0_pay213, k0_pay214,
      k0_pay215, k0_pay216, k0_pay217, k0_pay218, k0_pay219, k0_pay220, k0_pay221, k0_pay222, k0_pay223,
      k0_pay224, k0_pay225, k0_pay226, k0_pay227, k0_pay228, k0_pay229, k0_pay230, k0_pay231, k0_pay232,
      k0_pay233, k0_pay234, k0_pay235, k0_pay236, k0_pay237, k0_pay238, k0_pay239, k0_pay240, k0_pay241,
      k0_pay242, k0_pay243, k0_pay244, k0_pay245, k0_pay246, k0_pay247, k0_pay248, k0_pay249, k0_pay250,
      k0_pay251, k0_pay252, k0_pay253, k0_pay254, k0_pay255, k0_pay256, k0_pay257, k0_pay258, k0_pay259,
      k0_pay260, k0_pay261, k0_pay262, k0_pay263, k0_pay264, k0_pay265, k0_pay266, k0_pay267, k0_pay268,
      k0_pay269, k0_pay270, k0_pay271, k0_pay272, k0_pay273, k0_pay274, k0_pay275, k0_pay276, k0_pay277,
      k0_pay278, k0_pay279, k0_pay280, k0_pay281, k0_pay282, k0_pay283, k0_pay284, k0_pay285, k0_pay286,
      k0_pay287, k0_pay288, k0_pay289, k0_pay290, k0_pay291, k0_pay292, k0_pay293, k0_pay294, k0_pay295,
      k0_pay296, k0_pay297, k0_pay298, k0_pay299, k0_pay300, k0_pay301, k0_pay302, k0_pay303, k0_pay304,
      k0_pay305, k0_pay306, k0_pay307, k0_pay308, k0_pay309, k0_pay310, k0_pay311, k0_pay312, k0_pay313,
      k0_pay314, k0_pay315, k0_pay316, k0_pay317, k0_pay318, k0_pay319, k0_pay320, k0_pay321, k0_pay322,
      k0_pay323, k0_pay324, k0_pay325, k0_pay326, k0_pay327, k0_pay328, k0_pay329, k0_pay330, k0_pay331,
      k0_pay332, k0_pay333, k0_pay334, k0_pay335, k0_pay336, k0_pay337, k0_pay338, k0_pay339, k0_pay340,
      k0_pay341, k0_pay342, k0_pay343, k0_pay344, k0_pay345, k0_pay346, k0_pay347, k0_pay348, k0_pay349,
      k0_pay350, k0_pay351, k0_pay352, k0_pay353, k0_pay354, k0_pay355, k0_pay356, k0_pay357, k0_pay358,
      k0_pay359, k0_pay360, yA, yB, hsK, uK, xK, headA, headB,
      hs, states, scanA, scanV, scanIn, logA, soft, gateI, gateR,
      gates, convB, convA, prod, normed, meanSq, last8, last1, num,
      over, chan, tile, rows, gelu, shift_eq 1#32, shift_eq 2#32, shift_eq 3#32, stepA_eq 1#32,
      stepV_eq 1#32, stepA_eq 2#32, stepV_eq 2#32, stepA_eq 4#32, stepV_eq 4#32, stepA_eq 8#32, stepV_eq 8#32, stepA_eq 16#32, stepV_eq 16#32,
      stepA_eq 32#32, stepV_eq 32#32, stepA_eq 64#32, stepV_eq 64#32, stepA_eq 128#32, stepV_eq 128#32, Nat.reduceMul, Nat.reduceAdd]
    simp only [readAt_cols, readAt_row1, readAt_row3, readAt_row4, readAt_eight, readAt_gate, readAt_all]

theorem keepUB  (c : Dev nD) (i : grid0.Coords) (arg2 : Memref sig .tc .vmem S1x256x5120 .f32) (harg2 : arg2.IsWhole) (arg3 : Memref sig .tc .vmem S3x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x256x2048 .bf16) (harg14 : arg14.IsWhole) (arg15 : Memref sig .tc .vmem S8x1024 .f32) (harg15 : arg15.IsWhole) (arg16 : Memref sig .tc .vmem S8x1024 .f32) (harg16 : arg16.IsWhole) (arg17 : Memref sig .tc .vmem S1x1024 .f32) (harg17 : arg17.IsWhole) (hc0 : ¬cond0_0 i)
    (x0 : Vec F S1x256x5120 .f32) (x1 : Vec F S3x1024 .f32) (x2 : Vec F S4x1024 .f32) (x3 : Vec F S1x1024 .f32) (x4 : Vec F S8x128x256 .bf16) (x5 : Vec F S1x1024 .f32) (x6 : Vec F S1x1024 .f32) (x7 : Vec F S1x1024 .f32) (x8 : Vec F S1x1024 .f32) (x9 : Vec F S1x1024 .f32) (x10 : Vec F S128x128 .bf16) (x11 : Vec F S128x128 .bf16) (xs0 : Vec F S8x1024 .f32) (xs1 : Vec F S8x1024 .f32) (xs2 : Vec F S1x1024 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1 xs2).2.1 = [
      keep8 7 (by decide) (uK (arg2.view.read (Elt F) (harg2.unread x0)) 7),
      keep8 6 (by decide) (uK (arg2.view.read (Elt F) (harg2.unread x0)) 6),
      keep8 5 (by decide) (uK (arg2.view.read (Elt F) (harg2.unread x0)) 5),
      keep8 4 (by decide) (uK (arg2.view.read (Elt F) (harg2.unread x0)) 4),
      keep8 3 (by decide) (uK (arg2.view.read (Elt F) (harg2.unread x0)) 3),
      keep8 2 (by decide) (uK (arg2.view.read (Elt F) (harg2.unread x0)) 2),
      keep8 1 (by decide) (uK (arg2.view.read (Elt F) (harg2.unread x0)) 1),
      keep8 0 (by decide) (uK (arg2.view.read (Elt F) (harg2.unread x0)) 0)] := by
  unfold kernelRun0_B keep8
  dsimp only
  refine congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (rfl))))))))
  all_goals
    simp only [kernelRun0_B.sl.r, kernelRun0_B.sl.v0, kernelRun0_B.sl.v1, kernelRun0_B.sl.v2, kernelRun0_B.sl.v3, kernelRun0_B.sl.r_1, kernelRun0_B.sl.r_2, kernelRun0_B.sl.r_3, kernelRun0_B.sl.r_4,
      kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13,
      kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22,
      kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31,
      kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40,
      kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49,
      kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58,
      kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67,
      kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76,
      kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85,
      kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94,
      kernelRun0_B.sl.r_95, kernelRun0_B.sl.r_96, kernelRun0_B.sl.r_97, kernelRun0_B.sl.r_98, kernelRun0_B.sl.r_99, kernelRun0_B.sl.v316, kernelRun0_B.sl.v382, kernelRun0_B.sl.v568, kernelRun0_B.sl.v621,
      kernelRun0_B.sl.v687, kernelRun0_B.sl.v873, kernelRun0_B.sl.v926, kernelRun0_B.sl.v992, kernelRun0_B.sl.r_100, kernelRun0_B.sl.r_101, kernelRun0_B.sl.r_102, kernelRun0_B.sl.r_103, kernelRun0_B.sl.r_104,
      kernelRun0_B.sl.r_105, kernelRun0_B.sl.r_106, kernelRun0_B.sl.r_107, kernelRun0_B.sl.r_108, kernelRun0_B.sl.r_109, kernelRun0_B.sl.r_110, kernelRun0_B.sl.r_111, kernelRun0_B.sl.r_112, kernelRun0_B.sl.r_113,
      kernelRun0_B.sl.r_114, kernelRun0_B.sl.r_115, kernelRun0_B.sl.r_116, kernelRun0_B.sl.r_117, kernelRun0_B.sl.r_118, kernelRun0_B.sl.r_119, kernelRun0_B.sl.r_120, kernelRun0_B.sl.r_121, kernelRun0_B.sl.r_122,
      kernelRun0_B.sl.r_123, kernelRun0_B.sl.r_124, kernelRun0_B.sl.r_125, kernelRun0_B.sl.r_126, kernelRun0_B.sl.r_127, kernelRun0_B.sl.r_128, kernelRun0_B.sl.r_129, kernelRun0_B.sl.r_130, kernelRun0_B.sl.r_131,
      kernelRun0_B.sl.r_132, kernelRun0_B.sl.r_133, kernelRun0_B.sl.r_134, kernelRun0_B.sl.r_135, kernelRun0_B.sl.r_136, kernelRun0_B.sl.r_137, kernelRun0_B.sl.r_138, kernelRun0_B.sl.r_139, kernelRun0_B.sl.r_140,
      kernelRun0_B.sl.r_141, kernelRun0_B.sl.r_142, kernelRun0_B.sl.r_143, kernelRun0_B.sl.r_144, kernelRun0_B.sl.r_145, kernelRun0_B.sl.r_146, kernelRun0_B.sl.r_147, kernelRun0_B.sl.r_148, kernelRun0_B.sl.r_149,
      kernelRun0_B.sl.r_150, kernelRun0_B.sl.r_151, kernelRun0_B.sl.r_152, kernelRun0_B.sl.r_153, kernelRun0_B.sl.r_154, kernelRun0_B.sl.r_155, kernelRun0_B.sl.r_156, kernelRun0_B.sl.r_157, kernelRun0_B.sl.r_158,
      kernelRun0_B.sl.r_159, kernelRun0_B.sl.r_160, kernelRun0_B.sl.r_161, kernelRun0_B.sl.r_162, kernelRun0_B.sl.r_163, kernelRun0_B.sl.r_164, kernelRun0_B.sl.r_165, kernelRun0_B.sl.r_166, kernelRun0_B.sl.r_167,
      kernelRun0_B.sl.r_168, kernelRun0_B.sl.r_169, kernelRun0_B.sl.r_170, kernelRun0_B.sl.r_171, kernelRun0_B.sl.r_172, kernelRun0_B.sl.r_173, kernelRun0_B.sl.r_174, kernelRun0_B.sl.r_175, kernelRun0_B.sl.r_176,
      kernelRun0_B.sl.r_177, kernelRun0_B.sl.r_178, kernelRun0_B.sl.r_179, kernelRun0_B.sl.r_180, kernelRun0_B.sl.r_181, kernelRun0_B.sl.r_182, kernelRun0_B.sl.r_183, kernelRun0_B.sl.r_184, kernelRun0_B.sl.r_185,
      kernelRun0_B.sl.r_186, kernelRun0_B.sl.r_187, kernelRun0_B.sl.r_188, kernelRun0_B.sl.r_189, kernelRun0_B.sl.r_190, kernelRun0_B.sl.v1178, kernelRun0_B.sl.v1231, kernelRun0_B.sl.v1297, kernelRun0_B.sl.v1483,
      kernelRun0_B.sl.v1536, kernelRun0_B.sl.v1602, kernelRun0_B.sl.v1788, kernelRun0_B.sl.v1841, kernelRun0_B.sl.v1907, kernelRun0_B.sl.v2093, kernelRun0_B.sl.v2146, kernelRun0_B.sl.v2212, kernelRun0_B.sl.v2398,
      kernelRun0_B.sl.cst_112, kernelRun0_B.sl.cst_241, kernelRun0_B.sl.cst_385, kernelRun0_B.sl.cst_531, kernelRun0_B.sl.cst_657, k0_pay1, k0_pay5, k0_pay6, k0_pay7,
      k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25,
      k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52,
      k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79,
      k0_pay80, k0_pay81, k0_pay82, k0_pay83, k0_pay84, k0_pay85, k0_pay86, k0_pay87, k0_pay88,
      k0_pay89, k0_pay90, k0_pay91, k0_pay92, k0_pay93, k0_pay94, k0_pay95, k0_pay96, k0_pay97,
      k0_pay98, k0_pay99, k0_pay100, k0_pay101, k0_pay102, k0_pay103, k0_pay104, k0_pay105, k0_pay106,
      k0_pay107, k0_pay108, k0_pay109, k0_pay110, k0_pay111, k0_pay112, k0_pay113, k0_pay114, k0_pay115,
      k0_pay116, k0_pay117, k0_pay118, k0_pay119, k0_pay120, k0_pay121, k0_pay122, k0_pay123, k0_pay124,
      k0_pay125, k0_pay126, k0_pay127, k0_pay128, k0_pay129, k0_pay130, k0_pay131, k0_pay132, k0_pay133,
      k0_pay134, k0_pay135, k0_pay136, k0_pay137, k0_pay138, k0_pay139, k0_pay140, k0_pay141, k0_pay142,
      k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160,
      k0_pay161, k0_pay162, k0_pay163, k0_pay164, k0_pay165, k0_pay166, k0_pay167, k0_pay168, k0_pay169,
      k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187,
      k0_pay188, k0_pay189, k0_pay190, k0_pay191, k0_pay192, k0_pay193, k0_pay194, k0_pay195, k0_pay196,
      k0_pay197, k0_pay198, k0_pay199, k0_pay200, k0_pay201, k0_pay202, k0_pay203, k0_pay204, k0_pay205,
      k0_pay206, k0_pay207, k0_pay208, k0_pay209, k0_pay210, k0_pay211, k0_pay212, k0_pay213, k0_pay214,
      k0_pay215, k0_pay216, k0_pay217, k0_pay218, k0_pay219, k0_pay220, k0_pay221, k0_pay222, k0_pay223,
      k0_pay224, k0_pay225, k0_pay226, k0_pay227, k0_pay228, k0_pay229, k0_pay230, k0_pay231, k0_pay232,
      k0_pay233, k0_pay234, k0_pay235, k0_pay236, k0_pay237, k0_pay238, k0_pay239, k0_pay240, k0_pay241,
      k0_pay242, k0_pay243, k0_pay244, k0_pay245, k0_pay246, k0_pay247, k0_pay248, k0_pay249, k0_pay250,
      k0_pay251, k0_pay252, k0_pay253, k0_pay254, k0_pay255, k0_pay256, k0_pay257, k0_pay258, k0_pay259,
      k0_pay260, k0_pay261, k0_pay262, k0_pay263, k0_pay264, k0_pay265, k0_pay266, k0_pay267, k0_pay268,
      k0_pay269, k0_pay270, k0_pay271, k0_pay272, k0_pay273, k0_pay274, k0_pay275, k0_pay276, k0_pay277,
      k0_pay278, k0_pay279, k0_pay280, k0_pay281, k0_pay282, k0_pay283, k0_pay284, k0_pay285, k0_pay286,
      k0_pay287, k0_pay288, k0_pay289, k0_pay290, k0_pay291, k0_pay292, k0_pay293, k0_pay294, k0_pay295,
      k0_pay296, k0_pay297, k0_pay298, k0_pay299, k0_pay300, k0_pay301, k0_pay302, k0_pay303, k0_pay304,
      k0_pay305, k0_pay306, k0_pay307, k0_pay308, k0_pay309, k0_pay310, k0_pay311, k0_pay312, k0_pay313,
      k0_pay314, k0_pay315, k0_pay316, k0_pay317, k0_pay318, k0_pay319, k0_pay320, k0_pay321, k0_pay322,
      k0_pay323, k0_pay324, k0_pay325, k0_pay326, k0_pay327, k0_pay328, k0_pay329, k0_pay330, k0_pay331,
      k0_pay332, k0_pay333, k0_pay334, k0_pay335, k0_pay336, k0_pay337, k0_pay338, k0_pay339, k0_pay340,
      k0_pay341, k0_pay342, k0_pay343, k0_pay344, k0_pay345, k0_pay346, k0_pay347, k0_pay348, k0_pay349,
      k0_pay350, k0_pay351, k0_pay352, k0_pay353, k0_pay354, k0_pay355, k0_pay356, k0_pay357, k0_pay358,
      k0_pay359, k0_pay360, yA, yB, hsK, uK, xK, headA, headB,
      hs, states, scanA, scanV, scanIn, logA, soft, gateI, gateR,
      gates, convB, convA, prod, normed, meanSq, last8, last1, num,
      over, chan, tile, rows, gelu, shift_eq 1#32, shift_eq 2#32, shift_eq 3#32, stepA_eq 1#32,
      stepV_eq 1#32, stepA_eq 2#32, stepV_eq 2#32, stepA_eq 4#32, stepV_eq 4#32, stepA_eq 8#32, stepV_eq 8#32, stepA_eq 16#32, stepV_eq 16#32,
      stepA_eq 32#32, stepV_eq 32#32, stepA_eq 64#32, stepV_eq 64#32, stepA_eq 128#32, stepV_eq 128#32, Nat.reduceMul, Nat.reduceAdd]
    simp only [readAt_cols, readAt_row1, readAt_row3, readAt_row4, readAt_eight, readAt_gate, readAt_all]

theorem keepXB  (c : Dev nD) (i : grid0.Coords) (arg2 : Memref sig .tc .vmem S1x256x5120 .f32) (harg2 : arg2.IsWhole) (arg3 : Memref sig .tc .vmem S3x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x256x2048 .bf16) (harg14 : arg14.IsWhole) (arg15 : Memref sig .tc .vmem S8x1024 .f32) (harg15 : arg15.IsWhole) (arg16 : Memref sig .tc .vmem S8x1024 .f32) (harg16 : arg16.IsWhole) (arg17 : Memref sig .tc .vmem S1x1024 .f32) (harg17 : arg17.IsWhole) (hc0 : ¬cond0_0 i)
    (x0 : Vec F S1x256x5120 .f32) (x1 : Vec F S3x1024 .f32) (x2 : Vec F S4x1024 .f32) (x3 : Vec F S1x1024 .f32) (x4 : Vec F S8x128x256 .bf16) (x5 : Vec F S1x1024 .f32) (x6 : Vec F S1x1024 .f32) (x7 : Vec F S1x1024 .f32) (x8 : Vec F S1x1024 .f32) (x9 : Vec F S1x1024 .f32) (x10 : Vec F S128x128 .bf16) (x11 : Vec F S128x128 .bf16) (xs0 : Vec F S8x1024 .f32) (xs1 : Vec F S8x1024 .f32) (xs2 : Vec F S1x1024 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1 xs2).2.2.1 = [
      keep8 7 (by decide) (xK (arg2.view.read (Elt F) (harg2.unread x0)) 7),
      keep8 6 (by decide) (xK (arg2.view.read (Elt F) (harg2.unread x0)) 6),
      keep8 5 (by decide) (xK (arg2.view.read (Elt F) (harg2.unread x0)) 5),
      keep8 4 (by decide) (xK (arg2.view.read (Elt F) (harg2.unread x0)) 4),
      keep8 3 (by decide) (xK (arg2.view.read (Elt F) (harg2.unread x0)) 3),
      keep8 2 (by decide) (xK (arg2.view.read (Elt F) (harg2.unread x0)) 2),
      keep8 1 (by decide) (xK (arg2.view.read (Elt F) (harg2.unread x0)) 1),
      keep8 0 (by decide) (xK (arg2.view.read (Elt F) (harg2.unread x0)) 0)] := by
  unfold kernelRun0_B keep8
  dsimp only
  refine congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (rfl))))))))
  all_goals
    simp only [kernelRun0_B.sl.r, kernelRun0_B.sl.v0, kernelRun0_B.sl.v1, kernelRun0_B.sl.v2, kernelRun0_B.sl.v3, kernelRun0_B.sl.r_1, kernelRun0_B.sl.r_2, kernelRun0_B.sl.r_3, kernelRun0_B.sl.r_4,
      kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13,
      kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22,
      kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31,
      kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40,
      kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49,
      kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58,
      kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67,
      kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76,
      kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85,
      kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94,
      kernelRun0_B.sl.r_95, kernelRun0_B.sl.r_96, kernelRun0_B.sl.r_97, kernelRun0_B.sl.r_98, kernelRun0_B.sl.r_99, kernelRun0_B.sl.v316, kernelRun0_B.sl.v382, kernelRun0_B.sl.v568, kernelRun0_B.sl.v621,
      kernelRun0_B.sl.v687, kernelRun0_B.sl.v873, kernelRun0_B.sl.v926, kernelRun0_B.sl.v992, kernelRun0_B.sl.r_100, kernelRun0_B.sl.r_101, kernelRun0_B.sl.r_102, kernelRun0_B.sl.r_103, kernelRun0_B.sl.r_104,
      kernelRun0_B.sl.r_105, kernelRun0_B.sl.r_106, kernelRun0_B.sl.r_107, kernelRun0_B.sl.r_108, kernelRun0_B.sl.r_109, kernelRun0_B.sl.r_110, kernelRun0_B.sl.r_111, kernelRun0_B.sl.r_112, kernelRun0_B.sl.r_113,
      kernelRun0_B.sl.r_114, kernelRun0_B.sl.r_115, kernelRun0_B.sl.r_116, kernelRun0_B.sl.r_117, kernelRun0_B.sl.r_118, kernelRun0_B.sl.r_119, kernelRun0_B.sl.r_120, kernelRun0_B.sl.r_121, kernelRun0_B.sl.r_122,
      kernelRun0_B.sl.r_123, kernelRun0_B.sl.r_124, kernelRun0_B.sl.r_125, kernelRun0_B.sl.r_126, kernelRun0_B.sl.r_127, kernelRun0_B.sl.r_128, kernelRun0_B.sl.r_129, kernelRun0_B.sl.r_130, kernelRun0_B.sl.r_131,
      kernelRun0_B.sl.r_132, kernelRun0_B.sl.r_133, kernelRun0_B.sl.r_134, kernelRun0_B.sl.r_135, kernelRun0_B.sl.r_136, kernelRun0_B.sl.r_137, kernelRun0_B.sl.r_138, kernelRun0_B.sl.r_139, kernelRun0_B.sl.r_140,
      kernelRun0_B.sl.r_141, kernelRun0_B.sl.r_142, kernelRun0_B.sl.r_143, kernelRun0_B.sl.r_144, kernelRun0_B.sl.r_145, kernelRun0_B.sl.r_146, kernelRun0_B.sl.r_147, kernelRun0_B.sl.r_148, kernelRun0_B.sl.r_149,
      kernelRun0_B.sl.r_150, kernelRun0_B.sl.r_151, kernelRun0_B.sl.r_152, kernelRun0_B.sl.r_153, kernelRun0_B.sl.r_154, kernelRun0_B.sl.r_155, kernelRun0_B.sl.r_156, kernelRun0_B.sl.r_157, kernelRun0_B.sl.r_158,
      kernelRun0_B.sl.r_159, kernelRun0_B.sl.r_160, kernelRun0_B.sl.r_161, kernelRun0_B.sl.r_162, kernelRun0_B.sl.r_163, kernelRun0_B.sl.r_164, kernelRun0_B.sl.r_165, kernelRun0_B.sl.r_166, kernelRun0_B.sl.r_167,
      kernelRun0_B.sl.r_168, kernelRun0_B.sl.r_169, kernelRun0_B.sl.r_170, kernelRun0_B.sl.r_171, kernelRun0_B.sl.r_172, kernelRun0_B.sl.r_173, kernelRun0_B.sl.r_174, kernelRun0_B.sl.r_175, kernelRun0_B.sl.r_176,
      kernelRun0_B.sl.r_177, kernelRun0_B.sl.r_178, kernelRun0_B.sl.r_179, kernelRun0_B.sl.r_180, kernelRun0_B.sl.r_181, kernelRun0_B.sl.r_182, kernelRun0_B.sl.r_183, kernelRun0_B.sl.r_184, kernelRun0_B.sl.r_185,
      kernelRun0_B.sl.r_186, kernelRun0_B.sl.r_187, kernelRun0_B.sl.r_188, kernelRun0_B.sl.r_189, kernelRun0_B.sl.r_190, kernelRun0_B.sl.v1178, kernelRun0_B.sl.v1231, kernelRun0_B.sl.v1297, kernelRun0_B.sl.v1483,
      kernelRun0_B.sl.v1536, kernelRun0_B.sl.v1602, kernelRun0_B.sl.v1788, kernelRun0_B.sl.v1841, kernelRun0_B.sl.v1907, kernelRun0_B.sl.v2093, kernelRun0_B.sl.v2146, kernelRun0_B.sl.v2212, kernelRun0_B.sl.v2398,
      kernelRun0_B.sl.cst_112, kernelRun0_B.sl.cst_241, kernelRun0_B.sl.cst_385, kernelRun0_B.sl.cst_531, kernelRun0_B.sl.cst_657, k0_pay1, k0_pay5, k0_pay6, k0_pay7,
      k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25,
      k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52,
      k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79,
      k0_pay80, k0_pay81, k0_pay82, k0_pay83, k0_pay84, k0_pay85, k0_pay86, k0_pay87, k0_pay88,
      k0_pay89, k0_pay90, k0_pay91, k0_pay92, k0_pay93, k0_pay94, k0_pay95, k0_pay96, k0_pay97,
      k0_pay98, k0_pay99, k0_pay100, k0_pay101, k0_pay102, k0_pay103, k0_pay104, k0_pay105, k0_pay106,
      k0_pay107, k0_pay108, k0_pay109, k0_pay110, k0_pay111, k0_pay112, k0_pay113, k0_pay114, k0_pay115,
      k0_pay116, k0_pay117, k0_pay118, k0_pay119, k0_pay120, k0_pay121, k0_pay122, k0_pay123, k0_pay124,
      k0_pay125, k0_pay126, k0_pay127, k0_pay128, k0_pay129, k0_pay130, k0_pay131, k0_pay132, k0_pay133,
      k0_pay134, k0_pay135, k0_pay136, k0_pay137, k0_pay138, k0_pay139, k0_pay140, k0_pay141, k0_pay142,
      k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160,
      k0_pay161, k0_pay162, k0_pay163, k0_pay164, k0_pay165, k0_pay166, k0_pay167, k0_pay168, k0_pay169,
      k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187,
      k0_pay188, k0_pay189, k0_pay190, k0_pay191, k0_pay192, k0_pay193, k0_pay194, k0_pay195, k0_pay196,
      k0_pay197, k0_pay198, k0_pay199, k0_pay200, k0_pay201, k0_pay202, k0_pay203, k0_pay204, k0_pay205,
      k0_pay206, k0_pay207, k0_pay208, k0_pay209, k0_pay210, k0_pay211, k0_pay212, k0_pay213, k0_pay214,
      k0_pay215, k0_pay216, k0_pay217, k0_pay218, k0_pay219, k0_pay220, k0_pay221, k0_pay222, k0_pay223,
      k0_pay224, k0_pay225, k0_pay226, k0_pay227, k0_pay228, k0_pay229, k0_pay230, k0_pay231, k0_pay232,
      k0_pay233, k0_pay234, k0_pay235, k0_pay236, k0_pay237, k0_pay238, k0_pay239, k0_pay240, k0_pay241,
      k0_pay242, k0_pay243, k0_pay244, k0_pay245, k0_pay246, k0_pay247, k0_pay248, k0_pay249, k0_pay250,
      k0_pay251, k0_pay252, k0_pay253, k0_pay254, k0_pay255, k0_pay256, k0_pay257, k0_pay258, k0_pay259,
      k0_pay260, k0_pay261, k0_pay262, k0_pay263, k0_pay264, k0_pay265, k0_pay266, k0_pay267, k0_pay268,
      k0_pay269, k0_pay270, k0_pay271, k0_pay272, k0_pay273, k0_pay274, k0_pay275, k0_pay276, k0_pay277,
      k0_pay278, k0_pay279, k0_pay280, k0_pay281, k0_pay282, k0_pay283, k0_pay284, k0_pay285, k0_pay286,
      k0_pay287, k0_pay288, k0_pay289, k0_pay290, k0_pay291, k0_pay292, k0_pay293, k0_pay294, k0_pay295,
      k0_pay296, k0_pay297, k0_pay298, k0_pay299, k0_pay300, k0_pay301, k0_pay302, k0_pay303, k0_pay304,
      k0_pay305, k0_pay306, k0_pay307, k0_pay308, k0_pay309, k0_pay310, k0_pay311, k0_pay312, k0_pay313,
      k0_pay314, k0_pay315, k0_pay316, k0_pay317, k0_pay318, k0_pay319, k0_pay320, k0_pay321, k0_pay322,
      k0_pay323, k0_pay324, k0_pay325, k0_pay326, k0_pay327, k0_pay328, k0_pay329, k0_pay330, k0_pay331,
      k0_pay332, k0_pay333, k0_pay334, k0_pay335, k0_pay336, k0_pay337, k0_pay338, k0_pay339, k0_pay340,
      k0_pay341, k0_pay342, k0_pay343, k0_pay344, k0_pay345, k0_pay346, k0_pay347, k0_pay348, k0_pay349,
      k0_pay350, k0_pay351, k0_pay352, k0_pay353, k0_pay354, k0_pay355, k0_pay356, k0_pay357, k0_pay358,
      k0_pay359, k0_pay360, yA, yB, hsK, uK, xK, headA, headB,
      hs, states, scanA, scanV, scanIn, logA, soft, gateI, gateR,
      gates, convB, convA, prod, normed, meanSq, last8, last1, num,
      over, chan, tile, rows, gelu, shift_eq 1#32, shift_eq 2#32, shift_eq 3#32, stepA_eq 1#32,
      stepV_eq 1#32, stepA_eq 2#32, stepV_eq 2#32, stepA_eq 4#32, stepV_eq 4#32, stepA_eq 8#32, stepV_eq 8#32, stepA_eq 16#32, stepV_eq 16#32,
      stepA_eq 32#32, stepV_eq 32#32, stepA_eq 64#32, stepV_eq 64#32, stepA_eq 128#32, stepV_eq 128#32, Nat.reduceMul, Nat.reduceAdd]
    simp only [readAt_cols, readAt_row1, readAt_row3, readAt_row4, readAt_eight, readAt_gate, readAt_all]

theorem keepHB  (c : Dev nD) (i : grid0.Coords) (arg2 : Memref sig .tc .vmem S1x256x5120 .f32) (harg2 : arg2.IsWhole) (arg3 : Memref sig .tc .vmem S3x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x256x2048 .bf16) (harg14 : arg14.IsWhole) (arg15 : Memref sig .tc .vmem S8x1024 .f32) (harg15 : arg15.IsWhole) (arg16 : Memref sig .tc .vmem S8x1024 .f32) (harg16 : arg16.IsWhole) (arg17 : Memref sig .tc .vmem S1x1024 .f32) (harg17 : arg17.IsWhole) (hc0 : ¬cond0_0 i)
    (x0 : Vec F S1x256x5120 .f32) (x1 : Vec F S3x1024 .f32) (x2 : Vec F S4x1024 .f32) (x3 : Vec F S1x1024 .f32) (x4 : Vec F S8x128x256 .bf16) (x5 : Vec F S1x1024 .f32) (x6 : Vec F S1x1024 .f32) (x7 : Vec F S1x1024 .f32) (x8 : Vec F S1x1024 .f32) (x9 : Vec F S1x1024 .f32) (x10 : Vec F S128x128 .bf16) (x11 : Vec F S128x128 .bf16) (xs0 : Vec F S8x1024 .f32) (xs1 : Vec F S8x1024 .f32) (xs2 : Vec F S1x1024 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1 xs2).2.2.2.1 = [
      keep1 7 (by decide) (last1 (hsK (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 7 (eightAt (arg16.view.read (Elt F) (harg16.unread xs1)) 896) (rowAt (n := 1) (arg17.view.read (Elt F) (harg17.unread xs2)) 0 896))),
      keep1 6 (by decide) (last1 (hsK (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 6 (eightAt (arg16.view.read (Elt F) (harg16.unread xs1)) 768) (rowAt (n := 1) (arg17.view.read (Elt F) (harg17.unread xs2)) 0 768))),
      keep1 5 (by decide) (last1 (hsK (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 5 (eightAt (arg16.view.read (Elt F) (harg16.unread xs1)) 640) (rowAt (n := 1) (arg17.view.read (Elt F) (harg17.unread xs2)) 0 640))),
      keep1 4 (by decide) (last1 (hsK (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 4 (eightAt (arg16.view.read (Elt F) (harg16.unread xs1)) 512) (rowAt (n := 1) (arg17.view.read (Elt F) (harg17.unread xs2)) 0 512))),
      keep1 3 (by decide) (last1 (hsK (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 3 (eightAt (arg16.view.read (Elt F) (harg16.unread xs1)) 384) (rowAt (n := 1) (arg17.view.read (Elt F) (harg17.unread xs2)) 0 384))),
      keep1 2 (by decide) (last1 (hsK (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 2 (eightAt (arg16.view.read (Elt F) (harg16.unread xs1)) 256) (rowAt (n := 1) (arg17.view.read (Elt F) (harg17.unread xs2)) 0 256))),
      keep1 1 (by decide) (last1 (hsK (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 1 (eightAt (arg16.view.read (Elt F) (harg16.unread xs1)) 128) (rowAt (n := 1) (arg17.view.read (Elt F) (harg17.unread xs2)) 0 128))),
      keep1 0 (by decide) (last1 (hsK (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) 0 (eightAt (arg16.view.read (Elt F) (harg16.unread xs1)) 0) (rowAt (n := 1) (arg17.view.read (Elt F) (harg17.unread xs2)) 0 0)))] := by
  unfold kernelRun0_B keep1
  dsimp only
  refine congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (rfl))))))))
  all_goals
    simp only [kernelRun0_B.sl.r, kernelRun0_B.sl.v0, kernelRun0_B.sl.v1, kernelRun0_B.sl.v2, kernelRun0_B.sl.v3, kernelRun0_B.sl.r_1, kernelRun0_B.sl.r_2, kernelRun0_B.sl.r_3, kernelRun0_B.sl.r_4,
      kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13,
      kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22,
      kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31,
      kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40,
      kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49,
      kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58,
      kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67,
      kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76,
      kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85,
      kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94,
      kernelRun0_B.sl.r_95, kernelRun0_B.sl.r_96, kernelRun0_B.sl.r_97, kernelRun0_B.sl.r_98, kernelRun0_B.sl.r_99, kernelRun0_B.sl.v316, kernelRun0_B.sl.v382, kernelRun0_B.sl.v568, kernelRun0_B.sl.v621,
      kernelRun0_B.sl.v687, kernelRun0_B.sl.v873, kernelRun0_B.sl.v926, kernelRun0_B.sl.v992, kernelRun0_B.sl.r_100, kernelRun0_B.sl.r_101, kernelRun0_B.sl.r_102, kernelRun0_B.sl.r_103, kernelRun0_B.sl.r_104,
      kernelRun0_B.sl.r_105, kernelRun0_B.sl.r_106, kernelRun0_B.sl.r_107, kernelRun0_B.sl.r_108, kernelRun0_B.sl.r_109, kernelRun0_B.sl.r_110, kernelRun0_B.sl.r_111, kernelRun0_B.sl.r_112, kernelRun0_B.sl.r_113,
      kernelRun0_B.sl.r_114, kernelRun0_B.sl.r_115, kernelRun0_B.sl.r_116, kernelRun0_B.sl.r_117, kernelRun0_B.sl.r_118, kernelRun0_B.sl.r_119, kernelRun0_B.sl.r_120, kernelRun0_B.sl.r_121, kernelRun0_B.sl.r_122,
      kernelRun0_B.sl.r_123, kernelRun0_B.sl.r_124, kernelRun0_B.sl.r_125, kernelRun0_B.sl.r_126, kernelRun0_B.sl.r_127, kernelRun0_B.sl.r_128, kernelRun0_B.sl.r_129, kernelRun0_B.sl.r_130, kernelRun0_B.sl.r_131,
      kernelRun0_B.sl.r_132, kernelRun0_B.sl.r_133, kernelRun0_B.sl.r_134, kernelRun0_B.sl.r_135, kernelRun0_B.sl.r_136, kernelRun0_B.sl.r_137, kernelRun0_B.sl.r_138, kernelRun0_B.sl.r_139, kernelRun0_B.sl.r_140,
      kernelRun0_B.sl.r_141, kernelRun0_B.sl.r_142, kernelRun0_B.sl.r_143, kernelRun0_B.sl.r_144, kernelRun0_B.sl.r_145, kernelRun0_B.sl.r_146, kernelRun0_B.sl.r_147, kernelRun0_B.sl.r_148, kernelRun0_B.sl.r_149,
      kernelRun0_B.sl.r_150, kernelRun0_B.sl.r_151, kernelRun0_B.sl.r_152, kernelRun0_B.sl.r_153, kernelRun0_B.sl.r_154, kernelRun0_B.sl.r_155, kernelRun0_B.sl.r_156, kernelRun0_B.sl.r_157, kernelRun0_B.sl.r_158,
      kernelRun0_B.sl.r_159, kernelRun0_B.sl.r_160, kernelRun0_B.sl.r_161, kernelRun0_B.sl.r_162, kernelRun0_B.sl.r_163, kernelRun0_B.sl.r_164, kernelRun0_B.sl.r_165, kernelRun0_B.sl.r_166, kernelRun0_B.sl.r_167,
      kernelRun0_B.sl.r_168, kernelRun0_B.sl.r_169, kernelRun0_B.sl.r_170, kernelRun0_B.sl.r_171, kernelRun0_B.sl.r_172, kernelRun0_B.sl.r_173, kernelRun0_B.sl.r_174, kernelRun0_B.sl.r_175, kernelRun0_B.sl.r_176,
      kernelRun0_B.sl.r_177, kernelRun0_B.sl.r_178, kernelRun0_B.sl.r_179, kernelRun0_B.sl.r_180, kernelRun0_B.sl.r_181, kernelRun0_B.sl.r_182, kernelRun0_B.sl.r_183, kernelRun0_B.sl.r_184, kernelRun0_B.sl.r_185,
      kernelRun0_B.sl.r_186, kernelRun0_B.sl.r_187, kernelRun0_B.sl.r_188, kernelRun0_B.sl.r_189, kernelRun0_B.sl.r_190, kernelRun0_B.sl.v1178, kernelRun0_B.sl.v1231, kernelRun0_B.sl.v1297, kernelRun0_B.sl.v1483,
      kernelRun0_B.sl.v1536, kernelRun0_B.sl.v1602, kernelRun0_B.sl.v1788, kernelRun0_B.sl.v1841, kernelRun0_B.sl.v1907, kernelRun0_B.sl.v2093, kernelRun0_B.sl.v2146, kernelRun0_B.sl.v2212, kernelRun0_B.sl.v2398,
      kernelRun0_B.sl.cst_112, kernelRun0_B.sl.cst_241, kernelRun0_B.sl.cst_385, kernelRun0_B.sl.cst_531, kernelRun0_B.sl.cst_657, k0_pay1, k0_pay5, k0_pay6, k0_pay7,
      k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25,
      k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52,
      k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79,
      k0_pay80, k0_pay81, k0_pay82, k0_pay83, k0_pay84, k0_pay85, k0_pay86, k0_pay87, k0_pay88,
      k0_pay89, k0_pay90, k0_pay91, k0_pay92, k0_pay93, k0_pay94, k0_pay95, k0_pay96, k0_pay97,
      k0_pay98, k0_pay99, k0_pay100, k0_pay101, k0_pay102, k0_pay103, k0_pay104, k0_pay105, k0_pay106,
      k0_pay107, k0_pay108, k0_pay109, k0_pay110, k0_pay111, k0_pay112, k0_pay113, k0_pay114, k0_pay115,
      k0_pay116, k0_pay117, k0_pay118, k0_pay119, k0_pay120, k0_pay121, k0_pay122, k0_pay123, k0_pay124,
      k0_pay125, k0_pay126, k0_pay127, k0_pay128, k0_pay129, k0_pay130, k0_pay131, k0_pay132, k0_pay133,
      k0_pay134, k0_pay135, k0_pay136, k0_pay137, k0_pay138, k0_pay139, k0_pay140, k0_pay141, k0_pay142,
      k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160,
      k0_pay161, k0_pay162, k0_pay163, k0_pay164, k0_pay165, k0_pay166, k0_pay167, k0_pay168, k0_pay169,
      k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187,
      k0_pay188, k0_pay189, k0_pay190, k0_pay191, k0_pay192, k0_pay193, k0_pay194, k0_pay195, k0_pay196,
      k0_pay197, k0_pay198, k0_pay199, k0_pay200, k0_pay201, k0_pay202, k0_pay203, k0_pay204, k0_pay205,
      k0_pay206, k0_pay207, k0_pay208, k0_pay209, k0_pay210, k0_pay211, k0_pay212, k0_pay213, k0_pay214,
      k0_pay215, k0_pay216, k0_pay217, k0_pay218, k0_pay219, k0_pay220, k0_pay221, k0_pay222, k0_pay223,
      k0_pay224, k0_pay225, k0_pay226, k0_pay227, k0_pay228, k0_pay229, k0_pay230, k0_pay231, k0_pay232,
      k0_pay233, k0_pay234, k0_pay235, k0_pay236, k0_pay237, k0_pay238, k0_pay239, k0_pay240, k0_pay241,
      k0_pay242, k0_pay243, k0_pay244, k0_pay245, k0_pay246, k0_pay247, k0_pay248, k0_pay249, k0_pay250,
      k0_pay251, k0_pay252, k0_pay253, k0_pay254, k0_pay255, k0_pay256, k0_pay257, k0_pay258, k0_pay259,
      k0_pay260, k0_pay261, k0_pay262, k0_pay263, k0_pay264, k0_pay265, k0_pay266, k0_pay267, k0_pay268,
      k0_pay269, k0_pay270, k0_pay271, k0_pay272, k0_pay273, k0_pay274, k0_pay275, k0_pay276, k0_pay277,
      k0_pay278, k0_pay279, k0_pay280, k0_pay281, k0_pay282, k0_pay283, k0_pay284, k0_pay285, k0_pay286,
      k0_pay287, k0_pay288, k0_pay289, k0_pay290, k0_pay291, k0_pay292, k0_pay293, k0_pay294, k0_pay295,
      k0_pay296, k0_pay297, k0_pay298, k0_pay299, k0_pay300, k0_pay301, k0_pay302, k0_pay303, k0_pay304,
      k0_pay305, k0_pay306, k0_pay307, k0_pay308, k0_pay309, k0_pay310, k0_pay311, k0_pay312, k0_pay313,
      k0_pay314, k0_pay315, k0_pay316, k0_pay317, k0_pay318, k0_pay319, k0_pay320, k0_pay321, k0_pay322,
      k0_pay323, k0_pay324, k0_pay325, k0_pay326, k0_pay327, k0_pay328, k0_pay329, k0_pay330, k0_pay331,
      k0_pay332, k0_pay333, k0_pay334, k0_pay335, k0_pay336, k0_pay337, k0_pay338, k0_pay339, k0_pay340,
      k0_pay341, k0_pay342, k0_pay343, k0_pay344, k0_pay345, k0_pay346, k0_pay347, k0_pay348, k0_pay349,
      k0_pay350, k0_pay351, k0_pay352, k0_pay353, k0_pay354, k0_pay355, k0_pay356, k0_pay357, k0_pay358,
      k0_pay359, k0_pay360, yA, yB, hsK, uK, xK, headA, headB,
      hs, states, scanA, scanV, scanIn, logA, soft, gateI, gateR,
      gates, convB, convA, prod, normed, meanSq, last8, last1, num,
      over, chan, tile, rows, gelu, shift_eq 1#32, shift_eq 2#32, shift_eq 3#32, stepA_eq 1#32,
      stepV_eq 1#32, stepA_eq 2#32, stepV_eq 2#32, stepA_eq 4#32, stepV_eq 4#32, stepA_eq 8#32, stepV_eq 8#32, stepA_eq 16#32, stepV_eq 16#32,
      stepA_eq 32#32, stepV_eq 32#32, stepA_eq 64#32, stepV_eq 64#32, stepA_eq 128#32, stepV_eq 128#32, Nat.reduceMul, Nat.reduceAdd]
    simp only [readAt_cols, readAt_row1, readAt_row3, readAt_row4, readAt_eight, readAt_gate, readAt_all]

end Cert.KernelIdeal.Mix

end
-- ==== Proof.MixOut.lean ====
/- What a grid point leaves, as the stores of its heads. -/
module

public import proofs.«01_k».proof.Proof.MixTile
public import proofs.«01_k».proof.Proof.MixRunA
public import proofs.«01_k».proof.Proof.MixRunB

@[expose] public section

set_option maxRecDepth 16384

noncomputable section

namespace Cert.KernelIdeal.Mix

open Cert.KernelIdeal Cert.KernelIdeal.Gen Cert.MixSpec Idealize.ShloMosaic Idealize.ShloMosaic.TcCoe Idealize.SL.Sem

/-- The store of zeros a sequence starts with. -/
def zeros2 : List (View.Piece (Elt Ideal) S8x1024 .f32) := [⟨Rect.unit (s := S8x1024) ![0, 0] ![8, 1024] (by decide), k0_pay2 (F := Ideal)⟩]

/-- The store of zeros a sequence starts with. -/
def zeros3 : List (View.Piece (Elt Ideal) S8x1024 .f32) := [⟨Rect.unit (s := S8x1024) ![0, 0] ![8, 1024] (by decide), k0_pay3 (F := Ideal)⟩]

/-- The store of zeros a sequence starts with. -/
def zeros4 : List (View.Piece (Elt Ideal) S1x1024 .f32) := [⟨Rect.unit (s := S1x1024) ![0, 0] ![1, 1024] (by decide), k0_pay4 (F := Ideal)⟩]

theorem outA_eq  (c : Dev nD) (i : grid0.Coords) (arg2 : Memref sig .tc .vmem S1x256x5120 .f32) (harg2 : arg2.IsWhole) (arg3 : Memref sig .tc .vmem S3x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x256x2048 .bf16) (harg14 : arg14.IsWhole) (arg15 : Memref sig .tc .vmem S8x1024 .f32) (harg15 : arg15.IsWhole) (arg16 : Memref sig .tc .vmem S8x1024 .f32) (harg16 : arg16.IsWhole) (arg17 : Memref sig .tc .vmem S1x1024 .f32) (harg17 : arg17.IsWhole) (hc0 : cond0_0 i)
    (x0 : Vec Ideal S1x256x5120 .f32) (x1 : Vec Ideal S3x1024 .f32) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) (x8 : Vec Ideal S1x1024 .f32) (x9 : Vec Ideal S1x1024 .f32) (x10 : Vec Ideal S128x128 .bf16) (x11 : Vec Ideal S128x128 .bf16) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = View.canon (outPieces x0 x1 x2 x3 x4 x5 x6 x7 x8 x9 x10 x11 (fun k => eightAt (k0_pay2 (F := Ideal)) (128 * k)) (fun k => eightAt (k0_pay3 (F := Ideal)) (128 * k)) (fun k => rowAt (n := 1) (k0_pay4 (F := Ideal)) 0 (128 * k))) := by
  refine (View.read_writes_junk_eq_canon _ _).trans (congrArg View.canon ((outA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).trans ?_))
  simp only [Memref.IsWhole.read_unread]
  rfl

theorem suA_eq  (c : Dev nD) (i : grid0.Coords) (arg2 : Memref sig .tc .vmem S1x256x5120 .f32) (harg2 : arg2.IsWhole) (arg3 : Memref sig .tc .vmem S3x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x256x2048 .bf16) (harg14 : arg14.IsWhole) (arg15 : Memref sig .tc .vmem S8x1024 .f32) (harg15 : arg15.IsWhole) (arg16 : Memref sig .tc .vmem S8x1024 .f32) (harg16 : arg16.IsWhole) (arg17 : Memref sig .tc .vmem S1x1024 .f32) (harg17 : arg17.IsWhole) (hc0 : cond0_0 i)
    (x0 : Vec Ideal S1x256x5120 .f32) (x1 : Vec Ideal S3x1024 .f32) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) (x8 : Vec Ideal S1x1024 .f32) (x9 : Vec Ideal S1x1024 .f32) (x10 : Vec Ideal S128x128 .bf16) (x11 : Vec Ideal S128x128 .bf16) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = View.canon (keepPieces (uK x0) ++ zeros2) := by
  refine (View.read_writes_junk_eq_canon _ _).trans (congrArg View.canon ((keepUA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).trans ?_))
  simp only [Memref.IsWhole.read_unread]
  rfl

theorem szA_eq  (c : Dev nD) (i : grid0.Coords) (arg2 : Memref sig .tc .vmem S1x256x5120 .f32) (harg2 : arg2.IsWhole) (arg3 : Memref sig .tc .vmem S3x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x256x2048 .bf16) (harg14 : arg14.IsWhole) (arg15 : Memref sig .tc .vmem S8x1024 .f32) (harg15 : arg15.IsWhole) (arg16 : Memref sig .tc .vmem S8x1024 .f32) (harg16 : arg16.IsWhole) (arg17 : Memref sig .tc .vmem S1x1024 .f32) (harg17 : arg17.IsWhole) (hc0 : cond0_0 i)
    (x0 : Vec Ideal S1x256x5120 .f32) (x1 : Vec Ideal S3x1024 .f32) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) (x8 : Vec Ideal S1x1024 .f32) (x9 : Vec Ideal S1x1024 .f32) (x10 : Vec Ideal S128x128 .bf16) (x11 : Vec Ideal S128x128 .bf16) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = View.canon (keepPieces (xK x0) ++ zeros3) := by
  refine (View.read_writes_junk_eq_canon _ _).trans (congrArg View.canon ((keepXA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).trans ?_))
  simp only [Memref.IsWhole.read_unread]
  rfl

theorem shA_eq  (c : Dev nD) (i : grid0.Coords) (arg2 : Memref sig .tc .vmem S1x256x5120 .f32) (harg2 : arg2.IsWhole) (arg3 : Memref sig .tc .vmem S3x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x256x2048 .bf16) (harg14 : arg14.IsWhole) (arg15 : Memref sig .tc .vmem S8x1024 .f32) (harg15 : arg15.IsWhole) (arg16 : Memref sig .tc .vmem S8x1024 .f32) (harg16 : arg16.IsWhole) (arg17 : Memref sig .tc .vmem S1x1024 .f32) (harg17 : arg17.IsWhole) (hc0 : cond0_0 i)
    (x0 : Vec Ideal S1x256x5120 .f32) (x1 : Vec Ideal S3x1024 .f32) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) (x8 : Vec Ideal S1x1024 .f32) (x9 : Vec Ideal S1x1024 .f32) (x10 : Vec Ideal S128x128 .bf16) (x11 : Vec Ideal S128x128 .bf16) :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = View.canon (statePieces (fun k => last1 (hsK x0 x1 x2 x3 x4 x5 x6 x7 x8 x9 x10 x11 k (eightAt (k0_pay3 (F := Ideal)) (128 * k)) (rowAt (n := 1) (k0_pay4 (F := Ideal)) 0 (128 * k)))) ++ zeros4) := by
  refine (View.read_writes_junk_eq_canon _ _).trans (congrArg View.canon ((keepHA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).trans ?_))
  simp only [Memref.IsWhole.read_unread]
  rfl

theorem outB_eq  (c : Dev nD) (i : grid0.Coords) (arg2 : Memref sig .tc .vmem S1x256x5120 .f32) (harg2 : arg2.IsWhole) (arg3 : Memref sig .tc .vmem S3x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x256x2048 .bf16) (harg14 : arg14.IsWhole) (arg15 : Memref sig .tc .vmem S8x1024 .f32) (harg15 : arg15.IsWhole) (arg16 : Memref sig .tc .vmem S8x1024 .f32) (harg16 : arg16.IsWhole) (arg17 : Memref sig .tc .vmem S1x1024 .f32) (harg17 : arg17.IsWhole) (hc0 : ¬cond0_0 i)
    (x0 : Vec Ideal S1x256x5120 .f32) (x1 : Vec Ideal S3x1024 .f32) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) (x8 : Vec Ideal S1x1024 .f32) (x9 : Vec Ideal S1x1024 .f32) (x10 : Vec Ideal S128x128 .bf16) (x11 : Vec Ideal S128x128 .bf16) (xs0 : Vec Ideal S8x1024 .f32) (xs1 : Vec Ideal S8x1024 .f32) (xs2 : Vec Ideal S1x1024 .f32) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1 xs2 = View.canon (outPieces x0 x1 x2 x3 x4 x5 x6 x7 x8 x9 x10 x11 (fun k => eightAt xs0 (128 * k)) (fun k => eightAt xs1 (128 * k)) (fun k => rowAt (n := 1) xs2 0 (128 * k))) := by
  refine (View.read_writes_junk_eq_canon _ _).trans (congrArg View.canon ((outB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1 xs2).trans ?_))
  simp only [Memref.IsWhole.read_unread]
  rfl

theorem suB_eq  (c : Dev nD) (i : grid0.Coords) (arg2 : Memref sig .tc .vmem S1x256x5120 .f32) (harg2 : arg2.IsWhole) (arg3 : Memref sig .tc .vmem S3x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x256x2048 .bf16) (harg14 : arg14.IsWhole) (arg15 : Memref sig .tc .vmem S8x1024 .f32) (harg15 : arg15.IsWhole) (arg16 : Memref sig .tc .vmem S8x1024 .f32) (harg16 : arg16.IsWhole) (arg17 : Memref sig .tc .vmem S1x1024 .f32) (harg17 : arg17.IsWhole) (hc0 : ¬cond0_0 i)
    (x0 : Vec Ideal S1x256x5120 .f32) (x1 : Vec Ideal S3x1024 .f32) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) (x8 : Vec Ideal S1x1024 .f32) (x9 : Vec Ideal S1x1024 .f32) (x10 : Vec Ideal S128x128 .bf16) (x11 : Vec Ideal S128x128 .bf16) (xs0 : Vec Ideal S8x1024 .f32) (xs1 : Vec Ideal S8x1024 .f32) (xs2 : Vec Ideal S1x1024 .f32) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1 xs2 = View.canon (keepPieces (uK x0)) := by
  refine (View.read_writes_junk_eq_canon _ _).trans (congrArg View.canon ((keepUB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1 xs2).trans ?_))
  simp only [Memref.IsWhole.read_unread]
  rfl

theorem szB_eq  (c : Dev nD) (i : grid0.Coords) (arg2 : Memref sig .tc .vmem S1x256x5120 .f32) (harg2 : arg2.IsWhole) (arg3 : Memref sig .tc .vmem S3x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x256x2048 .bf16) (harg14 : arg14.IsWhole) (arg15 : Memref sig .tc .vmem S8x1024 .f32) (harg15 : arg15.IsWhole) (arg16 : Memref sig .tc .vmem S8x1024 .f32) (harg16 : arg16.IsWhole) (arg17 : Memref sig .tc .vmem S1x1024 .f32) (harg17 : arg17.IsWhole) (hc0 : ¬cond0_0 i)
    (x0 : Vec Ideal S1x256x5120 .f32) (x1 : Vec Ideal S3x1024 .f32) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) (x8 : Vec Ideal S1x1024 .f32) (x9 : Vec Ideal S1x1024 .f32) (x10 : Vec Ideal S128x128 .bf16) (x11 : Vec Ideal S128x128 .bf16) (xs0 : Vec Ideal S8x1024 .f32) (xs1 : Vec Ideal S8x1024 .f32) (xs2 : Vec Ideal S1x1024 .f32) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1 xs2 = View.canon (keepPieces (xK x0)) := by
  refine (View.read_writes_junk_eq_canon _ _).trans (congrArg View.canon ((keepXB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1 xs2).trans ?_))
  simp only [Memref.IsWhole.read_unread]
  rfl

theorem shB_eq  (c : Dev nD) (i : grid0.Coords) (arg2 : Memref sig .tc .vmem S1x256x5120 .f32) (harg2 : arg2.IsWhole) (arg3 : Memref sig .tc .vmem S3x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x256x2048 .bf16) (harg14 : arg14.IsWhole) (arg15 : Memref sig .tc .vmem S8x1024 .f32) (harg15 : arg15.IsWhole) (arg16 : Memref sig .tc .vmem S8x1024 .f32) (harg16 : arg16.IsWhole) (arg17 : Memref sig .tc .vmem S1x1024 .f32) (harg17 : arg17.IsWhole) (hc0 : ¬cond0_0 i)
    (x0 : Vec Ideal S1x256x5120 .f32) (x1 : Vec Ideal S3x1024 .f32) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) (x8 : Vec Ideal S1x1024 .f32) (x9 : Vec Ideal S1x1024 .f32) (x10 : Vec Ideal S128x128 .bf16) (x11 : Vec Ideal S128x128 .bf16) (xs0 : Vec Ideal S8x1024 .f32) (xs1 : Vec Ideal S8x1024 .f32) (xs2 : Vec Ideal S1x1024 .f32) :
    sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1 xs2 = View.canon (statePieces (fun k => last1 (hsK x0 x1 x2 x3 x4 x5 x6 x7 x8 x9 x10 x11 k (eightAt xs1 (128 * k)) (rowAt (n := 1) xs2 0 (128 * k))))) := by
  refine (View.read_writes_junk_eq_canon _ _).trans (congrArg View.canon ((keepHB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1 xs2).trans ?_))
  simp only [Memref.IsWhole.read_unread]
  rfl

end Cert.KernelIdeal.Mix

end
-- ==== Proof.MixKernel.lean ====
/- What the kernel leaves: the rows of the heads, tile by tile, the rows and the state kept from one tile to the next. -/
module

public import proofs.«01_k».proof.Proof.MixBlocks
public import proofs.«01_k».proof.Proof.MixOut

@[expose] public section

set_option maxRecDepth 16384

noncomputable section

namespace Cert.KernelIdeal.Mix

open Cert.KernelIdeal Cert.KernelIdeal.Gen Cert.KernelIdeal.Value Cert.MixSpec Idealize.ShloMosaic Idealize.ShloMosaic.TcCoe Idealize.SL.Sem
open Idealize.ShloMosaic.Pipeline (Dat)

variable (m : (ℓ : Loc nD τ sig) → Buf (Elt Ideal) ℓ)

/-- The heads of a sequence, from the arguments. -/
def heads (c : Dev nD) (b : Fin 16) : ℕ → Head :=
  headsOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) b

/-- The arguments that have to be real are. -/
structure Reals (c : Dev nD) : Prop where
  p : ∀ i, IsR ((m ((c : Thread nD τ).loc main_arg0) : FVec Ideal S16x2048x5120 .f32) i)
  w3 : ∀ i, IsR ((m ((c : Thread nD τ).loc main_arg1) : FVec Ideal S1x3x1024 .f32) i)
  w4 : ∀ i, IsR ((m ((c : Thread nD τ).loc main_arg2) : FVec Ideal S1x4x1024 .f32) i)
  b4 : ∀ i, IsR ((m ((c : Thread nD τ).loc main_arg3) : FVec Ideal S1x1024 .f32) i)

theorem block (c : Dev nD) (R : Reals m c) (t : Fin cfg0.N) (b : Fin 16) (hb : b.val = t.val / 8) :
    Block (heads m c b) (t.val % 8 * 256) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) where
  b k hk r l := (blk0 m c t r ⟨128 * k + l.val, by omega⟩ b ⟨t.val % 8 * 256 + r.val, by omega⟩ hb rfl).trans (proj_at _ b ⟨t.val % 8 * 256 + r.val, by omega⟩ ⟨128 * k + l.val, by omega⟩).symm
  c k hk r l := (blk0 m c t r ⟨1024 + 128 * k + l.val, by omega⟩ b ⟨t.val % 8 * 256 + r.val, by omega⟩ hb rfl).trans (proj_at _ b ⟨t.val % 8 * 256 + r.val, by omega⟩ ⟨1024 + 128 * k + l.val, by omega⟩).symm
  x k hk r l := (blk0 m c t r ⟨2048 + 128 * k + l.val, by omega⟩ b ⟨t.val % 8 * 256 + r.val, by omega⟩ hb rfl).trans (proj_at _ b ⟨t.val % 8 * 256 + r.val, by omega⟩ ⟨2048 + 128 * k + l.val, by omega⟩).symm
  g k hk r l := (blk0 m c t r ⟨3072 + 128 * k + l.val, by omega⟩ b ⟨t.val % 8 * 256 + r.val, by omega⟩ hb rfl).trans (proj_at _ b ⟨t.val % 8 * 256 + r.val, by omega⟩ ⟨3072 + 128 * k + l.val, by omega⟩).symm
  z k hk r l := (blk0 m c t r ⟨4096 + 128 * k + l.val, by omega⟩ b ⟨t.val % 8 * 256 + r.val, by omega⟩ hb rfl).trans (proj_at _ b ⟨t.val % 8 * 256 + r.val, by omega⟩ ⟨4096 + 128 * k + l.val, by omega⟩).symm
  w3 k hk j l := (blk1 m c t _).trans ((v4_at m c j ⟨128 * k + l.val, by omega⟩).trans (tap_at _ j ⟨128 * k + l.val, by omega⟩).symm)
  w4 k hk j l := (blk2 m c t _).trans ((v5_at m c j ⟨128 * k + l.val, by omega⟩).trans (tap_at _ j ⟨128 * k + l.val, by omega⟩).symm)
  b4 k hk l := (blk3 m c t _).trans ((v24_at m c ⟨128 * k + l.val, by omega⟩).trans (param_at _ ⟨128 * k + l.val, by omega⟩).symm)
  ba k hk l := (blk5 m c t _).trans ((v25_at m c ⟨128 * k + l.val, by omega⟩).trans (param_at _ ⟨128 * k + l.val, by omega⟩).symm)
  bx k hk l := (blk6 m c t _).trans ((v26_at m c ⟨128 * k + l.val, by omega⟩).trans (param_at _ ⟨128 * k + l.val, by omega⟩).symm)
  lam k hk l := (blk7 m c t _).trans ((v27_at m c ⟨128 * k + l.val, by omega⟩).trans (param_at _ ⟨128 * k + l.val, by omega⟩).symm)
  ga k hk l := (blk8 m c t _).trans ((v28_at m c ⟨128 * k + l.val, by omega⟩).trans (param_at _ ⟨128 * k + l.val, by omega⟩).symm)
  gb k hk l := (blk9 m c t _).trans ((v29_at m c ⟨128 * k + l.val, by omega⟩).trans (param_at _ ⟨128 * k + l.val, by omega⟩).symm)
  wa k hk i l := (blk4 m c t _).trans ((v3a_at m c ⟨k, hk⟩ i l).trans (gateW_at _ ⟨k, hk⟩ i l).symm)
  wx k hk i l := (blk4 m c t _).trans ((v3x_at m c ⟨k, hk⟩ i l).trans (gateW_at _ ⟨k, hk⟩ i l).symm)
  pa i l := (blk10 m c t _).trans (v22_at m c i l)
  pb i l := (blk11 m c t _).trans (v23_at m c i l)
  real k _ := headsOf_real R.p R.w3 R.w4 R.b4

/-! ## The first tile of a sequence starts from zeros -/

theorem keptAll_zero2 (f : ℕ → ℕ → Fin 128 → EReal) : KeptAll f 0 (k0_pay2 (F := Ideal)) := by
  intro j n
  rw [if_neg (by omega)]
  pointwise [k0_pay2]

theorem keptAll_zero3 (f : ℕ → ℕ → Fin 128 → EReal) : KeptAll f 0 (k0_pay3 (F := Ideal)) := by
  intro j n
  rw [if_neg (by omega)]
  pointwise [k0_pay3]

theorem stateAll_zero (Hd : ℕ → Head) : StateAll Hd 0 (k0_pay4 (F := Ideal)) := by
  intro n
  unfold back
  rw [if_neg (by omega)]
  pointwise [k0_pay4]

/-! ## A tile -/

/-- A tile is done: its rows are written, the rows and the state the next tile needs are kept. -/
structure Done (Hd : ℕ → Head) (s0 : ℕ) (a : Vec Ideal S1x256x2048 .bf16 × Vec Ideal S8x1024 .f32 × Vec Ideal S8x1024 .f32 × Vec Ideal S1x1024 .f32) : Prop where
  out : ∀ y, a.1 y = outTile Hd s0 y
  u : KeptAll (fun k => (Hd k).u) (s0 + 256) a.2.1
  z : KeptAll (fun k => (Hd k).z) (s0 + 256) a.2.2.1
  h : StateAll Hd (s0 + 256) a.2.2.2

theorem tileA {Hd : ℕ → Head} {X0 : Vec Ideal S1x256x5120 .f32} {X1 : Vec Ideal S3x1024 .f32} {X2 : Vec Ideal S4x1024 .f32} {X3 : Vec Ideal S1x1024 .f32} {X4 : Vec Ideal S8x128x256 .bf16} {X5 X6 X7 X8 X9 : Vec Ideal S1x1024 .f32} {X10 X11 : Vec Ideal S128x128 .bf16}
     (B : Block Hd 0 X0 X1 X2 X3 X4 X5 X6 X7 X8 X9 X10 X11) : Done Hd 0
    (View.canon (outPieces X0 X1 X2 X3 X4 X5 X6 X7 X8 X9 X10 X11 (fun k => eightAt (k0_pay2 (F := Ideal)) (128 * k)) (fun k => eightAt (k0_pay3 (F := Ideal)) (128 * k)) (fun k => rowAt (n := 1) (k0_pay4 (F := Ideal)) 0 (128 * k))),
      View.canon (keepPieces (uK X0) ++ zeros2), View.canon (keepPieces (xK X0) ++ zeros3),
      View.canon (statePieces (fun k => last1 (hsK X0 X1 X2 X3 X4 X5 X6 X7 X8 X9 X10 X11 k (eightAt (k0_pay3 (F := Ideal)) (128 * k)) (rowAt (n := 1) (k0_pay4 (F := Ideal)) 0 (128 * k)))) ++ zeros4)) := by
  have hA := fun k hk => KeptAll.head (keptAll_zero2 (fun k => (Hd k).u)) k hk
  have hB := fun k hk => KeptAll.head (keptAll_zero3 (fun k => (Hd k).z)) k hk
  have hh := fun k hk => StateAll.head (stateAll_zero Hd) k hk
  constructor
  · intro y
    dsimp only
    exact canon_out (PA := fun k => eightAt (k0_pay2 (F := Ideal)) (128 * k)) (PB := fun k => eightAt (k0_pay3 (F := Ideal)) (128 * k)) (h := fun k => rowAt (n := 1) (k0_pay4 (F := Ideal)) 0 (128 * k)) B (Or.inl rfl) hA hB hh y
  · dsimp only
    exact canon_keep (fun k => (Hd k).u) 0 (v := uK X0) zeros2 (fun k hk j l => B.keepU k hk j l)
  · dsimp only
    exact canon_keep (fun k => (Hd k).z) 0 (v := xK X0) zeros3 (fun k hk j l => B.keepX k hk j l)
  · dsimp only
    exact canon_state Hd 0 (v := fun k => last1 (hsK X0 X1 X2 X3 X4 X5 X6 X7 X8 X9 X10 X11 k (eightAt (k0_pay3 (F := Ideal)) (128 * k)) (rowAt (n := 1) (k0_pay4 (F := Ideal)) 0 (128 * k)))) zeros4 (fun k hk l => B.keepH k hk (Or.inl rfl) (hB k hk) (hh k hk) l)

theorem doneA {Hd : ℕ → Head} (c : Dev nD) (t : Fin cfg0.N) (acc : Vec Ideal S1x256x2048 .bf16 × Vec Ideal S8x1024 .f32 × Vec Ideal S8x1024 .f32 × Vec Ideal S1x1024 .f32) (h0 : t.val % 8 = 0)
    (B : Block Hd 0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) : Done Hd 0 (stAt0 m c t.val t.isLt acc) := by
  have e := (stAt0_A m c t acc h0).trans (congrArg₂ Prod.mk (outA_eq _ _ _ _ _ _ _ _ _ _ _ _ _ _ _ _ _ _ _ _ _ _ _ _ _ _ _ _ _ _ _ _ _ _ _ _ _ _ _ _ _ _ _ _ _ _ _) (congrArg₂ Prod.mk (suA_eq _ _ _ _ _ _ _ _ _ _ _ _ _ _ _ _ _ _ _ _ _ _ _ _ _ _ _ _ _ _ _ _ _ _ _ _ _ _ _ _ _ _ _ _ _ _ _) (congrArg₂ Prod.mk (szA_eq _ _ _ _ _ _ _ _ _ _ _ _ _ _ _ _ _ _ _ _ _ _ _ _ _ _ _ _ _ _ _ _ _ _ _ _ _ _ _ _ _ _ _ _ _ _ _) (shA_eq _ _ _ _ _ _ _ _ _ _ _ _ _ _ _ _ _ _ _ _ _ _ _ _ _ _ _ _ _ _ _ _ _ _ _ _ _ _ _ _ _ _ _ _ _ _ _))))
  rw [e]
  exact tileA B

theorem tileB {Hd : ℕ → Head} {s0 : ℕ} {X0 : Vec Ideal S1x256x5120 .f32} {X1 : Vec Ideal S3x1024 .f32} {X2 : Vec Ideal S4x1024 .f32} {X3 : Vec Ideal S1x1024 .f32} {X4 : Vec Ideal S8x128x256 .bf16} {X5 X6 X7 X8 X9 : Vec Ideal S1x1024 .f32} {X10 X11 : Vec Ideal S128x128 .bf16}
    (acc : Vec Ideal S1x256x2048 .bf16 × Vec Ideal S8x1024 .f32 × Vec Ideal S8x1024 .f32 × Vec Ideal S1x1024 .f32) (D : Done Hd s0 acc) (B : Block Hd (s0 + 256) X0 X1 X2 X3 X4 X5 X6 X7 X8 X9 X10 X11) : Done Hd (s0 + 256)
    (View.canon (outPieces X0 X1 X2 X3 X4 X5 X6 X7 X8 X9 X10 X11 (fun k => eightAt acc.2.1 (128 * k)) (fun k => eightAt acc.2.2.1 (128 * k)) (fun k => rowAt (n := 1) acc.2.2.2 0 (128 * k))),
      View.canon (keepPieces (uK X0)), View.canon (keepPieces (xK X0)),
      View.canon (statePieces (fun k => last1 (hsK X0 X1 X2 X3 X4 X5 X6 X7 X8 X9 X10 X11 k (eightAt acc.2.2.1 (128 * k)) (rowAt (n := 1) acc.2.2.2 0 (128 * k)))))) := by
  have hA := fun k hk => KeptAll.head D.u k hk
  have hB := fun k hk => KeptAll.head D.z k hk
  have hh := fun k hk => StateAll.head D.h k hk
  constructor
  · intro y
    dsimp only
    exact canon_out (PA := fun k => eightAt acc.2.1 (128 * k)) (PB := fun k => eightAt acc.2.2.1 (128 * k)) (h := fun k => rowAt (n := 1) acc.2.2.2 0 (128 * k)) B (Or.inr (by omega)) hA hB hh y
  · dsimp only
    have h := canon_keep (fun k => (Hd k).u) (s0 + 256) (v := uK X0) [] (fun k hk j l => B.keepU k hk j l)
    rw [List.append_nil] at h
    exact h
  · dsimp only
    have h := canon_keep (fun k => (Hd k).z) (s0 + 256) (v := xK X0) [] (fun k hk j l => B.keepX k hk j l)
    rw [List.append_nil] at h
    exact h
  · dsimp only
    have h := canon_state Hd (s0 + 256) (v := fun k => last1 (hsK X0 X1 X2 X3 X4 X5 X6 X7 X8 X9 X10 X11 k (eightAt acc.2.2.1 (128 * k)) (rowAt (n := 1) acc.2.2.2 0 (128 * k)))) [] (fun k hk l => B.keepH k hk (Or.inr (by omega)) (hB k hk) (hh k hk) l)
    rw [List.append_nil] at h
    exact h

theorem doneB {Hd : ℕ → Head} {s0 : ℕ} (c : Dev nD) (t : Fin cfg0.N) (acc : Vec Ideal S1x256x2048 .bf16 × Vec Ideal S8x1024 .f32 × Vec Ideal S8x1024 .f32 × Vec Ideal S1x1024 .f32) (h0 : ¬t.val % 8 = 0)
    (D : Done Hd s0 acc) (B : Block Hd (s0 + 256) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) : Done Hd (s0 + 256) (stAt0 m c t.val t.isLt acc) := by
  have e := (stAt0_B m c t acc h0).trans (congrArg₂ Prod.mk (outB_eq _ _ _ _ _ _ _ _ _ _ _ _ _ _ _ _ _ _ _ _ _ _ _ _ _ _ _ _ _ _ _ _ _ _ _ _ _ _ _ _ _ _ _ _ _ _ _ _ _ _) (congrArg₂ Prod.mk (suB_eq _ _ _ _ _ _ _ _ _ _ _ _ _ _ _ _ _ _ _ _ _ _ _ _ _ _ _ _ _ _ _ _ _ _ _ _ _ _ _ _ _ _ _ _ _ _ _ _ _ _) (congrArg₂ Prod.mk (szB_eq _ _ _ _ _ _ _ _ _ _ _ _ _ _ _ _ _ _ _ _ _ _ _ _ _ _ _ _ _ _ _ _ _ _ _ _ _ _ _ _ _ _ _ _ _ _ _ _ _ _) (shB_eq _ _ _ _ _ _ _ _ _ _ _ _ _ _ _ _ _ _ _ _ _ _ _ _ _ _ _ _ _ _ _ _ _ _ _ _ _ _ _ _ _ _ _ _ _ _ _ _ _ _))))
  rw [e]
  exact tileB acc D B

/-! ## All tiles -/

theorem done_at (c : Dev nD) (R : Reals m c) : ∀ (n : ℕ) (hn : n < cfg0.N) (b : Fin 16), b.val = n / 8 → Done (heads m c b) (n % 8 * 256) (outsAt0 m c n hn) := by
  intro n
  induction n with
  | zero =>
    intro hn b hb
    rw [outsAt0_zero]
    exact doneA m c ⟨0, hn⟩ junk0 (Nat.zero_mod 8) (by simpa using block m c R ⟨0, hn⟩ b hb)
  | succ n ih =>
    intro hn b hb
    rw [outsAt0_succ]
    have B := block m c R ⟨n + 1, hn⟩ b hb
    dsimp only at B
    by_cases h0 : (n + 1) % 8 = 0
    · rw [h0, Nat.zero_mul] at B ⊢
      exact doneA m c ⟨n + 1, hn⟩ _ h0 B
    · have D := ih (Nat.lt_of_succ_lt hn) b (by omega)
      have e : (n + 1) % 8 * 256 = n % 8 * 256 + 256 := by omega
      rw [e] at B ⊢
      exact doneB m c ⟨n + 1, hn⟩ _ h0 D B

/-- What the kernel leaves in its result. -/
theorem result_at (c : Dev nD) (R : Reals m c) (i : S16x2048x2048.Idx) :
    (G12 m c : FVec Ideal S16x2048x2048 .bf16) i = outAt (heads m c (i 0)) (i 1).val (i 2).val := by
  have b0 : (i 0).val < 16 := (i 0).isLt
  have b1 : (i 1).val < 2048 := (i 1).isLt
  have b2 : (i 2).val < 2048 := (i 2).isLt
  have hN : cfg0.N = 128 := N_0
  have hp : pt12Of i = 8 * (i 0).val + (i 1).val / 256 := by
    show 8 * ((i 0).val / 1 - 0) + 1 * ((i 1).val / 256 - 0) + 1 * ((i 2).val / 2048 - 0) = _
    omega
  have h : pt12Of i < cfg0.N := by omega
  have D := (done_at m c R (pt12Of i) h (i 0) (by show (i 0).val = _; omega)).out (loc12Of i)
  rw [outsAt0_sweep] at D
  unfold G12
  rw [dif_pos h]
  refine D.trans ?_
  show outAt _ (pt12Of i % 8 * 256 + (i 1).val % 256) ((i 2).val % 2048) = _
  congr 1 <;> omega

end Cert.KernelIdeal.Mix

end
-- ==== Proof.MixRun.lean ====
/- The mixer's reference program: what its run leaves in the arguments, and that its machine ends quiescent. -/
module

public import proofs.«01_k».proof.Proof.Gen.ReferenceIdeal.Run
public import Idealize.ShloMosaic.Lib.Claim

@[expose] public section

set_option maxRecDepth 16384

noncomputable section

namespace Cert.ReferenceIdeal.Mix

open Cert.ReferenceIdeal Cert.ReferenceIdeal.Gen Cert.ReferenceIdeal.Value
open Idealize.ShloMosaic Idealize.ShloMosaic.TcCoe Idealize.SL.Sem
open Idealize.ShloMosaic.StableHlo

variable {F : FTy → Type} [FloatOps F]

/-- The references the loop's condition and body write. -/
abbrev loopW : List (Ref sig .tc) :=
  condOps_W ++ while0Ops0_W ++ while0Ops0_1_W ++ while0Ops0_2_W ++ while0Ops0_3_W ++ while0Ops0_4_W

/-- One trip leaves a reference outside `loopW` as it was. -/
theorem trip_unwritten {r : Ref sig .tc} (h : r ∉ loopW) (V : Valuation τ sig (Elt F)) :
    afterL bodyI (after condOps V) (Proc.devRef .tc r) = V (Proc.devRef .tc r) := by
  simp only [loopW, List.mem_append, not_or] at h
  obtain ⟨⟨⟨⟨⟨h0, h1⟩, h2⟩, h3⟩, h4⟩, h5⟩ := h
  simp only [afterL_cons, afterL_nil]
  rw [after_of_writes_sub _ _ while0Ops0_4_writes h5, after_of_writes_sub _ _ while0Ops0_3_writes h4,
    after_of_writes_sub _ _ while0Ops0_2_writes h3, after_of_writes_sub _ _ while0Ops0_1_writes h2,
    after_of_writes_sub _ _ while0Ops0_writes h1, after_of_writes_sub _ _ condOps_writes h0]

/-- So do any number of trips. -/
theorem trips_unwritten {r : Ref sig .tc} (h : r ∉ loopW) (W₀ : Dev nD → Valuation τ sig (Elt F)) (c : Dev nD) :
    ∀ k : ℕ, atTrip condOps bodyI W₀ k c (Proc.devRef .tc r) = W₀ c (Proc.devRef .tc r)
  | 0 => rfl
  | k + 1 => by rw [atTrip_succ, trip_unwritten h, trips_unwritten h W₀ c k]

/-- The references @main's stretches write, before the loop and after it. -/
abbrev mainW : List (Ref sig .tc) :=
  hostOps0_W ++ hostOps0_1_W ++ hostOps0_2_W ++ hostOps0_3_W ++ hostOps0_4_W ++ hostOps0_5_W ++ hostOps0_6_W

theorem pre_unwritten {r : Ref sig .tc} (h : r ∉ mainW) (V : Valuation τ sig (Elt F)) :
    afterL preI V (Proc.devRef .tc r) = V (Proc.devRef .tc r) := by
  simp only [mainW, List.mem_append, not_or] at h
  obtain ⟨⟨⟨⟨⟨⟨h0, h1⟩, h2⟩, h3⟩, h4⟩, h5⟩, h6⟩ := h
  simp only [afterL_cons, afterL_nil]
  rw [after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- What the buffers hold when the loop is left. -/
abbrev exitContents (m : (ℓ : Loc nD τ sig) → Buf (Elt F) ℓ) (c : Dev nD) : Valuation τ sig (Elt F) :=
  after condOps (atK m 2048 c)

theorem exit_unwritten {r : Ref sig .tc} (h : r ∉ loopW) (m : (ℓ : Loc nD τ sig) → Buf (Elt F) ℓ) (c : Dev nD) :
    exitContents m c (Proc.devRef .tc r) = entryContents preI m c (Proc.devRef .tc r) := by
  have h0 : r ∉ condOps_W := by
    simp only [loopW, List.mem_append, not_or] at h
    exact h.1.1.1.1.1
  rw [exitContents, after_of_writes_sub _ _ condOps_writes h0]
  exact trips_unwritten h _ c 2048

/-- The last stretch leaves the arguments as they were. -/
theorem post_arg (V : Valuation τ sig (Elt F)) (r : Ref sig .tc)
    (h : r ∈ [main_arg0, main_arg1, main_arg2, main_arg3, main_arg4, main_arg5, main_arg6, main_arg7, main_arg8, main_arg9, main_arg10]) :
    afterL postI V (Proc.devRef .tc r) = V (Proc.devRef .tc r) := by
  simp only [List.mem_cons, List.not_mem_nil, or_false] at h
  simp only [afterL_cons, afterL_nil]
  rcases h with rfl | rfl | rfl | rfl | rfl | rfl | rfl | rfl | rfl | rfl | rfl <;> after_reads_simp

/-- Every argument ends holding what it held. -/
theorem final_arg (m : (ℓ : Loc nD τ sig) → Buf (Elt F) ℓ) (c : Dev nD) (r : Ref sig .tc)
    (h : r ∈ [main_arg0, main_arg1, main_arg2, main_arg3, main_arg4, main_arg5, main_arg6, main_arg7, main_arg8, main_arg9, main_arg10]) :
    finalContents condOps preI bodyI postI 2048 m c (Proc.devRef .tc r) = m ((c.tc : Thread nD τ).loc r) := by
  have h1 : r ∉ loopW ∧ r ∉ mainW := by
    simp only [List.mem_cons, List.not_mem_nil, or_false] at h
    rcases h with rfl | rfl | rfl | rfl | rfl | rfl | rfl | rfl | rfl | rfl | rfl <;> exact ⟨by decide +kernel, by decide +kernel⟩
  rw [finalContents, post_arg _ _ h]
  exact (exit_unwritten h1.1 m c).trans (pre_unwritten h1.2 _)

end Cert.ReferenceIdeal.Mix

end
-- ==== Proof.MixRefA.lean ====
/- The reference before its loop: the convolutions, the gates and the recurrence's coefficients are the heads'. -/
module

public import proofs.«01_k».proof.Proof.MixRun
public import proofs.«01_k».proof.Proof.MixHeads
public import Idealize.ShloMosaic.Lib.StableHlo.ReadAt

@[expose] public section

set_option maxRecDepth 16384

noncomputable section

namespace Cert.ReferenceIdeal.Mix

open Cert.ReferenceIdeal Cert.ReferenceIdeal.Gen Cert.ReferenceIdeal.Value Cert.MixSpec
open Idealize.ShloMosaic Idealize.ShloMosaic.TcCoe Idealize.SL.Sem
open Idealize.ShloMosaic.StableHlo

variable (m : (ℓ : Loc nD τ sig) → Buf (Elt Ideal) ℓ) (c : Dev nD)

/-- What the buffers hold when the loop is entered. -/
abbrev entry : Valuation τ sig (Elt Ideal) := entryContents preI m c

/-- The heads of a sequence, from the arguments. -/
def heads (b : Fin 16) : ℕ → Head :=
  headsOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) b

/-- The values before the loop. -/
def gB : FVec Ideal S16x2048x1024 .f32 := entry m c (Proc.devRef .tc main_v3)
@[inherit_doc gB] def yA : FVec Ideal S16x2048x1024 .f32 := entry m c (Proc.devRef .tc main_v28)
@[inherit_doc gB] def xC : FVec Ideal S16x2048x1024 .f32 := entry m c (Proc.devRef .tc main_v61)
@[inherit_doc gB] def rG : FVec Ideal S16x2048x1024 .f32 := entry m c (Proc.devRef .tc main_v79)
@[inherit_doc gB] def iG : FVec Ideal S16x2048x1024 .f32 := entry m c (Proc.devRef .tc main_v91)
@[inherit_doc gB] def sP : FVec Ideal S1024 .f32 := entry m c (Proc.devRef .tc main_v95)
@[inherit_doc gB] def lA : FVec Ideal S16x2048x1024 .f32 := entry m c (Proc.devRef .tc main_v98)
@[inherit_doc gB] def aT : FVec Ideal S2048x16x1024 .f32 := entry m c (Proc.devRef .tc main_v111_0)
@[inherit_doc gB] def vT : FVec Ideal S2048x16x1024 .f32 := entry m c (Proc.devRef .tc main_v111_1)

/-! ## The projections and the parameters, read -/

/-- The projections and the convolutions' weights. -/
def pP : FVec Ideal S16x2048x5120 .f32 := launchContents m c (Proc.devRef .tc main_arg0)
@[inherit_doc pP] def pW3 : FVec Ideal S1x3x1024 .f32 := launchContents m c (Proc.devRef .tc main_arg1)
@[inherit_doc pP] def pW4 : FVec Ideal S1x4x1024 .f32 := launchContents m c (Proc.devRef .tc main_arg2)

theorem arg0_at (b : Fin 16) (s : Fin 2048) (n : Fin 5120) (s' n' : ℕ) (hs : s' = s.val) (hn : n' = n.val) :
    pP m c (ix3 b s n) = proj (m ((c : Thread nD τ).loc main_arg0)) b s' n' := by
  subst hs hn; exact (proj_at _ b s n).symm

/-- A gate over the convolved input. -/
def gateOf (x : FVec Ideal S16x2048x1024 .f32) (w : FVec Ideal S1x8x128x128 .f32) (b : FVec Ideal S1x1024 .f32) : FVec Ideal S16x2048x1024 .f32 :=
  Host.divf (broadcastInDim S16x2048x1024 ![] bcast_S_S16x2048x1024 (constant S_ .f32 0x3F800000#32))
    (addf (broadcastInDim S16x2048x1024 ![] bcast_S_S16x2048x1024 (constant S_ .f32 0x3F800000#32))
      (Host.exp (Host.negf (addf
        (shapeCast S16x2048x1024 (transpose S16x2048x8x128 [2, 3, 0, 1]
          (Host.dotGeneral dot_S8x128x128_S16x2048x8x128_S8x128x16x2048_1_3_2_01_0_2 none (shapeCast S8x128x128 w shapeCasts_S1x8x128x128_S8x128x128)
            (shapeCast S16x2048x8x128 x shapeCasts_S16x2048x1024_S16x2048x8x128)) transposes_S8x128x16x2048_S16x2048x8x128_2_3_0_1)
          shapeCasts_S16x2048x8x128_S16x2048x1024)
        (broadcastInDim S16x2048x1024 ![0, 1, 2] bcast_S1x1x1024_S16x2048x1024_0_1_2
          (broadcastInDim S1x1x1024 ![2] bcast_S1024_S1x1x1024_2 (shapeCast S1024 b shapeCasts_S1x1024_S1024)))))))

theorem rG_eq : rG m c = gateOf (xC m c) (m ((c : Thread nD τ).loc main_arg4)) (m ((c : Thread nD τ).loc main_arg5)) := by
  unfold rG xC entry entryContents gateOf
  simp only [preI, afterL_cons, afterL_nil]
  after_reads_simp
  rfl

theorem iG_eq : iG m c = gateOf (xC m c) (m ((c : Thread nD τ).loc main_arg6)) (m ((c : Thread nD τ).loc main_arg7)) := by
  unfold iG xC entry entryContents gateOf
  simp only [preI, afterL_cons, afterL_nil]
  after_reads_simp
  rfl

theorem lA_eq : lA m c = mulf (mulf (broadcastInDim S16x2048x1024 ![] bcast_S_S16x2048x1024 (constant S_ .f32 0xC1000000#32)) (rG m c))
    (broadcastInDim S16x2048x1024 ![0, 1, 2] bcast_S1x1x1024_S16x2048x1024_0_1_2 (broadcastInDim S1x1x1024 ![2] bcast_S1024_S1x1x1024_2 (sP m c))) := by
  unfold lA rG sP entry entryContents
  simp only [preI, afterL_cons, afterL_nil]
  after_reads_simp

theorem aT_eq : aT m c = transpose S2048x16x1024 [1, 0, 2] (Host.exp (lA m c)) transposes_S16x2048x1024_S2048x16x1024_1_0_2 := by
  unfold aT lA entry entryContents
  simp only [preI, afterL_cons, afterL_nil]
  after_reads_simp
  rfl

theorem vT_eq : vT m c = transpose S2048x16x1024 [1, 0, 2]
    (mulf (mulf (Host.sqrt (Host.negf (Host.expm1 (mulf (broadcastInDim S16x2048x1024 ![] bcast_S_S16x2048x1024 (constant S_ .f32 0x40000000#32)) (lA m c)))))
      (iG m c)) (xC m c)) transposes_S16x2048x1024_S2048x16x1024_1_0_2 := by
  unfold vT lA iG xC entry entryContents
  simp only [preI, afterL_cons, afterL_nil]
  after_reads_simp
  rfl

theorem sP_at (n : Fin 1024) : sP m c (ix1 n) = soft (param (m ((c : Thread nD τ).loc main_arg8)) n.val) := by
  rw [param_at]
  unfold sP entry entryContents
  simp only [preI, afterL_cons, afterL_nil]
  after_reads_at
  rw [if_neg (fun h => h rfl)]
  unfold soft
  simp only [zero_sub]

/-! ## The convolutions -/

theorem sitofp_zero : FloatOps.sitofp (F := Ideal) .f32 0#32 = (0 : EReal) := by
  show (((0#32 : BitVec 32).toInt : ℝ) : EReal) = 0
  simp

/-- A row read through the padding. -/
theorem padded (f : ℕ → EReal) (g : (t : ℕ) → t < 2048 → EReal) (hg : ∀ t ht, g t ht = f t) {d q s' s : ℕ} (h1 : s' + q = s + d) (h2 : q ≤ d) (hs : s < 2048) :
    (if h : d ≤ s' ∧ s' - d < 2048 then g (s' - d) h.2 else FloatOps.sitofp (F := Ideal) .f32 0#32) = back q f s := by
  unfold back
  by_cases h : q ≤ s
  · rw [dif_pos ⟨by omega, by omega⟩, if_pos h, hg]
    congr 1
    omega
  · rw [dif_neg (by omega), if_neg h, sitofp_zero]

variable (b : Fin 16) (s : Fin 2048) (k : Fin 8) (l : Fin 128)

theorem gB_at : gB m c (ix3 b s ⟨128 * k.val + l.val, by omega⟩) = (heads m c b k.val).g s.val l := by
  unfold gB entry entryContents
  simp only [preI, afterL_cons, afterL_nil]
  after_reads_at
  exact arg0_at m c b s _ _ _ rfl (by show 3072 + 128 * k.val + l.val = 3072 + (128 * k.val + l.val); omega)

theorem u_at (n : Fin 1024) (hn : n.val = 128 * k.val + l.val) (t : ℕ) (ht : t < 2048) :
    pP m c (ix3 b ⟨t, ht⟩ ⟨1024 + n.val, by omega⟩) * pP m c (ix3 b ⟨t, ht⟩ ⟨2048 + n.val, by omega⟩) = (heads m c b k.val).u t l :=
  congrArg₂ (fun x y : EReal => x * y) (arg0_at m c b ⟨t, ht⟩ _ _ _ rfl (by show 1024 + 128 * k.val + l.val = 1024 + n.val; omega))
    (arg0_at m c b ⟨t, ht⟩ _ _ _ rfl (by show 2048 + 128 * k.val + l.val = 2048 + n.val; omega))

theorem z_at (n : Fin 1024) (hn : n.val = 128 * k.val + l.val) (t : ℕ) (ht : t < 2048) :
    pP m c (ix3 b ⟨t, ht⟩ ⟨4096 + n.val, by omega⟩) = (heads m c b k.val).z t l :=
  arg0_at m c b ⟨t, ht⟩ _ _ _ rfl (by show 4096 + 128 * k.val + l.val = 4096 + n.val; omega)

theorem w3_at (n : Fin 1024) (hn : n.val = 128 * k.val + l.val) (j : Fin 3) : pW3 m c (ix3 0 j n) = (heads m c b k.val).w3 j l :=
  (tap_at (pW3 m c) j n).symm.trans (congrArg (tap (pW3 m c) j) hn)
theorem w4_at (n : Fin 1024) (hn : n.val = 128 * k.val + l.val) (j : Fin 4) : pW4 m c (ix3 0 j n) = (heads m c b k.val).w4 j l :=
  (tap_at (pW4 m c) j n).symm.trans (congrArg (tap (pW4 m c) j) hn)

theorem yA_of (n : Fin 1024) (hn : n.val = 128 * k.val + l.val) : yA m c (ix3 b s n) = (heads m c b k.val).ya s.val l := by
  unfold yA entry entryContents
  simp only [preI, afterL_cons, afterL_nil]
  after_reads_at
  refine (congrArg₂ (fun x y : EReal => x * y) (arg0_at m c b s ⟨n.val, by omega⟩ _ _ rfl hn.symm) (congrArg₂ (fun x y : EReal => x + y) (congrArg₂ (fun x y : EReal => x + y)
    (congrArg₂ (fun x y : EReal => x * y) (w3_at m c b k l n hn 0) (padded (fun t => (heads m c b k.val).u t l) _ (u_at m c b k l n hn) (d := 2) (q := 2) (s' := s.val) rfl (by decide) s.isLt))
    (congrArg₂ (fun x y : EReal => x * y) (w3_at m c b k l n hn 1) (padded (fun t => (heads m c b k.val).u t l) _ (u_at m c b k l n hn) (d := 2) (q := 1) (s' := 1 + s.val) (by omega) (by decide) s.isLt)))
    (congrArg₂ (fun x y : EReal => x * y) (w3_at m c b k l n hn 2) (u_at m c b k l n hn s.val s.isLt)))).trans ?_
  unfold Head.ya
  refine congrArg₂ (fun x y : EReal => x * y) rfl ?_
  rw [add_comm, add_comm ((heads m c b k.val).w3 0 l * _), ← add_assoc]

theorem xC_of (n : Fin 1024) (hn : n.val = 128 * k.val + l.val) : xC m c (ix3 b s n) = (heads m c b k.val).xc s.val l := by
  have hb : (m ((c : Thread nD τ).loc main_arg3) : FVec Ideal S1x1024 .f32) (ix2 0 n) = (heads m c b k.val).b4 l :=
    (param_at (m ((c : Thread nD τ).loc main_arg3)) n).symm.trans (congrArg (param _) hn)
  unfold xC entry entryContents
  simp only [preI, afterL_cons, afterL_nil]
  after_reads_at
  refine (congrArg₂ (fun x y : EReal => x + y) (congrArg₂ (fun x y : EReal => x + y) (congrArg₂ (fun x y : EReal => x + y) (congrArg₂ (fun x y : EReal => x + y)
    (congrArg₂ (fun x y : EReal => x * y) (w4_at m c b k l n hn 0) (padded (fun t => (heads m c b k.val).z t l) _ (z_at m c b k l n hn) (d := 3) (q := 3) (s' := s.val) rfl (by decide) s.isLt))
    (congrArg₂ (fun x y : EReal => x * y) (w4_at m c b k l n hn 1) (padded (fun t => (heads m c b k.val).z t l) _ (z_at m c b k l n hn) (d := 3) (q := 2) (s' := 1 + s.val) (by omega) (by decide) s.isLt)))
    (congrArg₂ (fun x y : EReal => x * y) (w4_at m c b k l n hn 2) (padded (fun t => (heads m c b k.val).z t l) _ (z_at m c b k l n hn) (d := 3) (q := 1) (s' := 2 + s.val) (by omega) (by decide) s.isLt)))
    (congrArg₂ (fun x y : EReal => x * y) (w4_at m c b k l n hn 3) (z_at m c b k l n hn s.val s.isLt))) hb).trans ?_
  unfold Head.xc
  refine congrArg₂ (fun x y : EReal => x + y) ?_ rfl
  ac_rfl

theorem yA_at : yA m c (ix3 b s ⟨128 * k.val + l.val, by omega⟩) = (heads m c b k.val).ya s.val l := yA_of m c b s k l _ rfl
theorem xC_at : xC m c (ix3 b s ⟨128 * k.val + l.val, by omega⟩) = (heads m c b k.val).xc s.val l := xC_of m c b s k l _ rfl

/-! ## The gates -/

theorem gateOf_at (x : FVec Ideal S16x2048x1024 .f32) (w : FVec Ideal S1x8x128x128 .f32) (a : FVec Ideal S1x1024 .f32)
    (hx : ∀ i : Fin 128, x (ix3 b s ⟨128 * k.val + i.val, by omega⟩) = (heads m c b k.val).xc s.val i) :
    gateOf x w a (ix3 b s ⟨128 * k.val + l.val, by omega⟩) =
      Ideal.logistic (∑ i, (heads m c b k.val).xc s.val i * gateW w k.val i l + param a (128 * k.val + l.val)) := by
  pointwise [gateOf]
  have hb : a (ix2 0 ⟨128 * k.val + l.val, by omega⟩) = param a (128 * k.val + l.val) := (param_at a ⟨128 * k.val + l.val, by omega⟩).symm
  have hs : ∀ i : Fin 128, w (ix4 0 k i l) * x (ix3 b s ⟨k.val * 128 + i.val, by omega⟩) = (heads m c b k.val).xc s.val i * gateW w k.val i l := by
    intro i
    have e : (⟨k.val * 128 + i.val, by omega⟩ : Fin 1024) = ⟨128 * k.val + i.val, by omega⟩ := Fin.ext (by show k.val * 128 + i.val = 128 * k.val + i.val; omega)
    rw [e, hx, gateW_at, mul_comm]
  exact congrArg (fun y : EReal => Ideal.div 1 (1 + Ideal.exp (-y))) (congrArg₂ (fun x y : EReal => x + y) (Finset.sum_congr rfl (fun i _ => hs i)) hb)

theorem rG_at : rG m c (ix3 b s ⟨128 * k.val + l.val, by omega⟩) = (heads m c b k.val).r s.val l := by
  rw [rG_eq]
  exact gateOf_at m c b s k l _ _ _ (fun i => xC_at m c b s k i)

theorem iG_at : iG m c (ix3 b s ⟨128 * k.val + l.val, by omega⟩) = (heads m c b k.val).i s.val l := by
  rw [iG_eq]
  exact gateOf_at m c b s k l _ _ _ (fun i => xC_at m c b s k i)

/-! ## The recurrence's coefficients -/

theorem lA_at : lA m c (ix3 b s ⟨128 * k.val + l.val, by omega⟩) = (heads m c b k.val).la s.val l := by
  rw [lA_eq]
  pointwise
  exact congrArg₂ (fun x y : EReal => x * y) (congrArg₂ (fun x y : EReal => x * y) rfl (rG_at m c b s k l)) (sP_at m c ⟨128 * k.val + l.val, by omega⟩)

theorem aT_at : aT m c (ix3 s b ⟨128 * k.val + l.val, by omega⟩) = (heads m c b k.val).a s.val l := by
  rw [aT_eq]
  pointwise
  exact congrArg Ideal.exp (lA_at m c b s k l)

theorem two_eq : Ideal.ofBits .f32 1073741824#32 = ((2 : ℝ) : EReal) := by
  simp [Ideal.ofBits, Ideal.ieee, -EReal.coe_mul]; norm_num

theorem vT_at : vT m c (ix3 s b ⟨128 * k.val + l.val, by omega⟩) = (heads m c b k.val).v s.val l := by
  rw [vT_eq]
  pointwise
  refine congrArg₂ (fun x y : EReal => x * y) (congrArg₂ (fun x y : EReal => x * y) ?_ (iG_at m c b s k l)) (xC_at m c b s k l)
  unfold weight
  rw [weight_eq, ← two_eq, ← lA_at]
  rfl

/-! ## The loop starts from zeros -/

theorem init_h (b : Fin 16) (n : Fin 1024) : (entry m c (Proc.devRef .tc main_v111_3) : FVec Ideal S16x1024 .f32) (ix2 b n) = (0 : EReal) := by
  unfold entry entryContents
  simp only [preI, afterL_cons, afterL_nil]
  after_reads_simp
  simp only [id]
  pointwise

end Cert.ReferenceIdeal.Mix

end
-- ==== Proof.MixRefB.lean ====
/- The reference's loop runs the heads' recurrence. -/
module

public import proofs.«01_k».proof.Proof.MixRefA
public import Idealize.ShloMosaic.Lib.WordCmp

@[expose] public section

set_option maxRecDepth 16384

noncomputable section

namespace Cert.ReferenceIdeal.Mix

open Cert.ReferenceIdeal Cert.ReferenceIdeal.Gen Cert.ReferenceIdeal.Value Cert.MixSpec
open Idealize.ShloMosaic Idealize.ShloMosaic.TcCoe Idealize.SL.Sem
open Idealize.ShloMosaic.StableHlo

variable (m : (ℓ : Loc nD τ sig) → Buf (Elt Ideal) ℓ) (c : Dev nD)

/-! ## A row of the rows, read and written -/

/-- Where a trip reads and writes. -/
abbrev start (w : IVec S_ 32) : Fin 3 → Int :=
  fun k => (((![w, constantI S_ 32 0#32, constantI S_ 32 0#32] : Fin 3 → IVec S_ 32)) k (Shape.Idx.first h_S_)).toInt

theorem start_eq (w : IVec S_ 32) (t : ℕ) (ht : t < 2048) (hw : ∀ i, w i = BitVec.ofNat 32 t) (a : Fin 3) : start w a = ((![t, 0, 0] : Fin 3 → ℕ) a : Int) := by
  fin_cases a
  · show (w _).toInt = (t : Int)
    rw [hw, BitVec.toInt_eq_toNat_cond, BitVec.toNat_ofNat]
    omega
  · rfl
  · rfl

theorem fits (t : ℕ) (ht : t < 2048) : S2048x16x1024.Slices ![t, 0, 0] S1x16x1024 :=
  ⟨rfl, fun a => by
    fin_cases a
    · exact (by omega : t + 1 ≤ 2048)
    · exact (by decide : 0 + 16 ≤ 16)
    · exact (by decide : 0 + 1024 ≤ 1024)⟩

theorem row_at (x : FVec Ideal S2048x16x1024 .f32) (w : IVec S_ 32) (t : ℕ) (ht : t < 2048) (hw : ∀ i, w i = BitVec.ofNat 32 t) (b : Fin 16) (n : Fin 1024) :
    shapeCast S16x1024 (Host.dynamicSlice S1x16x1024 x (start w) sliceFits_S2048x16x1024_S1x16x1024) shapeCasts_S1x16x1024_S16x1024 (ix2 b n) = x (ix3 ⟨t, ht⟩ b n) := by
  rw [WordCmp.dynamicSlice_eq_extract S1x16x1024 x (start w) _ ![t, 0, 0] (fits t ht) (start_eq w t ht hw)]
  pointwise

theorem written_at (x : FVec Ideal S2048x16x1024 .f32) (y : FVec Ideal S16x1024 .f32) (w : IVec S_ 32) (t : ℕ) (ht : t < 2048) (hw : ∀ i, w i = BitVec.ofNat 32 t)
    (s : Fin 2048) (b : Fin 16) (n : Fin 1024) :
    Host.dynamicUpdateSlice x (broadcastInDim S1x16x1024 ![1, 2] bcast_S16x1024_S1x16x1024_1_2 y) (start w) updateFits_S2048x16x1024_S1x16x1024 (ix3 s b n) =
      if s.val = t then y (ix2 b n) else x (ix3 s b n) := by
  rw [WordCmp.dynamicUpdateSlice_eq_update x _ (start w) _ ![t, 0, 0] (fits t ht) (start_eq w t ht hw)]
  pointwise
  by_cases e : s.val = t
  · rw [dif_pos ⟨by omega, by omega⟩, if_pos e]
  · rw [dif_neg (by omega), if_neg e]

/-! ## The trips -/

/-- The state at a row is the recurrence's step from the row before. -/
theorem h_step (H : Head) (t : ℕ) (l : Fin 128) : H.h t l = H.a t l * back 1 (fun t => H.h t l) t + H.v t l := by
  cases t with
  | zero => exact add_comm _ _
  | succ t =>
    unfold back
    rw [if_pos (by omega)]
    exact add_comm _ _

/-- What the loop carries after `t` trips. -/
structure After (t : ℕ) (V : Valuation τ sig (Elt Ideal)) : Prop where
  a : V (Proc.devRef .tc main_v111_0) = aT m c
  v : V (Proc.devRef .tc main_v111_1) = vT m c
  w : ∀ i, (V (Proc.devRef .tc main_v111_2) : IVec S_ 32) i = BitVec.ofNat 32 t
  h : ∀ (b : Fin 16) (k : Fin 8) (l : Fin 128), (V (Proc.devRef .tc main_v111_3) : FVec Ideal S16x1024 .f32) (ix2 b ⟨128 * k.val + l.val, by omega⟩) =
    back 1 (fun t => (heads m c b k.val).h t l) t
  out : ∀ (s : Fin 2048) (b : Fin 16) (k : Fin 8) (l : Fin 128), s.val < t →
    (V (Proc.devRef .tc main_v111_4) : FVec Ideal S2048x16x1024 .f32) (ix3 s b ⟨128 * k.val + l.val, by omega⟩) = (heads m c b k.val).h s.val l

theorem state_at {t : ℕ} {V : Valuation τ sig (Elt Ideal)} (A : After m c t V) (ht : t < 2048) (b : Fin 16) (k : Fin 8) (l : Fin 128) :
    (res_main_while0b_v164 V : FVec Ideal S16x1024 .f32) (ix2 b ⟨128 * k.val + l.val, by omega⟩) = (heads m c b k.val).h t l := by
  rw [h_step]
  unfold res_main_while0b_v164
  refine congrArg₂ (fun x y : EReal => x + y) (congrArg₂ (fun x y : EReal => x * y) ?_ (A.h b k l)) ?_
  · refine (row_at _ _ t ht A.w b _).trans ?_
    rw [A.a]
    exact aT_at m c b ⟨t, ht⟩ k l
  · refine (row_at _ _ t ht A.w b _).trans ?_
    rw [A.v]
    exact vT_at m c b ⟨t, ht⟩ k l

theorem after_step {t : ℕ} {V : Valuation τ sig (Elt Ideal)} (A : After m c t V) (ht : t < 2048) : After m c (t + 1) (STEP V) where
  a := (STEP_main_v111_0 V).trans A.a
  v := (STEP_main_v111_1 V).trans A.v
  w i := by
    rw [STEP_main_v111_2]
    unfold step_main_v111_2
    refine (congrArg (fun x : BitVec 32 => x + 1#32) (A.w i)).trans ?_
    rw [BitVec.ofNat_add]
  h b k l := by
    rw [STEP_main_v111_3]
    unfold step_main_v111_3 back
    rw [if_pos (by omega)]
    exact state_at m c A ht b k l
  out s b k l hs := by
    rw [STEP_main_v111_4]
    unfold step_main_v111_4
    refine (written_at _ _ _ t ht A.w s b _).trans ?_
    by_cases e : s.val = t
    · rw [if_pos e, state_at m c A ht b k l, e]
    · rw [if_neg e]
      exact A.out s b k l (by omega)

theorem after_trips : ∀ t, t ≤ 2048 → After m c t (STEP^[t] (entry m c))
  | 0, _ =>
    { a := rfl
      v := rfl
      w := fun i => congrFun (ctr_entry m c) i
      h := fun b k l => by
        unfold back
        rw [if_neg (by omega)]
        exact init_h m c b _
      out := fun s b k l hs => absurd hs (Nat.not_lt_zero _) }
  | t + 1, ht => by
    rw [Function.iterate_succ_apply']
    exact after_step m c (after_trips t (by omega)) (by omega)

/-- The states the loop leaves. -/
theorem states_at (s : Fin 2048) (b : Fin 16) (k : Fin 8) (l : Fin 128) :
    (exitContents m c (Proc.devRef .tc main_v111_4) : FVec Ideal S2048x16x1024 .f32) (ix3 s b ⟨128 * k.val + l.val, by omega⟩) = (heads m c b k.val).h s.val l := by
  have e : exitContents m c (Proc.devRef .tc main_v111_4) = STEP^[2048] (entry m c) (Proc.devRef .tc main_v111_4) :=
    (cond_keeps (atK m 2048 c) main_v111_4 (by decide)).trans (atK_agree m c 2048 main_v111_4 (by decide))
  rw [e]
  exact (after_trips m c 2048 (le_refl _)).out s b k l s.isLt

end Cert.ReferenceIdeal.Mix

end
-- ==== Proof.MixRefC.lean ====
/- The reference's result, at an index, is the heads'. -/
module

public import proofs.«01_k».proof.Proof.MixRefB

@[expose] public section

set_option maxRecDepth 16384

noncomputable section

namespace Cert.ReferenceIdeal.Mix

open Cert.ReferenceIdeal Cert.ReferenceIdeal.Gen Cert.ReferenceIdeal.Value Cert.MixSpec
open Idealize.ShloMosaic Idealize.ShloMosaic.TcCoe Idealize.SL.Sem
open Idealize.ShloMosaic.StableHlo

variable (m : (ℓ : Loc nD τ sig) → Buf (Elt Ideal) ℓ) (c : Dev nD)

/-- A sum over a group of 64 channels is the sum over the head's 128 with the others masked. -/
theorem group_sum (f : Fin 128 → EReal) (hf : ∀ k, IsR (f k)) (l : Fin 128) :
    (∑ x : Fin 64, f ⟨l.val / 64 * 64 + x.val, by omega⟩) * ((1 / 64 : ℝ) : EReal) =
      ∑ k : Fin 128, f k * (if k.val / 64 = l.val / 64 then ((1 / 64 : ℝ) : EReal) else 0) := by
  rw [← sum_mul_const _ _ (fun i => hf _)]
  refine Eq.trans ?_ (Fin.sum_univ_add (a := 64) (b := 64) (fun k : Fin (64 + 64) => f k * (if k.val / 64 = l.val / 64 then ((1 / 64 : ℝ) : EReal) else 0))).symm
  have h : l.val / 64 = 0 ∨ l.val / 64 = 1 := by omega
  rcases h with h | h
  · rw [Finset.sum_eq_zero (s := Finset.univ) (f := fun i : Fin 64 => f (Fin.natAdd 64 i) * (if (Fin.natAdd 64 i).val / 64 = l.val / 64 then ((1 / 64 : ℝ) : EReal) else 0)), add_zero]
    · refine Finset.sum_congr rfl fun x _ => ?_
      rw [if_pos (by simp only [Fin.val_castAdd]; omega)]
      refine congrArg (fun i => f i * ((1 / 64 : ℝ) : EReal)) (Fin.ext ?_)
      show l.val / 64 * 64 + x.val = x.val
      omega
    · intro x _
      rw [if_neg (by simp only [Fin.val_natAdd]; omega), mul_zero]
  · rw [Finset.sum_eq_zero (s := Finset.univ) (f := fun i : Fin 64 => f (Fin.castAdd 64 i) * (if (Fin.castAdd 64 i).val / 64 = l.val / 64 then ((1 / 64 : ℝ) : EReal) else 0)), zero_add]
    · refine Finset.sum_congr rfl fun x _ => ?_
      rw [if_pos (by simp only [Fin.val_natAdd]; omega)]
      refine congrArg (fun i => f i * ((1 / 64 : ℝ) : EReal)) (Fin.ext ?_)
      show l.val / 64 * 64 + x.val = 64 + x.val
      omega
    · intro x _
      rw [if_neg (by simp only [Fin.val_castAdd]; omega), mul_zero]

theorem f64 : Ideal.ofBits .f32 1115684864#32 = ((64 : ℝ) : EReal) := by
  simp [Ideal.ofBits, Ideal.ieee, -EReal.coe_mul]; norm_num

theorem f128 : Ideal.ofBits .f32 1124073472#32 = ((128 : ℝ) : EReal) := by
  simp [Ideal.ofBits, Ideal.ieee, -EReal.coe_mul]; norm_num

theorem d64 (x : EReal) : Ideal.div x (Ideal.ofBits .f32 1115684864#32) = x * ((1 / 64 : ℝ) : EReal) := by
  rw [f64]; exact Ideal.div_coe (by norm_num) x

theorem d128 (x : EReal) : Ideal.div x (Ideal.ofBits .f32 1124073472#32) = x * ((1 / 128 : ℝ) : EReal) := by
  rw [f128]; exact Ideal.div_coe (by norm_num) x

/-- The convolution branch, normalised: the left half of the result. -/
theorem left_at (V : Valuation τ sig (Elt Ideal)) (Y : Fin 1024 → EReal) (A : EReal) (b : Fin 16) (s : Fin 2048) (q : Fin 16) (r : Fin 64)
    (hY : ∀ j : Fin 1024, (V (Proc.devRef .tc main_v28) : FVec Ideal S16x2048x1024 .f32) (ix3 b s j) = Y j)
    (hA : (V (Proc.devRef .tc main_arg9) : FVec Ideal S1x1024 .f32) (ix2 0 ⟨64 * q.val + r.val, by omega⟩) = A) :
    ∀ n : Fin 2048, n.val = 64 * q.val + r.val → (afterL postI V (Proc.devRef .tc main_v160) : FVec Ideal S16x2048x2048 .bf16) (ix3 b s n) =
      Y ⟨64 * q.val + r.val, by omega⟩ * Ideal.rsqrt ((∑ x : Fin 64, Y ⟨64 * q.val + x.val, by omega⟩ * Y ⟨64 * q.val + x.val, by omega⟩) * ((1 / 64 : ℝ) : EReal) +
        Ideal.ofBits .f32 897988541#32) * A := by
  have hb : 64 * q.val + r.val < 2048 := by omega
  intro n hn
  obtain rfl : n = ⟨64 * q.val + r.val, hb⟩ := Fin.ext hn
  clear hn
  simp only [afterL_cons, afterL_nil]
  after_reads_at
  rw [dif_pos (by omega)]
  after_reads_at
  simp only [hY, d64]
  have e : (64 * q.val + r.val) / 64 = q.val := by omega
  refine congrArg₂ (fun x y : EReal => x * y) (congrArg₂ (fun x y : EReal => x * y) (congrArg Y (Fin.ext ?_)) (congrArg (fun x => Ideal.rsqrt (x * ((1 / 64 : ℝ) : EReal) + Ideal.ofBits .f32 897988541#32))
    (Finset.sum_congr rfl fun x _ => ?_))) hA
  · show (64 * q.val + r.val) / 64 * 64 + (64 * q.val + r.val) % 64 = 64 * q.val + r.val
    omega
  · exact congrArg (fun i => Y i * Y i) (Fin.ext (by show (64 * q.val + r.val) / 64 * 64 + x.val = 64 * q.val + x.val; omega))

/-- The recurrence branch, normalised: the right half. -/
theorem right_at (V : Valuation τ sig (Elt Ideal)) (h g : Fin 128 → EReal) (B : EReal) (b : Fin 16) (s : Fin 2048) (k : Fin 8) (l : Fin 128)
    (hH : ∀ j : Fin 128, (V (Proc.devRef .tc main_v111_4) : FVec Ideal S2048x16x1024 .f32) (ix3 s b ⟨128 * k.val + j.val, by omega⟩) = h j)
    (hG : ∀ j : Fin 128, (V (Proc.devRef .tc main_v3) : FVec Ideal S16x2048x1024 .f32) (ix3 b s ⟨128 * k.val + j.val, by omega⟩) = g j)
    (hB : (V (Proc.devRef .tc main_arg10) : FVec Ideal S1x1024 .f32) (ix2 0 ⟨128 * k.val + l.val, by omega⟩) = B) :
    ∀ n : Fin 2048, n.val = 1024 + (128 * k.val + l.val) → (afterL postI V (Proc.devRef .tc main_v160) : FVec Ideal S16x2048x2048 .bf16) (ix3 b s n) =
      h l * gelu (g l) * Ideal.rsqrt ((∑ x : Fin 128, (h x * gelu (g x)) * (h x * gelu (g x))) * ((1 / 128 : ℝ) : EReal) + Ideal.ofBits .f32 897988541#32) * B := by
  have hb : 1024 + (128 * k.val + l.val) < 2048 := by omega
  intro n hn
  obtain rfl : n = ⟨1024 + (128 * k.val + l.val), hb⟩ := Fin.ext hn
  clear hn
  have gl : ∀ z : EReal, z * (Ideal.ofBits FTy.f32 1056964608#32 * (1 + Ideal.tanh (Ideal.ofBits FTy.f32 1061962282#32 * (z + Ideal.ofBits FTy.f32 1027024659#32 * (z * z * z))))) = gelu z := by
    intro z
    unfold gelu
    rw [← mul_assoc, mul_comm z]
  have H : ∀ (x : Fin 128) (j : Fin 1024), j.val = 128 * k.val + x.val → (V (Proc.devRef .tc main_v111_4) : FVec Ideal S2048x16x1024 .f32) (ix3 s b j) = h x := by
    intro x j e; rw [← hH x]; exact congrArg (fun j => (V (Proc.devRef .tc main_v111_4) : FVec Ideal S2048x16x1024 .f32) (ix3 s b j)) (Fin.ext e)
  have G : ∀ (x : Fin 128) (j : Fin 1024), j.val = 128 * k.val + x.val → (V (Proc.devRef .tc main_v3) : FVec Ideal S16x2048x1024 .f32) (ix3 b s j) = g x := by
    intro x j e; rw [← hG x]; exact congrArg (fun j => (V (Proc.devRef .tc main_v3) : FVec Ideal S16x2048x1024 .f32) (ix3 b s j)) (Fin.ext e)
  simp only [afterL_cons, afterL_nil]
  after_reads_at
  after_reads_at
  simp only [gl, d128]
  have e : (128 * k.val + l.val) / 128 = k.val := by omega
  have el : (128 * k.val + l.val) / 128 * 128 + (128 * k.val + l.val) % 128 = 128 * k.val + l.val := by omega
  have ex : ∀ x : Fin 128, (128 * k.val + l.val) / 128 * 128 + x.val = 128 * k.val + x.val := by intro x; omega
  refine congrArg₂ (fun x y : EReal => x * y) (congrArg₂ (fun x y : EReal => x * y) (congrArg₂ (fun x y => x * gelu y) (H l _ el) (G l _ el)) (congrArg (fun x => Ideal.rsqrt (x * ((1 / 128 : ℝ) : EReal) + Ideal.ofBits .f32 897988541#32))
    (Finset.sum_congr rfl fun x _ => ?_))) hB
  have tH := H x ⟨(128 * k.val + l.val) / 128 * 128 + x.val, by omega⟩ (ex x)
  have tG := G x ⟨(128 * k.val + l.val) / 128 * 128 + x.val, by omega⟩ (ex x)
  have t := congrArg₂ (fun x y => x * gelu y) tH tG
  exact congrArg₂ (fun x y : EReal => x * y) t t

/-- The arguments whose entries have to be real numbers. -/
structure Reals : Prop where
  p : ∀ i, IsR ((m ((c : Thread nD τ).loc main_arg0) : FVec Ideal S16x2048x5120 .f32) i)
  w3 : ∀ i, IsR ((m ((c : Thread nD τ).loc main_arg1) : FVec Ideal S1x3x1024 .f32) i)
  w4 : ∀ i, IsR ((m ((c : Thread nD τ).loc main_arg2) : FVec Ideal S1x4x1024 .f32) i)
  b4 : ∀ i, IsR ((m ((c : Thread nD τ).loc main_arg3) : FVec Ideal S1x1024 .f32) i)

theorem exit_g : exitContents m c (Proc.devRef .tc main_v3) = gB m c := exit_unwritten (by decide +kernel) m c
theorem exit_y : exitContents m c (Proc.devRef .tc main_v28) = yA m c := exit_unwritten (by decide +kernel) m c
theorem exit_ga : exitContents m c (Proc.devRef .tc main_arg9) = m ((c : Thread nD τ).loc main_arg9) :=
  (exit_unwritten (by decide +kernel) m c).trans (pre_unwritten (by decide +kernel) _)
theorem exit_gb : exitContents m c (Proc.devRef .tc main_arg10) = m ((c : Thread nD τ).loc main_arg10) :=
  (exit_unwritten (by decide +kernel) m c).trans (pre_unwritten (by decide +kernel) _)

/-- What the reference leaves in its result. -/
theorem result_at (R : Reals m c) (i : S16x2048x2048.Idx) :
    (finalContents condOps preI bodyI postI 2048 m c (Proc.devRef .tc main_v160) : FVec Ideal S16x2048x2048 .bf16) i =
      outAt (heads m c (i 0)) (i 1).val (i 2).val := by
  idx_vars i
  revert i0 i1 i2
  intro b s n
  rw [finalContents]
  show _ = outAt (heads m c b) s.val n.val
  have hr : ∀ k, (heads m c b k).Real := fun k => headsOf_real R.p R.w3 R.w4 R.b4
  unfold outAt
  by_cases h : n.val < 1024
  · rw [if_pos h]
    have hk : n.val / 128 < 8 := by omega
    have Y : ∀ j : Fin 1024, (exitContents m c (Proc.devRef .tc main_v28) : FVec Ideal S16x2048x1024 .f32) (ix3 b s j) =
        (heads m c b (j.val / 128)).ya s.val ⟨j.val % 128, Nat.mod_lt _ (by decide)⟩ := by
      intro j
      rw [exit_y]
      exact yA_of m c b s ⟨j.val / 128, by omega⟩ ⟨j.val % 128, Nat.mod_lt _ (by decide)⟩ j (by show j.val = 128 * (j.val / 128) + j.val % 128; omega)
    refine (left_at (exitContents m c) (fun j => (heads m c b (j.val / 128)).ya s.val ⟨j.val % 128, Nat.mod_lt _ (by decide)⟩)
      (param (m ((c : Thread nD τ).loc main_arg9)) n.val) b s ⟨n.val / 64, by omega⟩ ⟨n.val % 64, Nat.mod_lt _ (by decide)⟩ Y ?_ n
      (by show n.val = 64 * (n.val / 64) + n.val % 64; omega)).trans ?_
    · rw [exit_ga]
      refine (param_at (m ((c : Thread nD τ).loc main_arg9)) ⟨64 * (n.val / 64) + n.val % 64, by omega⟩).symm.trans (congrArg (param _) ?_)
      show 64 * (n.val / 64) + n.val % 64 = n.val
      omega
    · unfold Head.outA
      have t : ∀ (a a' j : ℕ) (hj : j < 128) (ha : a / 128 = a') (e : a % 128 = j), (heads m c b (a / 128)).ya s.val ⟨a % 128, Nat.mod_lt _ (by decide)⟩ = (heads m c b a').ya s.val ⟨j, hj⟩ := by
        rintro a a' j hj rfl rfl; rfl
      refine congrArg₂ (fun x y : EReal => x * y) (congrArg₂ (fun x y : EReal => x * y) (t _ _ _ _ ?_ ?_) (congrArg (fun x => Ideal.rsqrt (x + Ideal.ofBits .f32 897988541#32))
        (Eq.trans (congrArg (fun x : EReal => x * ((1 / 64 : ℝ) : EReal)) (Finset.sum_congr rfl fun x _ => ?_))
          (group_sum (fun j => (heads m c b (n.val / 128)).ya s.val j * (heads m c b (n.val / 128)).ya s.val j) (fun j => ((hr _).ya _ _).mul ((hr _).ya _ _)) ⟨n.val % 128, Nat.mod_lt _ (by decide)⟩)))) ?_
      · show (64 * (n.val / 64) + n.val % 64) / 128 = n.val / 128
        omega
      · show (64 * (n.val / 64) + n.val % 64) % 128 = n.val % 128
        omega
      · have e := t (64 * (n.val / 64) + x.val) (n.val / 128) (n.val % 128 / 64 * 64 + x.val) (by omega) (by omega) (by omega)
        exact congrArg₂ (fun x y : EReal => x * y) e e
      · show param _ n.val = param _ (128 * (n.val / 128) + n.val % 128)
        rw [Nat.div_add_mod]
  · rw [if_neg h]
    have hk : (n.val - 1024) / 128 < 8 := by omega
    refine (right_at (exitContents m c) (fun l => (heads m c b ((n.val - 1024) / 128)).h s.val l) (fun l => (heads m c b ((n.val - 1024) / 128)).g s.val l)
      (param (m ((c : Thread nD τ).loc main_arg10)) (n.val - 1024)) b s ⟨(n.val - 1024) / 128, hk⟩ ⟨(n.val - 1024) % 128, Nat.mod_lt _ (by decide)⟩
      (fun l => states_at m c s b ⟨(n.val - 1024) / 128, hk⟩ l) (fun l => ?_) ?_ n (by show n.val = 1024 + (128 * ((n.val - 1024) / 128) + (n.val - 1024) % 128); omega)).trans ?_
    · rw [exit_g]
      exact gB_at m c b s ⟨(n.val - 1024) / 128, hk⟩ l
    · rw [exit_gb]
      refine (param_at (m ((c : Thread nD τ).loc main_arg10)) ⟨128 * ((n.val - 1024) / 128) + (n.val - 1024) % 128, by omega⟩).symm.trans (congrArg (param _) ?_)
      show 128 * ((n.val - 1024) / 128) + (n.val - 1024) % 128 = n.val - 1024
      omega
    · unfold Head.outB
      refine congrArg₂ (fun x y : EReal => x * y) (congrArg₂ (fun x y : EReal => x * y) rfl (congrArg (fun x => Ideal.rsqrt (x + Ideal.ofBits .f32 897988541#32))
        (sum_mul_const Finset.univ _ (fun j => ((hr _).yb _ _).mul ((hr _).yb _ _)) _).symm)) ?_
      show param _ (n.val - 1024) = param _ (128 * ((n.val - 1024) / 128) + (n.val - 1024) % 128)
      rw [Nat.div_add_mod]

end Cert.ReferenceIdeal.Mix

end
-- ==== Proof.MixPre.lean ====
/- The precondition read back: the entries of the projections and of the convolutions' parameters are real numbers. -/
module

public import proofs.«01_k».proof.Pre_finite_inputs
public import proofs.«01_k».proof.Proof.MixSpec
public import Idealize.ShloMosaic.Lib.ReduceAll

@[expose] public section

set_option maxRecDepth 16384

noncomputable section

namespace Cert.Pre_finite_inputs

open Idealize.ShloMosaic Cert.MixSpec

theorem facts : Facts where
  bcast_S_S16x2048x5120 := by decide
  reducesTo_S16x2048x5120_S_d0_1_2 := by decide
  h_S_ := by decide
  bcast_S_S1x3x1024 := by decide
  reducesTo_S1x3x1024_S_d0_1_2 := by decide
  bcast_S_S1x4x1024 := by decide
  reducesTo_S1x4x1024_S_d0_1_2 := by decide
  bcast_S_S1x1024 := by decide
  reducesTo_S1x1024_S_d0_1 := by decide

instance : Subsingleton S_.Idx := ⟨fun a b => funext fun d => d.elim0⟩

theorem inf_eq : Ideal.ofBits .f32 0x7F800000#32 = ⊤ := by
  simp [Ideal.ofBits, Ideal.ieee]

/-- A value whose magnitude is below infinity is a real number. -/
theorem real_of_abs {x : EReal} (h : Ideal.cmp .olt (max x (-x)) (Ideal.ofBits .f32 0x7F800000#32) = 1#1) : IsR x := by
  rw [inf_eq] at h
  induction x with
  | bot => simp [Ideal.cmp] at h
  | coe a => exact ⟨a, rfl⟩
  | top => simp [Ideal.cmp] at h

variable [Facts]

/-- What the precondition says of the first four arguments. -/
theorem reals (a0 : FVec Ideal S16x2048x5120 .f32) (a1 : FVec Ideal S1x3x1024 .f32) (a2 : FVec Ideal S1x4x1024 .f32) (a3 : FVec Ideal S1x1024 .f32)
    (a4 : FVec Ideal S1x8x128x128 .f32) (a5 : FVec Ideal S1x1024 .f32) (a6 : FVec Ideal S1x8x128x128 .f32) (a7 a8 a9 a10 : FVec Ideal S1x1024 .f32)
    (h : fn (F := Ideal) a0 a1 a2 a3 a4 a5 a6 a7 a8 a9 a10 = fun _ => 1#1) :
    (∀ i, IsR (a0 i)) ∧ (∀ i, IsR (a1 i)) ∧ (∀ i, IsR (a2 i)) ∧ (∀ i, IsR (a3 i)) := by
  have j : S_.Idx := fun d => d.elim0
  have e := congrFun h j
  dsimp only [fn, fn_part1] at e
  have s1 := (IntOp.andi_eq_one).1 e
  have s2 := (IntOp.andi_eq_one).1 s1.1
  have s3 := (IntOp.andi_eq_one).1 s2.1
  exact ⟨fun i => real_of_abs (Host.reduce_andi_all _ _ _ _ j s3.1 i), fun i => real_of_abs (Host.reduce_andi_all _ _ _ _ j s3.2 i),
    fun i => real_of_abs (Host.reduce_andi_all _ _ _ _ j s2.2 i), fun i => real_of_abs (Host.reduce_andi_all _ _ _ _ j s1.2 i)⟩

end Cert.Pre_finite_inputs

end
-- ==== Proof.RouteSpec.lean ====
/- What a routing row holds, in terms of real logits: the first greatest group, the first two greatest experts of it, their weights. -/
module

public import Idealize.ShloMosaic.Lib.Pipeline.ValueKit

@[expose] public section

noncomputable section

namespace Cert.RouteSpec

open Idealize.ShloMosaic

theorem bot_eq : Ideal.ofBits .f32 4286578688#32 = ⊥ := by
  simp [Ideal.ofBits, Ideal.ieee]

/-- `g` is the first position in `s` of the greatest value of `G` there. -/
structure First (s : Finset (Fin 8)) (G : Fin 8 → ℝ) (g : Fin 8) : Prop where
  mem : g ∈ s
  le : ∀ k ∈ s, G k ≤ G g
  lt : ∀ k ∈ s, k < g → G k < G g

theorem exists_first (s : Finset (Fin 8)) (hs : s.Nonempty) (G : Fin 8 → ℝ) : ∃ g, First s G g := by
  obtain ⟨m, hm, hle⟩ := Finset.exists_max_image s G hs
  have hne : (s.filter fun k => G k = G m).Nonempty := ⟨m, by simp [hm]⟩
  have hmin := Finset.min'_mem _ hne
  rw [Finset.mem_filter] at hmin
  refine ⟨(s.filter fun k => G k = G m).min' hne, hmin.1, fun k hk => by rw [hmin.2]; exact hle k hk, fun k hk hlt => ?_⟩
  rw [hmin.2]
  refine lt_of_le_of_ne (hle k hk) fun he => ?_
  exact absurd (Finset.min'_le _ k (by simp [hk, he])) (not_le.2 hlt)

/-- Group `g` is the choice among the group logits `G`; experts `i` and `j` are the first and the second choice among its logits. -/
structure Top (G : Fin 8 → ℝ) (E : Fin 8 → Fin 8 → ℝ) (g i j : Fin 8) : Prop where
  group : First Finset.univ G g
  first : First Finset.univ (E g) i
  second : First (Finset.univ.erase i) (E g) j

theorem exists_top (G : Fin 8 → ℝ) (E : Fin 8 → Fin 8 → ℝ) : ∃ g i j, Top G E g i j := by
  obtain ⟨g, hg⟩ := exists_first Finset.univ ⟨0, by simp⟩ G
  obtain ⟨i, hi⟩ := exists_first Finset.univ ⟨0, by simp⟩ (E g)
  obtain ⟨j, hj⟩ := exists_first (Finset.univ.erase i) (by fin_cases i <;> decide) (E g)
  exact ⟨g, i, j, hg, hi, hj⟩

/-- The sum of the groups' exponentials, the greatest logit taken away. -/
def S (G : Fin 8 → ℝ) (g : Fin 8) : ℝ := ∑ k, Real.exp (G k - G g)

theorem S_pos (G : Fin 8 → ℝ) (g : Fin 8) : 0 < S G g := Finset.sum_pos (fun _ _ => Real.exp_pos _) ⟨0, by simp⟩

/-- The entry of a routing row at lane `l`. -/
def entry (G : Fin 8 → ℝ) (E : Fin 8 → Fin 8 → ℝ) (g i j : Fin 8) (l : Fin 128) : EReal :=
  if l.val = 0 then (((8 * g.val + i.val : ℕ) : ℝ) : EReal)
  else if l.val = 1 then (((8 * g.val + j.val : ℕ) : ℝ) : EReal)
  else if l.val = 2 then ((1 / S G g * (1 / (1 + Real.exp (E g j - E g i))) : ℝ) : EReal)
  else if l.val = 3 then ((1 / S G g * (Real.exp (E g j - E g i) / (1 + Real.exp (E g j - E g i))) : ℝ) : EReal)
  else 0

theorem fold_max {ι : Type*} [Fintype ι] (f : ι → EReal) (M : EReal) (h : ∃ k, f k = M) (h2 : ∀ k, f k ≤ M) :
    Finset.univ.fold max ⊥ f = M := by
  refine le_antisymm ((Finset.fold_max_le _).2 ⟨bot_le, fun k _ => h2 k⟩) ?_
  obtain ⟨k, rfl⟩ := h
  exact (Finset.le_fold_max _).2 (Or.inr ⟨k, Finset.mem_univ k, le_rfl⟩)

theorem toInt_minsi (x y : BitVec 32) : (IntOp.minsi x y).toInt = min x.toInt y.toInt := by
  unfold IntOp.minsi
  rw [BitVec.slt_eq_decide]
  by_cases h : x.toInt < y.toInt
  · simp [h, h.le]
  · simp [h, not_lt.1 h]

theorem toInt_ofNat (n : ℕ) (hn : n < 2 ^ 31) : (BitVec.ofNat 32 n).toInt = n := by
  rw [BitVec.toInt_eq_toNat_of_lt] <;> simp <;> omega

theorem fold_minsi {ι : Type*} [Fintype ι] (f : ι → BitVec 32) (n : ℕ) (hn : n < 2 ^ 31) (h : ∃ k, f k = BitVec.ofNat 32 n)
    (h2 : ∀ k, (n : ℤ) ≤ (f k).toInt) : Finset.univ.fold IntOp.minsi 2147483647#32 f = BitVec.ofNat 32 n := by
  classical
  have key : ∀ s : Finset ι, (n : ℤ) ≤ (s.fold IntOp.minsi 2147483647#32 f).toInt
      ∧ ∀ k ∈ s, (s.fold IntOp.minsi 2147483647#32 f).toInt ≤ (f k).toInt := by
    intro s
    induction s using Finset.induction_on with
    | empty =>
      refine ⟨?_, by simp⟩
      rw [Finset.fold_empty, show (2147483647#32).toInt = 2147483647 by decide]
      omega
    | insert a s ha ih =>
      rw [Finset.fold_insert ha, toInt_minsi]
      refine ⟨le_min (h2 a) ih.1, fun k hk => ?_⟩
      rcases Finset.mem_insert.1 hk with rfl | hk
      · exact min_le_left _ _
      · exact (min_le_right _ _).trans (ih.2 k hk)
  obtain ⟨k, hk⟩ := h
  apply BitVec.eq_of_toInt_eq
  rw [toInt_ofNat n hn]
  have := (key Finset.univ).2 k (Finset.mem_univ k)
  rw [hk, toInt_ofNat n hn] at this
  exact le_antisymm this (key Finset.univ).1

theorem select_if {α : Type} (c : Prop) [Decidable c] (a b : α) : Scalar.select (if c then 1#1 else 0#1) a b = if c then a else b := by
  by_cases h : c <;> simp [h, Scalar.select]

theorem div_coe (a b : ℝ) (hb : b ≠ 0) : Ideal.div (a : EReal) (b : EReal) = ((a / b : ℝ) : EReal) := by
  rw [Ideal.div_coe hb, ← EReal.coe_mul]
  congr 1
  ring

theorem sum_lt8 (f : Fin 8 → EReal) : ∑ x : Fin 128, (if h : x.val < 8 then f ⟨x.val, h⟩ else 0) = ∑ k, f k := by
  rw [show (∑ x : Fin 128, (if h : x.val < 8 then f ⟨x.val, h⟩ else 0)) = ∑ x : Fin (8 + 120), (if h : x.val < 8 then f ⟨x.val, h⟩ else 0) from rfl,
    Fin.sum_univ_add]
  simp

theorem slt8 : ∀ x : Fin 128, IntOp.cmpi .slt (BitVec.ofNat 32 x.val) 8#32 = if x.val < 8 then 1#1 else 0#1 := by
  decide +kernel

theorem sitofp_ofNat (n : ℕ) (hn : n < 2 ^ 31) : FloatOps.sitofp (F := Ideal) .f32 (BitVec.ofNat 32 n) = ((n : ℝ) : EReal) := by
  show (((BitVec.ofNat 32 n).toInt : ℝ) : EReal) = _
  rw [toInt_ofNat n hn, Int.cast_natCast]

theorem coe_sum (f : Fin 8 → ℝ) : ((∑ k, f k : ℝ) : EReal) = ∑ k, (f k : EReal) := by
  simp only [Fin.sum_univ_eight, EReal.coe_add]

end Cert.RouteSpec

end
-- ==== Proof.RouteRow.lean ====
/- The kernel's routing of one row of logits, lane by lane. -/
module

public import proofs.«01_k».proof.Proof.Gen.Kernel6Ideal.Value
public import proofs.«01_k».proof.Proof.RouteSpec

@[expose] public section

set_option maxRecDepth 16384

noncomputable section

namespace Cert.Kernel6Ideal.Route

open Cert.Kernel6Ideal Cert.Kernel6Ideal.Gen Cert.RouteSpec Idealize.ShloMosaic Idealize.ShloMosaic.TcCoe Idealize.SL.Sem

/-- The lane of expert `j` of group `g`. -/
def elane (g j : Fin 8) : Fin 128 := ⟨8 + 8 * g.val + j.val, by omega⟩

/-- Row `r` of the logits: the groups' in lanes 0 to 7, the experts' after them. -/
structure Row (L : FVec Ideal S256x128 .f32) (r : Fin 256) (G : Fin 8 → ℝ) (E : Fin 8 → Fin 8 → ℝ) : Prop where
  group : ∀ k : Fin 8, L (ix2 r ⟨k.val, by omega⟩) = (G k : EReal)
  expert : ∀ g j : Fin 8, L (ix2 r (elane g j)) = (E g j : EReal)

/-- The lanes of group `g`'s experts. -/
def In (g : Fin 8) (x : Fin 128) : Prop := 8 + 8 * g.val ≤ x.val ∧ x.val < 16 + 8 * g.val

instance (g : Fin 8) (x : Fin 128) : Decidable (In g x) := inferInstanceAs (Decidable (_ ∧ _))

theorem in_elane (g j : Fin 8) : In g (elane g j) := by
  unfold In elane; constructor <;> simp <;> omega

theorem of_in {g : Fin 8} {x : Fin 128} (h : In g x) : ∃ j, x = elane g j := by
  unfold In at h
  exact ⟨⟨x.val - (8 + 8 * g.val), by omega⟩, Fin.ext (by simp only [elane]; omega)⟩

theorem elane_lt {g j k : Fin 8} : (elane g j).val < (elane g k).val ↔ j < k := by
  rw [Fin.lt_def]; simp only [elane]; omega

theorem elane_inj {g j k : Fin 8} : elane g j = elane g k ↔ j = k := by
  rw [Fin.ext_iff, Fin.ext_iff]; simp only [elane]; omega

theorem in_word : ∀ (g : Fin 8) (x : Fin 128),
    IntOp.andi (IntOp.andi (IntOp.cmpi .sge (BitVec.ofNat 32 x.val) 8#32) (IntOp.cmpi .slt (BitVec.ofNat 32 x.val) 72#32))
      (IntOp.cmpi .eq (IntOp.shrsi .vector (IntOp.subi (BitVec.ofNat 32 x.val) 8#32) 3#32) (BitVec.ofNat 32 g.val))
      = if In g x then 1#1 else 0#1 := by
  decide +kernel

theorem and_if (c d : Prop) [Decidable c] [Decidable d] : IntOp.andi (if c then 1#1 else 0#1) (if d then 1#1 else 0#1) = if c ∧ d then 1#1 else 0#1 := by
  by_cases hc : c <;> by_cases hd : d <;> simp [hc, hd, IntOp.andi]

theorem eq_word (x : Fin 128) : IntOp.cmpi .eq (BitVec.ofNat 32 x.val) 0#32 = (if x.val = 0 then 1#1 else 0#1)
    ∧ IntOp.cmpi .eq (BitVec.ofNat 32 x.val) 1#32 = (if x.val = 1 then 1#1 else 0#1)
    ∧ IntOp.cmpi .eq (BitVec.ofNat 32 x.val) 2#32 = (if x.val = 2 then 1#1 else 0#1)
    ∧ IntOp.cmpi .eq (BitVec.ofNat 32 x.val) 3#32 = (if x.val = 3 then 1#1 else 0#1) := by
  revert x
  decide +kernel

theorem sub_word : ∀ g k : Fin 8, IntOp.subi (BitVec.ofNat 32 (elane g k).val) 8#32 = BitVec.ofNat 32 (8 * g.val + k.val) := by
  decide +kernel

theorem ofBool_if (c : Prop) [Decidable c] : BitVec.ofBool (decide c) = if c then 1#1 else 0#1 := by
  by_cases h : c <;> simp [h]

theorem ne_word : ∀ x y : Fin 128, IntOp.cmpi .ne (BitVec.ofNat 32 x.val) (BitVec.ofNat 32 y.val) = if x ≠ y then 1#1 else 0#1 := by
  decide +kernel

section
variable (a b d : FVec Ideal S1x2048 .f32) (e : FVec Ideal S256x2048 .f32) (f : Vec Ideal S2048x128 .bf16) (w : Vec Ideal S1x128 .f32)
  (r : Fin 256) (G : Fin 8 → ℝ) (E : Fin 8 → Fin 8 → ℝ) (g i j : Fin 8) (hL : Row (k0_pay10 a b d e f w) r G E) (hT : Top G E g i j)

include hL hT

theorem t12 (l : Fin 128) : k0_pay12 a b d e f w (ix2 r l) = if h : l.val < 8 then ((Real.exp (G ⟨l.val, h⟩ - G g) : ℝ) : EReal) else 0 := by
  pointwise [k0_pay12, k0_pay11]
  have hf : ∀ x : Fin 128, Scalar.select (IntOp.cmpi .slt (BitVec.ofNat 32 x.val) 8#32) (k0_pay10 a b d e f w (ix2 r x)) ⊥
      = if h : x.val < 8 then (G ⟨x.val, h⟩ : EReal) else ⊥ := by
    intro x
    rw [slt8, select_if]
    split_ifs with h
    · exact hL.group ⟨x.val, h⟩
    · rfl
  simp only [bot_eq, hf]
  rw [fold_max _ (G g : EReal) ⟨⟨g.val, by omega⟩, by simp⟩ fun x => ?_]
  · split_ifs with h
    · rw [← EReal.coe_sub, Ideal.exp_coe]
    · rw [EReal.bot_sub, Ideal.exp_bot]
  · split_ifs with h
    · exact EReal.coe_le_coe_iff.2 (hT.group.le _ (Finset.mem_univ _))
    · exact bot_le

theorem t13 : k0_pay13 a b d e f w (ix2 r 0) = ((1 / S G g : ℝ) : EReal) := by
  pointwise [k0_pay13]
  simp only [t12 a b d e f w r G E g i j hL hT]
  rw [sum_lt8 fun k => ((Real.exp (G k - G g) : ℝ) : EReal), ← coe_sum, ← EReal.coe_one]
  exact div_coe 1 (S G g) (S_pos G g).ne'

theorem t14 : k0_pay14 a b d e f w (ix2 r 0) = BitVec.ofNat 32 g.val := by
  pointwise [k0_pay14, k0_pay11]
  simp only [slt8, ofBool_if, and_if, select_if, t12 a b d e f w r G E g i j hL hT]
  refine fold_minsi _ g.val (by omega) ⟨⟨g.val, by omega⟩, ?_⟩ fun x => ?_
  · rw [if_pos]
    refine ⟨g.isLt, ?_⟩
    simp
  · by_cases h1 : x.val < 8
    · simp only [h1, dite_true, true_and, ← EReal.coe_one, EReal.coe_le_coe_iff, Real.one_le_exp_iff, sub_nonneg]
      split_ifs with h2
      · rw [toInt_ofNat _ (by omega)]
        by_contra hc
        exact absurd h2 (not_le.2 (hT.group.lt ⟨x.val, h1⟩ (Finset.mem_univ _) (by rw [Fin.lt_def]; simp only; omega)))
      · rw [show (128#32).toInt = 128 by decide]
        omega
    · rw [if_neg fun h => h1 h.1, show (128#32).toInt = 128 by decide]
      omega
end

section
variable (L : FVec Ideal S256x128 .f32) (gi : IVec S256x1 32) (pg : FVec Ideal S256x1 .f32)
  (r : Fin 256) (G : Fin 8 → ℝ) (E : Fin 8 → Fin 8 → ℝ) (g i j : Fin 8) (hL : Row L r G E) (hT : Top G E g i j)
  (hg : gi (ix2 r 0) = BitVec.ofNat 32 g.val) (hp : pg (ix2 r 0) = ((1 / S G g : ℝ) : EReal))

include hg in
theorem t16 (x : Fin 128) : k0_pay16 (iota .tc S256x128 32 [1] iota_S256x128_d1_w32) gi k0_pay15 (ix2 r x) = if In g x then 1#1 else 0#1 := by
  pointwise [k0_pay16, k0_pay15]
  rw [hg]
  exact in_word g x

include hL hT hg

theorem t17 (x : Fin 128) : k0_pay17 L (iota .tc S256x128 32 [1] iota_S256x128_d1_w32) gi k0_pay15 (ix2 r x) = if In g x then L (ix2 r x) else ⊥ := by
  pointwise [k0_pay17]
  rw [t16 gi r g hg, select_if, bot_eq]

theorem t18 : k0_pay18 L (iota .tc S256x128 32 [1] iota_S256x128_d1_w32) gi k0_pay15 (ix2 r 0) = (E g i : EReal) := by
  pointwise [k0_pay18]
  simp only [t17 L gi r G E g i j hL hT hg, bot_eq]
  refine fold_max _ _ ⟨elane g i, by rw [if_pos (in_elane g i), hL.expert]⟩ fun x => ?_
  split_ifs with h
  · obtain ⟨k, rfl⟩ := of_in h
    rw [hL.expert, EReal.coe_le_coe_iff]
    exact hT.first.le k (Finset.mem_univ k)
  · exact bot_le

theorem t19 : k0_pay19 L (iota .tc S256x128 32 [1] iota_S256x128_d1_w32) gi k0_pay15 (ix2 r 0) = BitVec.ofNat 32 (elane g i).val := by
  pointwise [k0_pay19]
  simp only [t16 gi r g hg, t17 L gi r G E g i j hL hT hg, t18 L gi r G E g i j hL hT hg, ofBool_if, and_if, select_if]
  refine fold_minsi _ _ (by omega) ⟨elane g i, ?_⟩ fun x => ?_
  · rw [if_pos ⟨in_elane g i, by rw [if_pos (in_elane g i), hL.expert]⟩]
  · by_cases h1 : In g x
    · obtain ⟨k, rfl⟩ := of_in h1
      simp only [h1, if_true, true_and, hL.expert, EReal.coe_eq_coe_iff]
      split_ifs with h2
      · pointwise
        rw [toInt_ofNat _ (by omega)]
        by_contra hc
        have hk : k < i := (elane_lt (g := g)).1 (by omega)
        exact absurd h2 (hT.first.lt k (Finset.mem_univ k) hk).ne
      · rw [show (128#32).toInt = 128 by decide]
        omega
    · rw [if_neg fun h => h1 h.1, show (128#32).toInt = 128 by decide]
      omega

theorem t20 (x : Fin 128) : k0_pay20 L (iota .tc S256x128 32 [1] iota_S256x128_d1_w32) gi k0_pay15 (ix2 r x) = if In g x ∧ x ≠ elane g i then 1#1 else 0#1 := by
  pointwise [k0_pay20]
  rw [t16 gi r g hg, t19 L gi r G E g i j hL hT hg, ne_word, and_if]

theorem t21 (x : Fin 128) : k0_pay21 L (iota .tc S256x128 32 [1] iota_S256x128_d1_w32) gi k0_pay15 (ix2 r x) = if In g x ∧ x ≠ elane g i then L (ix2 r x) else ⊥ := by
  pointwise [k0_pay21]
  rw [t20 L gi r G E g i j hL hT hg, select_if, bot_eq]

theorem in_second : In g (elane g j) ∧ elane g j ≠ elane g i :=
  ⟨in_elane g j, fun h => (Finset.mem_erase.1 hT.second.mem).1 (elane_inj.1 h)⟩

theorem t22 : k0_pay22 L (iota .tc S256x128 32 [1] iota_S256x128_d1_w32) gi k0_pay15 (ix2 r 0) = (E g j : EReal) := by
  have hs := in_second L gi r G E g i j hL hT hg
  pointwise [k0_pay22]
  simp only [t21 L gi r G E g i j hL hT hg, bot_eq]
  refine fold_max _ _ ⟨elane g j, by rw [if_pos hs, hL.expert]⟩ fun x => ?_
  split_ifs with h
  · obtain ⟨k, rfl⟩ := of_in h.1
    rw [hL.expert, EReal.coe_le_coe_iff]
    exact hT.second.le k (Finset.mem_erase.2 ⟨fun e => h.2 (by rw [e]), Finset.mem_univ k⟩)
  · exact bot_le

theorem t23 : k0_pay23 L (iota .tc S256x128 32 [1] iota_S256x128_d1_w32) gi k0_pay15 (ix2 r 0) = BitVec.ofNat 32 (elane g j).val := by
  have hs := in_second L gi r G E g i j hL hT hg
  pointwise [k0_pay23]
  simp only [t20 L gi r G E g i j hL hT hg, t21 L gi r G E g i j hL hT hg, t22 L gi r G E g i j hL hT hg, ofBool_if, and_if, select_if]
  refine fold_minsi _ _ (by omega) ⟨elane g j, ?_⟩ fun x => ?_
  · rw [if_pos ⟨hs, by rw [if_pos hs, hL.expert]⟩]
  · by_cases h1 : In g x ∧ x ≠ elane g i
    · obtain ⟨k, rfl⟩ := of_in h1.1
      simp only [if_pos h1, hL.expert, EReal.coe_eq_coe_iff]
      split_ifs with h2
      · pointwise
        rw [toInt_ofNat _ (by omega)]
        by_contra hc
        have hk : k < j := (elane_lt (g := g)).1 (by omega)
        exact absurd h2.2 (hT.second.lt k (Finset.mem_erase.2 ⟨fun e => h1.2 (by rw [e]), Finset.mem_univ k⟩) hk).ne
      · rw [show (128#32).toInt = 128 by decide]
        omega
    · rw [if_neg fun h => h1 h.1, show (128#32).toInt = 128 by decide]
      omega

theorem t24 : k0_pay24 L (iota .tc S256x128 32 [1] iota_S256x128_d1_w32) gi k0_pay15 (ix2 r 0) = ((Real.exp (E g j - E g i) : ℝ) : EReal) := by
  pointwise [k0_pay24]
  rw [t22 L gi r G E g i j hL hT hg, t18 L gi r G E g i j hL hT hg, ← EReal.coe_sub, Ideal.exp_coe]

include hp

theorem t25 : k0_pay25 L (iota .tc S256x128 32 [1] iota_S256x128_d1_w32) pg gi k0_pay15 (ix2 r 0)
    = ((1 / S G g * (1 / (1 + Real.exp (E g j - E g i))) : ℝ) : EReal) := by
  have h : (1 + Real.exp (E g j - E g i)) ≠ 0 := (add_pos one_pos (Real.exp_pos _)).ne'
  pointwise [k0_pay25]
  rw [t24 L gi r G E g i j hL hT hg, hp, ← EReal.coe_one, ← EReal.coe_add, div_coe _ _ h, ← EReal.coe_mul]

theorem t26 : k0_pay26 L (iota .tc S256x128 32 [1] iota_S256x128_d1_w32) pg gi k0_pay15 (ix2 r 0)
    = ((1 / S G g * (Real.exp (E g j - E g i) / (1 + Real.exp (E g j - E g i))) : ℝ) : EReal) := by
  have h : (1 + Real.exp (E g j - E g i)) ≠ 0 := (add_pos one_pos (Real.exp_pos _)).ne'
  pointwise [k0_pay26]
  rw [t24 L gi r G E g i j hL hT hg, hp, ← EReal.coe_one, ← EReal.coe_add, div_coe _ _ h, ← EReal.coe_mul]

theorem t1 (l : Fin 128) : k0_pay1 (iota .tc S256x128 32 [1] iota_S256x128_d1_w32) (k0_pay19 L (iota .tc S256x128 32 [1] iota_S256x128_d1_w32) gi k0_pay15) (k0_pay23 L (iota .tc S256x128 32 [1] iota_S256x128_d1_w32) gi k0_pay15)
    (k0_pay25 L (iota .tc S256x128 32 [1] iota_S256x128_d1_w32) pg gi k0_pay15) (k0_pay26 L (iota .tc S256x128 32 [1] iota_S256x128_d1_w32) pg gi k0_pay15) (ix3 0 r l) = entry G E g i j l := by
  pointwise [k0_pay1]
  rw [t19 L gi r G E g i j hL hT hg, t23 L gi r G E g i j hL hT hg, t25 L gi pg r G E g i j hL hT hg hp, t26 L gi pg r G E g i j hL hT hg hp]
  obtain ⟨e0, e1, e2, e3⟩ := eq_word l
  rw [e0, e1, e2, e3, sub_word, sub_word, sitofp_ofNat _ (by omega), sitofp_ofNat _ (by omega), select_if, select_if, select_if, select_if]
  unfold entry
  split_ifs <;> first | rfl | omega
end
end Cert.Kernel6Ideal.Route

end
-- ==== Proof.RouteRef.lean ====
/- The reference's routing of one token, from its logits on. -/
module

public import proofs.«01_k».proof.Proof.Gen.Reference6Ideal.Run
public import proofs.«01_k».proof.Proof.RouteSpec
public import Idealize.ShloMosaic.Lib.Tactic.CleanTypes

@[expose] public section

set_option maxRecDepth 16384

noncomputable section

namespace Cert.Reference6Ideal.Route

open Cert.Reference6Ideal Cert.Reference6Ideal.Gen Cert.Reference6Ideal.Value Cert.RouteSpec Idealize.ShloMosaic Idealize.ShloMosaic.TcCoe Idealize.SL.Sem

variable (V : Valuation τ sig (Elt Ideal))

/-- The logit of expert `e` in group `g`. -/
def elogit (H : FVec Ideal S16x2048x2048 .f32) (W : FVec Ideal S1x8x2048x8 .f32) (B : FVec Ideal S1x8x8 .f32) (b : Fin 16) (s : Fin 2048)
    (g e : Fin 8) : EReal :=
  ∑ x, H (ix3 b s x) * W (ix4 0 g x e) + B (ix3 0 g e)

theorem id8 : (id (constantI S_ 32 8#32) : IVec S_ 32) ix0 = 8#32 := rfl
theorem idb : (id (constant (F := Ideal) S_ .f32 4286578688#32) : FVec Ideal S_ .f32) ix0 = ⊥ := bot_eq
theorem id0 : (id (constant (F := Ideal) S_ .f32 0#32) : FVec Ideal S_ .f32) ix0 = 0 := by
  show Ideal.ofBits .f32 0#32 = 0
  simp [Ideal.ofBits, Ideal.ieee]

theorem eq_word : ∀ x y : Fin 8, IntOp.cmpi .eq (BitVec.ofNat 32 x.val) (BitVec.ofNat 32 y.val) = if x = y then 1#1 else 0#1 := by
  decide +kernel

theorem add_word : ∀ g k : Fin 8, IntOp.addi (IntOp.muli (BitVec.ofNat 32 g.val) 8#32) (BitVec.ofNat 32 k.val) = BitVec.ofNat 32 (8 * g.val + k.val) := by
  decide +kernel

/-- The least position where the greatest value is, as the program folds for it. -/
theorem fold_first (f : Fin 8 → EReal) (M : EReal) (k0 : Fin 8) (h : f k0 = M) (h2 : ∀ k, k < k0 → f k ≠ M) :
    Finset.fold IntOp.minsi 2147483647#32 (fun x : Fin 8 => if f x = M then BitVec.ofNat 32 x.val else 8#32) Finset.univ = BitVec.ofNat 32 k0.val := by
  refine fold_minsi _ _ (by omega) ⟨k0, if_pos h⟩ fun x => ?_
  split_ifs with hx
  · rw [toInt_ofNat _ (by omega)]
    by_contra hc
    exact h2 x (by rw [Fin.lt_def]; omega) hx
  · rw [show (8#32).toInt = 8 by decide]
    omega

variable (b : Fin 16) (s : Fin 2048) (G : Fin 8 → ℝ) (E : Fin 8 → Fin 8 → ℝ) (g i j : Fin 8)
  (hG : ∀ k, res_main_v30 V (ix3 b s k) = (G k : EReal)) (hE : ∀ g e, elogit (res_main_v24 V) (V (Proc.tc.devRef main_arg9)) (V (Proc.tc.devRef main_arg10)) b s g e = (E g e : EReal)) (hT : Top G E g i j)

include hG hT

theorem r37 (k : Fin 8) : res_main_v37 V (ix3 b s k) = ((Real.exp (G k - G g) : ℝ) : EReal) := by
  unfold res_main_v37
  clean_types
  pointwise
  simp only [hG, bot_eq]
  rw [fold_max _ (G g : EReal) ⟨g, rfl⟩ fun x => EReal.coe_le_coe_iff.2 (hT.group.le x (Finset.mem_univ _)), max_eq_right bot_le,
    ← EReal.coe_sub, Ideal.exp_coe]

theorem r41 (k : Fin 8) : res_main_v41 V (ix3 b s k) = ((Real.exp (G k - G g) / S G g : ℝ) : EReal) := by
  unfold res_main_v41
  clean_types
  pointwise
  simp only [r37 V b s G E g i j hG hT]
  rw [← coe_sum]
  exact div_coe _ _ (S_pos G g).ne'

theorem prob_le (k : Fin 8) : Real.exp (G k - G g) / S G g ≤ 1 / S G g := by
  rw [div_le_div_iff_of_pos_right (S_pos G g), Real.exp_le_one_iff, sub_nonpos]
  exact hT.group.le k (Finset.mem_univ _)

theorem max41 : Finset.fold (β := EReal) max ⊥ (fun x => res_main_v41 V (ix3 b s x)) Finset.univ = ((1 / S G g : ℝ) : EReal) := by
  refine fold_max _ _ ⟨g, ?_⟩ fun x => ?_
  · rw [r41 V b s G E g i j hG hT, sub_self, Real.exp_zero]
  · rw [r41 V b s G E g i j hG hT, EReal.coe_le_coe_iff]
    exact prob_le V b s G E g i j hG hT x

theorem r51 : res_main_v51 V (ix3 b s 0) = BitVec.ofNat 32 g.val := by
  unfold res_main_v51
  clean_types
  pointwise
  simp only [bot_eq, id8, max41 V b s G E g i j hG hT]
  refine fold_first (fun x => res_main_v41 V (ix3 b s x)) _ g ?_ fun k hk => ?_
  · simp only [r41 V b s G E g i j hG hT, sub_self, Real.exp_zero]
  · simp only [r41 V b s G E g i j hG hT]
    rw [Ne, EReal.coe_eq_coe_iff]
    refine (div_lt_div_of_pos_right ?_ (S_pos G g)).ne
    rw [Real.exp_lt_one_iff, sub_neg]
    exact hT.group.lt k (Finset.mem_univ _) hk

include hE

theorem r66 (k : Fin 8) : res_main_v66 V (ix3 b s k) = (E g k : EReal) := by
  pointwise [res_main_v66]
  simp only [r51 V b s G E g i j hG hT, id0, eq_word, select_if]
  rw [Finset.sum_ite_eq' Finset.univ g]
  rw [if_pos (Finset.mem_univ g)]
  exact hE g k

theorem max66 : Finset.fold (β := EReal) max ⊥ (fun x => res_main_v66 V (ix3 b s x)) Finset.univ = (E g i : EReal) := by
  refine fold_max _ _ ⟨i, r66 V b s G E g i j hG hE hT i⟩ fun x => ?_
  rw [r66 V b s G E g i j hG hE hT, EReal.coe_le_coe_iff]
  exact hT.first.le x (Finset.mem_univ _)

theorem r76 : res_main_v76 V (ix3 b s 0) = BitVec.ofNat 32 i.val := by
  unfold res_main_v76
  clean_types
  pointwise
  simp only [bot_eq, id8, max66 V b s G E g i j hG hE hT]
  refine fold_first (fun x => res_main_v66 V (ix3 b s x)) _ i (r66 V b s G E g i j hG hE hT i) fun k hk => ?_
  simp only [r66 V b s G E g i j hG hE hT]
  rw [Ne, EReal.coe_eq_coe_iff]
  exact (hT.first.lt k (Finset.mem_univ _) hk).ne

theorem r82 (k : Fin 8) : res_main_v82 V (ix3 b s k) = if k = i then ⊥ else (E g k : EReal) := by
  unfold res_main_v82
  clean_types
  pointwise
  rw [r76 V b s G E g i j hG hE hT, idb, eq_word, select_if, r66 V b s G E g i j hG hE hT]

theorem second_ne : j ≠ i := (Finset.mem_erase.1 hT.second.mem).1

theorem max82 : Finset.fold (β := EReal) max ⊥ (fun x => res_main_v82 V (ix3 b s x)) Finset.univ = (E g j : EReal) := by
  refine fold_max _ _ ⟨j, by rw [r82 V b s G E g i j hG hE hT, if_neg (second_ne V b s G E g i j hG hE hT)]⟩ fun x => ?_
  rw [r82 V b s G E g i j hG hE hT]
  split_ifs with h
  · exact bot_le
  · exact EReal.coe_le_coe_iff.2 (hT.second.le x (Finset.mem_erase.2 ⟨h, Finset.mem_univ _⟩))

theorem idx2 : Finset.fold IntOp.minsi 2147483647#32 (fun x : Fin 8 => if res_main_v82 V (ix3 b s x) = (E g j : EReal) then BitVec.ofNat 32 x.val else 8#32) Finset.univ
    = BitVec.ofNat 32 j.val := by
  refine fold_first (fun x => res_main_v82 V (ix3 b s x)) _ j ?_ fun k hk => ?_
  · simp only [r82 V b s G E g i j hG hE hT, if_neg (second_ne V b s G E g i j hG hE hT)]
  · simp only [r82 V b s G E g i j hG hE hT]
    split_ifs with h
    · exact (EReal.coe_ne_bot _).symm
    · rw [Ne, EReal.coe_eq_coe_iff]
      exact (hT.second.lt k (Finset.mem_erase.2 ⟨h, Finset.mem_univ _⟩) hk).ne

theorem r93 (k : Fin 2) : res_main_v93 V (ix3 b s k) = if k.val < 1 then (E g i : EReal) else (E g j : EReal) := by
  unfold res_main_v93
  clean_types
  pointwise
  simp only [bot_eq, max66 V b s G E g i j hG hE hT, max82 V b s G E g i j hG hE hT, dite_eq_ite]

theorem r100 (k : Fin 2) : res_main_v100 V (ix3 b s k) = if k.val < 1 then 1 else ((Real.exp (E g j - E g i) : ℝ) : EReal) := by
  unfold res_main_v100
  clean_types
  pointwise
  simp only [bot_eq, r93 V b s G E g i j hG hE hT]
  rw [fold_max _ (E g i : EReal) ⟨0, by simp⟩ fun x => ?_, max_eq_right bot_le]
  · split_ifs with h
    · rw [← EReal.coe_sub, Ideal.exp_coe, sub_self, Real.exp_zero, EReal.coe_one]
    · rw [← EReal.coe_sub, Ideal.exp_coe]
  · split_ifs with h
    · exact le_rfl
    · exact EReal.coe_le_coe_iff.2 (hT.first.le j (Finset.mem_univ _))

/-- The reference's result. -/
def RT : FVec Ideal S16x2048x128 .f32 :=
  (concatenate S16x2048x128 2 [⟨S16x2048x2, ((sitofp (F := Ideal) .f32 (addi (broadcastInDim S16x2048x2 ![0, 1, 2] bcast_S16x2048x1_S16x2048x2_0_1_2 (muli (res_main_v51 V) (broadcastInDim S16x2048x1 ![] bcast_S_S16x2048x1 (constantI S_ 32 8#32)))) (concatenate S16x2048x2 2 [⟨S16x2048x1, (res_main_v76 V)⟩, ⟨S16x2048x1, (broadcastInDim S16x2048x1 ![0, 1] bcast_S16x2048_S16x2048x1_0_1 (Host.reduce IntOp.minsi (select (cmpf .oeq (res_main_v82 V) (broadcastInDim S16x2048x8 ![0, 1, 2] bcast_S16x2048x1_S16x2048x8_0_1_2 (broadcastInDim S16x2048x1 ![0, 1] bcast_S16x2048_S16x2048x1_0_1 (Host.reduce FloatOps.maximumf (res_main_v82 V) (constant (F := Ideal) S_ .f32 0xFF800000#32) reducesTo_S16x2048x8_S16x2048_d2 h_S_)))) (broadcastInDim S16x2048x8 ![2] bcast_S8_S16x2048x8_2 (iotaInDim S8 32 0)) (broadcastInDim S16x2048x8 ![] bcast_S_S16x2048x8 (id (constantI S_ 32 8#32)))) (constantI S_ 32 2147483647#32) reducesTo_S16x2048x8_S16x2048_d2 h_S_))⟩] concatenates_S16x2048x1_S16x2048x1_S16x2048x2_d2))) : FVec Ideal S16x2048x2 .f32)⟩, ⟨S16x2048x2, ((mulf (broadcastInDim S16x2048x2 ![0, 1, 2] bcast_S16x2048x1_S16x2048x2_0_1_2 (broadcastInDim S16x2048x1 ![0, 1] bcast_S16x2048_S16x2048x1_0_1 (Host.reduce FloatOps.maximumf (res_main_v41 V) (constant (F := Ideal) S_ .f32 0xFF800000#32) reducesTo_S16x2048x8_S16x2048_d2 h_S_))) (Host.divf (res_main_v100 V) (broadcastInDim S16x2048x2 ![0, 1, 2] bcast_S16x2048x1_S16x2048x2_0_1_2 (broadcastInDim S16x2048x1 ![0, 1] bcast_S16x2048_S16x2048x1_0_1 (Host.reduceAdd (res_main_v100 V) (constant (F := Ideal) S_ .f32 0x00000000#32) reducesTo_S16x2048x2_S16x2048_d2 h_S_))))) : FVec Ideal S16x2048x2 .f32)⟩, ⟨S16x2048x124, ((broadcastInDim S16x2048x124 ![] bcast_S_S16x2048x124 (constant (F := Ideal) S_ .f32 0x00000000#32)) : FVec Ideal S16x2048x124 .f32)⟩] concatenates_S16x2048x2_S16x2048x2_S16x2048x124_S16x2048x128_d2 : FVec Ideal S16x2048x128 .f32)

theorem ref_entry (l : Fin 128) : RT V (ix3 b s l) = entry G E g i j l := by
  unfold RT
  clean_types
  pointwise
  simp only [bot_eq, id8, max41 V b s G E g i j hG hT, max82 V b s G E g i j hG hE hT, idx2 V b s G E g i j hG hE hT, r51 V b s G E g i j hG hT,
    r76 V b s G E g i j hG hE hT, r100 V b s G E g i j hG hE hT]
  have hS : (0 : ℝ) < 1 + Real.exp (E g j - E g i) := add_pos one_pos (Real.exp_pos _)
  have hs : (∑ x : Fin 2, if x.val < 1 then (1 : EReal) else ((Real.exp (E g j - E g i) : ℝ) : EReal)) = ((1 + Real.exp (E g j - E g i) : ℝ) : EReal) := by
    rw [Fin.sum_univ_two, if_pos (by decide), if_neg (by decide), EReal.coe_add, EReal.coe_one]
  have hw := add_word g
  have h76 : ∀ q : Fin 1, res_main_v76 V (ix3 b s q) = BitVec.ofNat 32 i.val := fun q => by
    rw [Subsingleton.elim q 0]
    exact r76 V b s G E g i j hG hE hT
  rw [hs]
  simp only [h76]
  unfold entry
  by_cases h0 : l.val = 0
  · simp only [h0, dite_true, if_true, show (0 : ℕ) < 2 by decide, show (0 : ℕ) < 1 by decide]
    rw [hw, sitofp_ofNat _ (by omega)]
  by_cases h1 : l.val = 1
  · simp only [h1, dite_true, if_true, show (1 : ℕ) < 2 by decide, show ¬(1 : ℕ) < 1 by decide, dite_false, show ¬(1 : ℕ) = 0 by decide, if_false]
    rw [hw, sitofp_ofNat _ (by omega)]
  rw [dif_neg (by omega : ¬l.val < 2), if_neg h0, if_neg h1]
  by_cases h2 : l.val = 2
  · rw [dif_pos (by omega), if_pos h2, if_pos (by omega), ← EReal.coe_one, div_coe _ _ hS.ne', ← EReal.coe_mul]
  by_cases h3 : l.val = 3
  · rw [dif_pos (by omega), if_neg h2, if_pos h3, if_neg (by omega), div_coe _ _ hS.ne', ← EReal.coe_mul]
  rw [dif_neg (by omega), if_neg h2, if_neg h3]

end Cert.Reference6Ideal.Route

end
-- ==== Proof.RouteReal.lean ====
/- The reference's logits are real numbers when the modulation, the weights and the biases are: a row with an infinite entry is normalised to
   zeros. -/
module

public import proofs.«01_k».proof.Proof.RouteRef
public import proofs.«01_k».proof.Proof.MixSpec

@[expose] public section

set_option maxRecDepth 16384

noncomputable section

namespace Cert.RouteReal

open Cert.MixSpec Idealize.ShloMosaic

theorem sum_real {ι : Type*} (s : Finset ι) (f : ι → EReal) (h : ∀ x, IsR (f x)) : IsR (∑ x ∈ s, f x) := by
  classical
  induction s using Finset.induction_on with
  | empty => simpa using IsR.zero
  | insert a s ha ih =>
    rw [Finset.sum_insert ha]
    exact (h a).add ih

theorem sq_nonneg (x : EReal) : 0 ≤ x * x := by
  induction x with
  | bot => simp
  | coe a => rw [← EReal.coe_mul, ← EReal.coe_zero, EReal.coe_le_coe_iff]; exact mul_self_nonneg a
  | top => simp

theorem sq_top {x : EReal} (h : ¬IsR x) : x * x = ⊤ := by
  induction x with
  | bot => simp
  | coe a => exact absurd ⟨a, rfl⟩ h
  | top => simp

theorem dim_eq : Ideal.ofBits .f32 1157627904#32 = ((2048 : ℝ) : EReal) := by
  simp [Ideal.ofBits, Ideal.ieee, -EReal.coe_mul]
  norm_num

theorem eps_pos : ∃ e : ℝ, 0 < e ∧ Ideal.ofBits .f32 897988541#32 = (e : EReal) := by
  refine ⟨_, ?_, by simp [Ideal.ofBits, Ideal.ieee]; rfl⟩
  positivity

/-- A row scaled by the reciprocal root of its mean square, entry by entry: real whatever the row. -/
theorem norm_real {ι : Type*} [Fintype ι] (f : ι → EReal) (k : ι) :
    IsR (f k * Ideal.rsqrt (Ideal.div (∑ x, f x * f x) (Ideal.ofBits .f32 1157627904#32) + Ideal.ofBits .f32 897988541#32)) := by
  obtain ⟨e, he, ee⟩ := eps_pos
  rw [dim_eq, ee, Ideal.div_coe (by norm_num)]
  by_cases h : ∀ x, IsR (f x)
  · obtain ⟨q, hq⟩ := sum_real Finset.univ (fun x => f x * f x) fun x => (h x).mul (h x)
    have h0 : (0 : EReal) ≤ ∑ x, f x * f x := Finset.sum_nonneg fun x _ => sq_nonneg (f x)
    rw [hq] at h0 ⊢
    rw [← EReal.coe_zero, EReal.coe_le_coe_iff] at h0
    rw [← EReal.coe_mul, ← EReal.coe_add, Ideal.rsqrt_coe]
    have hp : 0 < q * (1 / 2048) + e := add_pos_of_nonneg_of_pos (mul_nonneg h0 (by norm_num)) he
    rw [if_neg (not_lt.2 hp.le), if_neg hp.ne']
    exact (h k).mul (IsR.coe _)
  · obtain ⟨x, hx⟩ := not_forall.1 h
    have ht : ∑ x, f x * f x = ⊤ := top_le_iff.1 <| (sq_top hx).symm.le.trans
      (Finset.single_le_sum (f := fun x => f x * f x) (fun y _ => sq_nonneg (f y)) (Finset.mem_univ x))
    rw [ht, EReal.top_mul_coe_of_pos (by norm_num), EReal.top_add_coe, Ideal.rsqrt_top, mul_zero]
    exact IsR.zero

end Cert.RouteReal

namespace Cert.Reference6Ideal.Route

open Cert.Reference6Ideal Cert.Reference6Ideal.Gen Cert.Reference6Ideal.Value Cert.MixSpec Cert.RouteReal Idealize.ShloMosaic Idealize.ShloMosaic.TcCoe Idealize.SL.Sem

variable (V : Valuation τ sig (Elt Ideal))

theorem real24 (h4 : ∀ i, IsR ((V (Proc.devRef .tc main_arg4) : FVec Ideal S16x1x2048 .f32) i))
    (h5 : ∀ i, IsR ((V (Proc.devRef .tc main_arg5) : FVec Ideal S16x1x2048 .f32) i))
    (h6 : ∀ i, IsR ((V (Proc.devRef .tc main_arg6) : FVec Ideal S1x2048 .f32) i)) (b : Fin 16) (s : Fin 2048) (k : Fin 2048) :
    IsR (res_main_v24 V (ix3 b s k)) := by
  pointwise [res_main_v24]
  exact (((norm_real (fun x => (res_main_v4 V : FVec Ideal S16x2048x2048 .f32) (ix3 b s x)) k).mul (h6 _)).mul (IsR.one.add (h4 _))).add (h5 _)

theorem real30 (hH : ∀ b s k, IsR (res_main_v24 V (ix3 b s k))) (h7 : ∀ i, IsR ((V (Proc.devRef .tc main_arg7) : FVec Ideal S1x2048x8 .f32) i))
    (h8 : ∀ i, IsR ((V (Proc.devRef .tc main_arg8) : FVec Ideal S1x8 .f32) i)) (b : Fin 16) (s : Fin 2048) (k : Fin 8) :
    IsR (res_main_v30 V (ix3 b s k)) := by
  pointwise [res_main_v30]
  exact (sum_real _ _ fun x => (hH b s x).mul (h7 _)).add (h8 _)

theorem realE (hH : ∀ b s k, IsR (res_main_v24 V (ix3 b s k))) (h9 : ∀ i, IsR ((V (Proc.devRef .tc main_arg9) : FVec Ideal S1x8x2048x8 .f32) i))
    (h10 : ∀ i, IsR ((V (Proc.devRef .tc main_arg10) : FVec Ideal S1x8x8 .f32) i)) (b : Fin 16) (s : Fin 2048) (g k : Fin 8) :
    IsR (elogit (res_main_v24 V) (V (Proc.tc.devRef main_arg9)) (V (Proc.tc.devRef main_arg10)) b s g k) :=
  (sum_real _ _ fun x => (hH b s x).mul (h9 _)).add (h10 _)

end Cert.Reference6Ideal.Route

end
-- ==== Proof.RouteRun.lean ====
/- The kernel's logits are the reference's, and its routing table with them. -/
module

public import proofs.«01_k».proof.Proof.RouteRow
public import proofs.«01_k».proof.Proof.RouteReal
public import Idealize.ShloMosaic.Lib.StableHlo.ReadAt

@[expose] public section

set_option maxRecDepth 16384

noncomputable section

namespace Cert.Kernel6Ideal.Route

open Cert.Kernel6Ideal Cert.Kernel6Ideal.Gen Cert.RouteSpec Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 8, t.val % 8, 0] ∧ win0_1.index t = ![t.val / 8, t.val % 8, 0]
    ∧ win0_2.index t = ![t.val / 8, 0, 0] ∧ win0_3.index t = ![0, 0] ∧ win0_4.index t = ![t.val / 8, 0, 0]
    ∧ win0_5.index t = ![t.val / 8, 0, 0] ∧ win0_6.index t = ![0, 0] ∧ win0_7.index t = ![0, 0] ∧ win0_8.index t = ![0, 0]
    ∧ win0_11.index t = ![t.val / 8, t.val % 8, 0] :=
  (by decide +kernel : ∀ t : Fin grid0.N, _)

/-! A whole block loaded is the block. -/

theorem ld0 (x : Vec Ideal S1x256x2048 .f32) : View.ld x r0_0 = x := by
  funext y
  rw [View.ld_apply]
  refine congrArg x ?_
  blk_ext []
  all_goals simp

theorem ld0' (x : Vec Ideal S1x256x2048 .bf16) : View.ld x r0_0 = x := by
  funext y
  rw [View.ld_apply]
  refine congrArg x ?_
  blk_ext []
  all_goals simp

theorem ld1 (x : Vec Ideal S2048x2048 .bf16) : View.ld x r0_1 = x := by
  funext y
  rw [View.ld_apply]
  refine congrArg x ?_
  blk_ext []
  all_goals simp

theorem ld2 (x : Vec Ideal S1x1x2048 .f32) : View.ld x r0_2 = x := by
  funext y
  rw [View.ld_apply]
  refine congrArg x ?_
  blk_ext []
  all_goals simp

theorem ld3 (x : Vec Ideal S1x2048 .f32) : View.ld x r0_3 = x := by
  funext y
  rw [View.ld_apply]
  refine congrArg x ?_
  blk_ext []
  all_goals simp

theorem ld4 (x : Vec Ideal S2048x128 .bf16) : View.ld x r0_4 = x := by
  funext y
  rw [View.ld_apply]
  refine congrArg x ?_
  blk_ext []
  all_goals simp

theorem ld5 (x : Vec Ideal S1x128 .f32) : View.ld x r0_5 = x := by
  funext y
  rw [View.ld_apply]
  refine congrArg x ?_
  blk_ext []
  all_goals simp

/-! The routing weights and biases of all lanes: the groups', then the experts'. -/

theorem blk7 (c : Dev nD) (t : Fin cfg0.N) (k : Fin 2048) (l : Fin 128) :
    (iblk m c 7 t : Vec Ideal S2048x128 .bf16) (ix2 k l) = V m c main_v6 (ix2 k l) := by
  blk_point [iblk, idx t]

theorem blk8 (c : Dev nD) (t : Fin cfg0.N) (l : Fin 128) :
    (iblk m c 8 t : Vec Ideal S1x128 .f32) (ix2 0 l) = V m c main_v12 (ix2 0 l) := by
  blk_point [iblk, idx t]

theorem w_group (c : Dev nD) (x : Fin 2048) (k : Fin 8) :
    V m c main_v6 (ix2 x ⟨k.val, by omega⟩) = m ((c : Thread nD τ).loc main_arg7) (ix3 0 x k) := by
  unfold V
  after_reads_at
  after_reads_at

theorem w_expert (c : Dev nD) (x : Fin 2048) (g k : Fin 8) :
    V m c main_v6 (ix2 x (elane g k)) = m ((c : Thread nD τ).loc main_arg9) (ix4 0 g x k) := by
  unfold V
  after_reads_at
  rw [dif_neg (by simp only [elane]; omega), dif_pos (by simp only [elane]; omega)]
  after_reads_at
  have h1 : ((elane g k).val - 8) / 8 = g.val := by simp only [elane]; omega
  have h2 : ((elane g k).val - 8) % 8 = k.val := by simp only [elane]; omega
  simp only [h1, h2]

theorem b_group (c : Dev nD) (k : Fin 8) :
    V m c main_v12 (ix2 0 ⟨k.val, by omega⟩) = m ((c : Thread nD τ).loc main_arg8) (ix2 0 k) := by
  unfold V
  after_reads_at
  after_reads_at

theorem b_expert (c : Dev nD) (g k : Fin 8) :
    V m c main_v12 (ix2 0 (elane g k)) = m ((c : Thread nD τ).loc main_arg10) (ix3 0 g k) := by
  unfold V
  after_reads_at
  rw [dif_neg (by simp only [elane]; omega), dif_pos (by simp only [elane]; omega)]
  after_reads_at
  have h1 : ((elane g k).val - 8) / 8 = g.val := by simp only [elane]; omega
  have h2 : ((elane g k).val - 8) % 8 = k.val := by simp only [elane]; omega
  simp only [h1, h2]

theorem point11 (c : Dev nD) (t : Fin cfg0.N) (y : S1x256x128.Idx) :
    out0_11 (iblk m c 0 t) (iblk m c 1 t) (iblk m c 2 t) (iblk m c 3 t) (iblk m c 4 t) (iblk m c 5 t) (iblk m c 6 t) (iblk m c 7 t) (iblk m c 8 t) y
      = k0_pay1 (iota .tc S256x128 32 [1] iota_S256x128_d1_w32)
          (k0_pay19 (k0_pay10 (k0_pay4 (iblk m c 6 t)) (k0_pay5 (iblk m c 4 t)) (k0_pay6 (iblk m c 5 t)) (k0_pay7 (iblk m c 0 t) (iblk m c 3 t) (iblk m c 1 t) (iblk m c 2 t)) (iblk m c 7 t) (iblk m c 8 t)) (iota .tc S256x128 32 [1] iota_S256x128_d1_w32) (k0_pay14 (k0_pay4 (iblk m c 6 t)) (k0_pay5 (iblk m c 4 t)) (k0_pay6 (iblk m c 5 t)) (k0_pay7 (iblk m c 0 t) (iblk m c 3 t) (iblk m c 1 t) (iblk m c 2 t)) (iblk m c 7 t) (iblk m c 8 t)) k0_pay15)
          (k0_pay23 (k0_pay10 (k0_pay4 (iblk m c 6 t)) (k0_pay5 (iblk m c 4 t)) (k0_pay6 (iblk m c 5 t)) (k0_pay7 (iblk m c 0 t) (iblk m c 3 t) (iblk m c 1 t) (iblk m c 2 t)) (iblk m c 7 t) (iblk m c 8 t)) (iota .tc S256x128 32 [1] iota_S256x128_d1_w32) (k0_pay14 (k0_pay4 (iblk m c 6 t)) (k0_pay5 (iblk m c 4 t)) (k0_pay6 (iblk m c 5 t)) (k0_pay7 (iblk m c 0 t) (iblk m c 3 t) (iblk m c 1 t) (iblk m c 2 t)) (iblk m c 7 t) (iblk m c 8 t)) k0_pay15)
          (k0_pay25 (k0_pay10 (k0_pay4 (iblk m c 6 t)) (k0_pay5 (iblk m c 4 t)) (k0_pay6 (iblk m c 5 t)) (k0_pay7 (iblk m c 0 t) (iblk m c 3 t) (iblk m c 1 t) (iblk m c 2 t)) (iblk m c 7 t) (iblk m c 8 t)) (iota .tc S256x128 32 [1] iota_S256x128_d1_w32) (k0_pay13 (k0_pay4 (iblk m c 6 t)) (k0_pay5 (iblk m c 4 t)) (k0_pay6 (iblk m c 5 t)) (k0_pay7 (iblk m c 0 t) (iblk m c 3 t) (iblk m c 1 t) (iblk m c 2 t)) (iblk m c 7 t) (iblk m c 8 t)) (k0_pay14 (k0_pay4 (iblk m c 6 t)) (k0_pay5 (iblk m c 4 t)) (k0_pay6 (iblk m c 5 t)) (k0_pay7 (iblk m c 0 t) (iblk m c 3 t) (iblk m c 1 t) (iblk m c 2 t)) (iblk m c 7 t) (iblk m c 8 t)) k0_pay15)
          (k0_pay26 (k0_pay10 (k0_pay4 (iblk m c 6 t)) (k0_pay5 (iblk m c 4 t)) (k0_pay6 (iblk m c 5 t)) (k0_pay7 (iblk m c 0 t) (iblk m c 3 t) (iblk m c 1 t) (iblk m c 2 t)) (iblk m c 7 t) (iblk m c 8 t)) (iota .tc S256x128 32 [1] iota_S256x128_d1_w32) (k0_pay13 (k0_pay4 (iblk m c 6 t)) (k0_pay5 (iblk m c 4 t)) (k0_pay6 (iblk m c 5 t)) (k0_pay7 (iblk m c 0 t) (iblk m c 3 t) (iblk m c 1 t) (iblk m c 2 t)) (iblk m c 7 t) (iblk m c 8 t)) (k0_pay14 (k0_pay4 (iblk m c 6 t)) (k0_pay5 (iblk m c 4 t)) (k0_pay6 (iblk m c 5 t)) (k0_pay7 (iblk m c 0 t) (iblk m c 3 t) (iblk m c 1 t) (iblk m c 2 t)) (iblk m c 7 t) (iblk m c 8 t)) k0_pay15) (ix3 0 (y 1) (y 2)) := by
  unfold_out out0_11
  canon_tiles x h
  simp only [ld0, ld0', ld1, ld2, ld3, ld4, ld5]
  refine congrArg _ ?_
  blk_ext []

/-- The two programs' arguments are the same. -/
structure Same (V' : Valuation Cert.Reference6Ideal.τ Cert.Reference6Ideal.sig (Elt Ideal)) (c : Dev nD) : Prop where
  a0 : (V' (Proc.devRef .tc Cert.Reference6Ideal.main_arg0) : FVec Ideal S16x2048x2048 .bf16) = m ((c : Thread nD τ).loc main_arg0)
  a1 : (V' (Proc.devRef .tc Cert.Reference6Ideal.main_arg1) : FVec Ideal S16x2048x2048 .f32) = m ((c : Thread nD τ).loc main_arg1)
  a2 : (V' (Proc.devRef .tc Cert.Reference6Ideal.main_arg2) : FVec Ideal S16x1x2048 .f32) = m ((c : Thread nD τ).loc main_arg2)
  a3 : (V' (Proc.devRef .tc Cert.Reference6Ideal.main_arg3) : FVec Ideal S1x2048x2048 .f32) = m ((c : Thread nD τ).loc main_arg3)
  a4 : (V' (Proc.devRef .tc Cert.Reference6Ideal.main_arg4) : FVec Ideal S16x1x2048 .f32) = m ((c : Thread nD τ).loc main_arg4)
  a5 : (V' (Proc.devRef .tc Cert.Reference6Ideal.main_arg5) : FVec Ideal S16x1x2048 .f32) = m ((c : Thread nD τ).loc main_arg5)
  a6 : (V' (Proc.devRef .tc Cert.Reference6Ideal.main_arg6) : FVec Ideal S1x2048 .f32) = m ((c : Thread nD τ).loc main_arg6)
  a7 : (V' (Proc.devRef .tc Cert.Reference6Ideal.main_arg7) : FVec Ideal S1x2048x8 .f32) = m ((c : Thread nD τ).loc main_arg7)
  a8 : (V' (Proc.devRef .tc Cert.Reference6Ideal.main_arg8) : FVec Ideal S1x8 .f32) = m ((c : Thread nD τ).loc main_arg8)
  a9 : (V' (Proc.devRef .tc Cert.Reference6Ideal.main_arg9) : FVec Ideal S1x8x2048x8 .f32) = m ((c : Thread nD τ).loc main_arg9)
  a10 : (V' (Proc.devRef .tc Cert.Reference6Ideal.main_arg10) : FVec Ideal S1x8x8 .f32) = m ((c : Thread nD τ).loc main_arg10)

variable (V' : Valuation Cert.Reference6Ideal.τ Cert.Reference6Ideal.sig (Elt Ideal))

open Cert.Reference6Ideal.Value (res_main_v4 res_main_v24 res_main_v30)

section
variable (c : Dev nD) (H : Same m V' c) (t : Fin cfg0.N) (r : Fin 256) (b : Fin 16) (s : Fin 2048)
    (hb : b.val = t.val / 8) (hs : s.val = t.val % 8 * 256 + r.val)

include H hb hs

theorem row1 (k : Fin 2048) :
    k0_pay2 (iblk m c 0 t) (iblk m c 3 t) (iblk m c 1 t) (iblk m c 2 t) (ix2 r k) = res_main_v4 V' (ix3 b s k) := by
  pointwise [k0_pay2, Cert.Reference6Ideal.Value.res_main_v4]
  simp only [H.a0, H.a1, H.a2, H.a3]
  blk_point [iblk, V, idx t]

theorem row2 (k : Fin 2048) :
    k0_pay8 (k0_pay4 (iblk m c 6 t)) (k0_pay5 (iblk m c 4 t)) (k0_pay6 (iblk m c 5 t)) (k0_pay7 (iblk m c 0 t) (iblk m c 3 t) (iblk m c 1 t) (iblk m c 2 t)) (ix2 r k) = res_main_v24 V' (ix3 b s k) := by
  pointwise [k0_pay8, k0_pay7, k0_pay6, k0_pay5, k0_pay4, Cert.Reference6Ideal.Value.res_main_v24]
  simp only [row1 m V' c H t r b s hb hs, mul_assoc]
  simp only [H.a4, H.a5, H.a6]
  blk_point [iblk, V, idx t]

theorem logit_group (k : Fin 8) : (k0_pay10 (k0_pay4 (iblk m c 6 t)) (k0_pay5 (iblk m c 4 t)) (k0_pay6 (iblk m c 5 t)) (k0_pay7 (iblk m c 0 t) (iblk m c 3 t) (iblk m c 1 t) (iblk m c 2 t)) (iblk m c 7 t) (iblk m c 8 t)) (ix2 r ⟨k.val, by omega⟩) = res_main_v30 V' (ix3 b s k) := by
  pointwise [k0_pay10, Cert.Reference6Ideal.Value.res_main_v30]
  simp only [row2 m V' c H t r b s hb hs, blk7, blk8, H.a7, H.a8]
  exact congrArg₂ (fun x y : EReal => x + y) (Finset.sum_congr rfl fun x _ => congrArg (HMul.hMul (α := EReal) (β := EReal) (γ := EReal) _) (w_group m c x k)) (b_group m c k)

theorem logit_expert (g k : Fin 8) : (k0_pay10 (k0_pay4 (iblk m c 6 t)) (k0_pay5 (iblk m c 4 t)) (k0_pay6 (iblk m c 5 t)) (k0_pay7 (iblk m c 0 t) (iblk m c 3 t) (iblk m c 1 t) (iblk m c 2 t)) (iblk m c 7 t) (iblk m c 8 t)) (ix2 r (elane g k))
    = Cert.Reference6Ideal.Route.elogit (res_main_v24 V') (V' (Proc.devRef .tc Cert.Reference6Ideal.main_arg9)) (V' (Proc.devRef .tc Cert.Reference6Ideal.main_arg10)) b s g k := by
  pointwise [k0_pay10, Cert.Reference6Ideal.Route.elogit]
  simp only [row2 m V' c H t r b s hb hs, blk7, blk8, H.a9, H.a10]
  exact congrArg₂ (fun x y : EReal => x + y) (Finset.sum_congr rfl fun x _ => congrArg (HMul.hMul (α := EReal) (β := EReal) (γ := EReal) _) (w_expert m c x g k)) (b_expert m c g k)

variable (hG : ∀ k, Cert.MixSpec.IsR (res_main_v30 V' (ix3 b s k)))
    (hE : ∀ g k, Cert.MixSpec.IsR (Cert.Reference6Ideal.Route.elogit (res_main_v24 V') (V' (Proc.devRef .tc Cert.Reference6Ideal.main_arg9)) (V' (Proc.devRef .tc Cert.Reference6Ideal.main_arg10)) b s g k))

include hG hE

/-- One row of the table. -/
theorem row11 (l : Fin 128) : k0_pay1 (iota .tc S256x128 32 [1] iota_S256x128_d1_w32)
          (k0_pay19 (k0_pay10 (k0_pay4 (iblk m c 6 t)) (k0_pay5 (iblk m c 4 t)) (k0_pay6 (iblk m c 5 t)) (k0_pay7 (iblk m c 0 t) (iblk m c 3 t) (iblk m c 1 t) (iblk m c 2 t)) (iblk m c 7 t) (iblk m c 8 t)) (iota .tc S256x128 32 [1] iota_S256x128_d1_w32) (k0_pay14 (k0_pay4 (iblk m c 6 t)) (k0_pay5 (iblk m c 4 t)) (k0_pay6 (iblk m c 5 t)) (k0_pay7 (iblk m c 0 t) (iblk m c 3 t) (iblk m c 1 t) (iblk m c 2 t)) (iblk m c 7 t) (iblk m c 8 t)) k0_pay15)
          (k0_pay23 (k0_pay10 (k0_pay4 (iblk m c 6 t)) (k0_pay5 (iblk m c 4 t)) (k0_pay6 (iblk m c 5 t)) (k0_pay7 (iblk m c 0 t) (iblk m c 3 t) (iblk m c 1 t) (iblk m c 2 t)) (iblk m c 7 t) (iblk m c 8 t)) (iota .tc S256x128 32 [1] iota_S256x128_d1_w32) (k0_pay14 (k0_pay4 (iblk m c 6 t)) (k0_pay5 (iblk m c 4 t)) (k0_pay6 (iblk m c 5 t)) (k0_pay7 (iblk m c 0 t) (iblk m c 3 t) (iblk m c 1 t) (iblk m c 2 t)) (iblk m c 7 t) (iblk m c 8 t)) k0_pay15)
          (k0_pay25 (k0_pay10 (k0_pay4 (iblk m c 6 t)) (k0_pay5 (iblk m c 4 t)) (k0_pay6 (iblk m c 5 t)) (k0_pay7 (iblk m c 0 t) (iblk m c 3 t) (iblk m c 1 t) (iblk m c 2 t)) (iblk m c 7 t) (iblk m c 8 t)) (iota .tc S256x128 32 [1] iota_S256x128_d1_w32) (k0_pay13 (k0_pay4 (iblk m c 6 t)) (k0_pay5 (iblk m c 4 t)) (k0_pay6 (iblk m c 5 t)) (k0_pay7 (iblk m c 0 t) (iblk m c 3 t) (iblk m c 1 t) (iblk m c 2 t)) (iblk m c 7 t) (iblk m c 8 t)) (k0_pay14 (k0_pay4 (iblk m c 6 t)) (k0_pay5 (iblk m c 4 t)) (k0_pay6 (iblk m c 5 t)) (k0_pay7 (iblk m c 0 t) (iblk m c 3 t) (iblk m c 1 t) (iblk m c 2 t)) (iblk m c 7 t) (iblk m c 8 t)) k0_pay15)
          (k0_pay26 (k0_pay10 (k0_pay4 (iblk m c 6 t)) (k0_pay5 (iblk m c 4 t)) (k0_pay6 (iblk m c 5 t)) (k0_pay7 (iblk m c 0 t) (iblk m c 3 t) (iblk m c 1 t) (iblk m c 2 t)) (iblk m c 7 t) (iblk m c 8 t)) (iota .tc S256x128 32 [1] iota_S256x128_d1_w32) (k0_pay13 (k0_pay4 (iblk m c 6 t)) (k0_pay5 (iblk m c 4 t)) (k0_pay6 (iblk m c 5 t)) (k0_pay7 (iblk m c 0 t) (iblk m c 3 t) (iblk m c 1 t) (iblk m c 2 t)) (iblk m c 7 t) (iblk m c 8 t)) (k0_pay14 (k0_pay4 (iblk m c 6 t)) (k0_pay5 (iblk m c 4 t)) (k0_pay6 (iblk m c 5 t)) (k0_pay7 (iblk m c 0 t) (iblk m c 3 t) (iblk m c 1 t) (iblk m c 2 t)) (iblk m c 7 t) (iblk m c 8 t)) k0_pay15) (ix3 0 r l)
    = Cert.Reference6Ideal.Route.RT V' (ix3 b s l) := by
  choose G eG using hG
  choose E eE using hE
  obtain ⟨g, i, j, hT⟩ := exists_top G E
  have hL : Row (k0_pay10 (k0_pay4 (iblk m c 6 t)) (k0_pay5 (iblk m c 4 t)) (k0_pay6 (iblk m c 5 t)) (k0_pay7 (iblk m c 0 t) (iblk m c 3 t) (iblk m c 1 t) (iblk m c 2 t)) (iblk m c 7 t) (iblk m c 8 t)) r G E :=
    ⟨fun k => (logit_group m V' c H t r b s hb hs k).trans (eG k), fun g k => (logit_expert m V' c H t r b s hb hs g k).trans (eE g k)⟩
  rw [Cert.Reference6Ideal.Route.ref_entry V' b s G E g i j eG eE hT l]
  exact t1 _ _ _ r G E g i j hL hT (t14 _ _ _ _ _ _ r G E g i j hL hT) (t13 _ _ _ _ _ _ r G E g i j hL hT) l
end

/-- The table after the run. -/
theorem final11 (c : Dev nD) (H : Same m V' c) (hG : ∀ b s k, Cert.MixSpec.IsR (res_main_v30 V' (ix3 b s k)))
    (hE : ∀ b s g k, Cert.MixSpec.IsR (Cert.Reference6Ideal.Route.elogit (res_main_v24 V') (V' (Proc.devRef .tc Cert.Reference6Ideal.main_arg9)) (V' (Proc.devRef .tc Cert.Reference6Ideal.main_arg10)) b s g k)) :
    (dats m 0 c).arrAt 11 cfg0.N = Cert.Reference6Ideal.Route.RT V' := by
  refine (dats m 0 c).arrAt_eq_of_covers 11 _ (by decide +kernel) fun t hf y => ?_
  have ht : t.val < 128 := t.isLt
  blk_simp
  rw [after0_11, point11]
  obtain ⟨-, -, -, -, -, -, -, -, -, e11⟩ := idx t
  have y1 : (y 1 : ℕ) < 256 := (y 1).isLt
  refine (row11 m V' c H t (y 1) ⟨t.val / 8, by omega⟩ ⟨t.val % 8 * 256 + (y 1 : ℕ), by omega⟩ rfl rfl (hG _ _) (hE _ _) (y 2)).trans (congrArg _ ?_)
  blk_ext [e11]

end Cert.Kernel6Ideal.Route

end
-- ==== Proof.RoutePre.lean ====
/- The routing table's precondition read back: the entries of the modulation, of the norm's gain and of the router's parameters are real numbers. -/
module

public import proofs.«01_k».proof.Pre_finite_inputs6
public import proofs.«01_k».proof.Proof.MixPre

@[expose] public section

set_option maxRecDepth 16384

noncomputable section

namespace Cert.Pre_finite_inputs6

open Idealize.ShloMosaic Cert.MixSpec
open Cert.Pre_finite_inputs (real_of_abs)

theorem facts : Facts where
  bcast_S_S16x1x2048 := by decide
  reducesTo_S16x1x2048_S_d0_1_2 := by decide
  h_S_ := by decide
  bcast_S_S1x2048 := by decide
  reducesTo_S1x2048_S_d0_1 := by decide
  bcast_S_S1x2048x8 := by decide
  reducesTo_S1x2048x8_S_d0_1_2 := by decide
  bcast_S_S1x8 := by decide
  reducesTo_S1x8_S_d0_1 := by decide
  bcast_S_S1x8x2048x8 := by decide
  reducesTo_S1x8x2048x8_S_d0_1_2_3 := by decide
  bcast_S_S1x8x8 := by decide
  reducesTo_S1x8x8_S_d0_1_2 := by decide

instance : Subsingleton S_.Idx := ⟨fun a b => funext fun d => d.elim0⟩

variable [Facts]

/-- What the precondition says of the last seven arguments. -/
theorem reals (a0 : FVec Ideal S16x2048x2048 .bf16) (a1 : FVec Ideal S16x2048x2048 .f32) (a2 : FVec Ideal S16x1x2048 .f32)
    (a3 : FVec Ideal S1x2048x2048 .f32) (a4 a5 : FVec Ideal S16x1x2048 .f32) (a6 : FVec Ideal S1x2048 .f32) (a7 : FVec Ideal S1x2048x8 .f32)
    (a8 : FVec Ideal S1x8 .f32) (a9 : FVec Ideal S1x8x2048x8 .f32) (a10 : FVec Ideal S1x8x8 .f32)
    (h : fn (F := Ideal) a0 a1 a2 a3 a4 a5 a6 a7 a8 a9 a10 = fun _ => 1#1) :
    (∀ i, IsR (a4 i)) ∧ (∀ i, IsR (a5 i)) ∧ (∀ i, IsR (a6 i)) ∧ (∀ i, IsR (a7 i)) ∧ (∀ i, IsR (a8 i)) ∧ (∀ i, IsR (a9 i)) ∧ (∀ i, IsR (a10 i)) := by
  have j : S_.Idx := fun d => d.elim0
  have e := congrFun h j
  dsimp only [fn, fn_part1, fn_part2] at e
  have s1 := (IntOp.andi_eq_one).1 e
  have s2 := (IntOp.andi_eq_one).1 s1.1
  have s3 := (IntOp.andi_eq_one).1 s2.1
  have s4 := (IntOp.andi_eq_one).1 s3.1
  have s5 := (IntOp.andi_eq_one).1 s4.1
  have s6 := (IntOp.andi_eq_one).1 s5.1
  have s7 := (IntOp.andi_eq_one).1 s6.1
  exact ⟨fun i => real_of_abs (Host.reduce_andi_all _ _ _ _ j s7.2 i), fun i => real_of_abs (Host.reduce_andi_all _ _ _ _ j s6.2 i),
    fun i => real_of_abs (Host.reduce_andi_all _ _ _ _ j s5.2 i), fun i => real_of_abs (Host.reduce_andi_all _ _ _ _ j s4.2 i),
    fun i => real_of_abs (Host.reduce_andi_all _ _ _ _ j s3.2 i), fun i => real_of_abs (Host.reduce_andi_all _ _ _ _ j s2.2 i),
    fun i => real_of_abs (Host.reduce_andi_all _ _ _ _ j s1.2 i)⟩

end Cert.Pre_finite_inputs6

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Pre_finite_inputs
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import Idealize.ShloMosaic.Adequacy
public import Idealize.ShloMosaic.Lib.Claim
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Pre_finite_inputs6
public import proofs.«01_k».proof.Proof.Gen.Kernel6Ideal.Value
public import proofs.«01_k».proof.Proof.Gen.Reference6Ideal.Run
public import proofs.«01_k».proof.Proof.InProj
public import proofs.«01_k».proof.Proof.OutProj
public import proofs.«01_k».proof.Proof.Final
public import proofs.«01_k».proof.Proof.Ada
public import proofs.«01_k».proof.Proof.MixKernel
public import proofs.«01_k».proof.Proof.MixRefC
public import proofs.«01_k».proof.Proof.MixPre
public import proofs.«01_k».proof.Proof.RouteRun
public import proofs.«01_k».proof.Proof.RoutePre
public import Idealize.ShloMosaic.Init

@[expose] public section

set_option maxRecDepth 16384

noncomputable section

namespace Cert.MixPair

open Idealize.ShloMosaic Idealize.SL.Sem Idealize.ShloMosaic.TcCoe Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs are given the same arguments. -/
abbrev Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧
  m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧
  m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧
  m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧
  m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧
  m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧
  m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧
  m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧
  m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧
  m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧
  m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

/-- Then they have the same heads. -/
theorem heads_eq (hA : Agree m m' c) (b : Fin 16) : Cert.ReferenceIdeal.Mix.heads m' c b = Cert.KernelIdeal.Mix.heads m c b := by
  obtain ⟨h0, h1, h2, h3, h4, h5, h6, h7, h8, h9, h10⟩ := hA
  unfold Cert.ReferenceIdeal.Mix.heads Cert.KernelIdeal.Mix.heads
  rw [h0, h1, h2, h3, h4, h5, h6, h7, h8, h9, h10]

/-- And the same result, when the entries that have to be are real. -/
theorem same (hA : Agree m m' c) (R : Cert.KernelIdeal.Mix.Reals m c) :
    finalContents Cert.ReferenceIdeal.Value.condOps Cert.ReferenceIdeal.Value.preI Cert.ReferenceIdeal.Value.bodyI Cert.ReferenceIdeal.Value.postI 2048 m' c
      (Proc.devRef .tc Cert.ReferenceIdeal.main_v160) = Cert.KernelIdeal.Value.G12 m c := by
  have h0 := hA.1
  have h1 := hA.2.1
  have h2 := hA.2.2.1
  have h3 := hA.2.2.2.1
  have R' : Cert.ReferenceIdeal.Mix.Reals m' c := by
    constructor
    · rw [h0]; exact R.p
    · rw [h1]; exact R.w3
    · rw [h2]; exact R.w4
    · rw [h3]; exact R.b4
  funext i
  refine (Cert.ReferenceIdeal.Mix.result_at m' c R' i).trans ?_
  exact (congrArg (fun H => Cert.MixSpec.outAt H (i 1).val (i 2).val) (heads_eq m m' c hA (i 0))).trans (Cert.KernelIdeal.Mix.result_at m c R i).symm

end Cert.MixPair

namespace Cert.Proof

open Idealize.ShloMosaic Idealize.SL.Sem Cert.Kernel

/-- The mixer's reference: the arguments keep what they held, and the program declares no semaphore. -/
theorem frameR : Cert.quiescent_ReferenceIdeal := by
  intro m ρ _
  exact (θ_run Cert.ReferenceIdeal.defs _ _).mono
    (fun r h => ⟨fun c => ⟨(h c Cert.ReferenceIdeal.main_arg0 rfl).trans (Cert.ReferenceIdeal.Mix.final_arg m c _ (by simp)),
      (h c Cert.ReferenceIdeal.main_arg1 rfl).trans (Cert.ReferenceIdeal.Mix.final_arg m c _ (by simp)),
      (h c Cert.ReferenceIdeal.main_arg2 rfl).trans (Cert.ReferenceIdeal.Mix.final_arg m c _ (by simp)),
      (h c Cert.ReferenceIdeal.main_arg3 rfl).trans (Cert.ReferenceIdeal.Mix.final_arg m c _ (by simp)),
      (h c Cert.ReferenceIdeal.main_arg4 rfl).trans (Cert.ReferenceIdeal.Mix.final_arg m c _ (by simp)),
      (h c Cert.ReferenceIdeal.main_arg5 rfl).trans (Cert.ReferenceIdeal.Mix.final_arg m c _ (by simp)),
      (h c Cert.ReferenceIdeal.main_arg6 rfl).trans (Cert.ReferenceIdeal.Mix.final_arg m c _ (by simp)),
      (h c Cert.ReferenceIdeal.main_arg7 rfl).trans (Cert.ReferenceIdeal.Mix.final_arg m c _ (by simp)),
      (h c Cert.ReferenceIdeal.main_arg8 rfl).trans (Cert.ReferenceIdeal.Mix.final_arg m c _ (by simp)),
      (h c Cert.ReferenceIdeal.main_arg9 rfl).trans (Cert.ReferenceIdeal.Mix.final_arg m c _ (by simp)),
      (h c Cert.ReferenceIdeal.main_arg10 rfl).trans (Cert.ReferenceIdeal.Mix.final_arg m c _ (by simp))⟩,
      Idealize.ShloMosaic.sem_eq_zero_of_no_sems (by decide) r.2⟩)
    (Cert.ReferenceIdeal.Value.run_fold (F := Ideal) m ρ)

/-- The input projection's reference: the same. -/
theorem frameR2 : Cert.quiescent_Reference2Ideal := by
  intro m ρ _
  exact (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The output projection's reference: the same. -/
theorem frameR3 : Cert.quiescent_Reference3Ideal := by
  intro m ρ _
  exact (θ_run Cert.Reference3Ideal.defs _ _).mono
    (fun r h => ⟨fun c => (h c).2.2, Idealize.ShloMosaic.sem_eq_zero_of_no_sems (by decide) r.2⟩)
    (Cert.Reference3Ideal.Value.run (F := Ideal) m ρ)

/-- The final combination's reference: the same. -/
theorem frameR4 : Cert.quiescent_Reference4Ideal := by
  intro m ρ _
  exact (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The modulation's reference: the same. -/
theorem frameR5 : Cert.quiescent_Reference5Ideal := by
  intro m ρ _
  exact (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The routing table's reference: the same. -/
theorem frameR6 : Cert.quiescent_Reference6Ideal := by
  intro m ρ _
  exact (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- The input projection: the kernel's run and the reference's leave the same array. -/
theorem algebraic2 : Cert.algebraic_Kernel2Ideal_Reference2Ideal := by
  pair_intro
  · run_from Cert.Kernel2Ideal.Gen.run_main m g
  · run_from Cert.Reference2Ideal.Value.run m' g'
    exact (Cert.Kernel2Ideal.InProj.final m c).symm

/-- The output projection: the kernel's run and the reference's leave the same residual and the same normalised rows. -/
theorem algebraic3 : Cert.algebraic_Kernel3Ideal_Reference3Ideal := by
  intro m g m' g' _ hA
  refine ⟨fun c => (Cert.Kernel3Ideal.Gen.dats m 0 c).arrAt 9 Cert.Kernel3Ideal.cfg0.N,
    fun c => (Cert.Kernel3Ideal.Gen.dats m 0 c).arrAt 10 Cert.Kernel3Ideal.cfg0.N,
    (θ_run Cert.Kernel3Ideal.defs _ _).mono (fun r h c => ⟨(h c).1, (h c).2.1, (h c).2.2.2⟩)
      (Cert.Kernel3Ideal.Value.run_blocks m g),
    (θ_run Cert.Reference3Ideal.defs _ _).mono (fun r h c => ?_) (Cert.Reference3Ideal.Value.run (F := Ideal) m' g')⟩
  obtain ⟨h0, h1, h2, h3, h4, h5, h6, -⟩ := hA c
  refine ⟨(h c).1.trans ?_, (h c).2.1.trans ?_, (h c).2.2⟩
  · rw [h0, h1, h2, h3]
    exact (Cert.Kernel3Ideal.OutProj.final9 m c).symm
  · rw [h0, h1, h2, h3, h4, h5, h6]
    exact (Cert.Kernel3Ideal.OutProj.final10 m c).symm

/-- The final combination: the kernel's run and the reference's leave the same array. -/
theorem algebraic4 : Cert.algebraic_Kernel4Ideal_Reference4Ideal := by
  intro m g m' g' _ hA
  refine ⟨fun c => (Cert.Kernel4Ideal.Gen.dats m 0 c).arrAt 6 Cert.Kernel4Ideal.cfg0.N,
    Cert.Kernel4Ideal.Value.run_blocks m g,
    (θ_run Cert.Reference4Ideal.defs _ _).mono (fun r h c => ?_) (Cert.Reference4Ideal.Value.run (F := Ideal) m' g')⟩
  obtain ⟨h0, h1, h2, h3, h4⟩ := hA c
  refine ⟨(h c).1.trans ?_, (h c).2⟩
  rw [h0, h1, h2, h3, h4]
  exact (Cert.Kernel4Ideal.Final.final m c).symm

/-- The modulation: the kernel's run and the reference's leave the same array. -/
theorem algebraic5 : Cert.algebraic_Kernel5Ideal_Reference5Ideal := by
  intro m g m' g' _ hA
  refine ⟨fun c => (Cert.Kernel5Ideal.Gen.dats m 0 c).arrAt 3 Cert.Kernel5Ideal.cfg0.N,
    Cert.Kernel5Ideal.Value.run_blocks m g,
    (θ_run Cert.Reference5Ideal.defs _ _).mono (fun r h c => ?_) (Cert.Reference5Ideal.Value.run (F := Ideal) m' g')⟩
  obtain ⟨h0, h1, h2⟩ := hA c
  refine ⟨(h c).1.trans ?_, (h c).2⟩
  rw [h0, h1, h2]
  exact (Cert.Kernel5Ideal.Ada.final m c).symm

/-- The token mixer: with real projections and convolution parameters, the kernel's run and the reference's leave the same array. -/
theorem algebraic1 : haveI := Cert.Pre_finite_inputs.facts; Cert.algebraic_KernelIdeal_ReferenceIdeal_pre_finite_inputs := by
  haveI := Cert.Pre_finite_inputs.facts
  intro m g m' g' hP hA
  have R : ∀ c, Cert.KernelIdeal.Mix.Reals m c := fun c =>
    have h := Cert.Pre_finite_inputs.reals _ _ _ _ _ _ _ _ _ _ _ (hP c)
    ⟨h.1, h.2.1, h.2.2.1, h.2.2.2⟩
  refine ⟨fun c => Cert.KernelIdeal.Value.G12 m c, Cert.KernelIdeal.Value.run m g, ?_⟩
  refine (θ_run Cert.ReferenceIdeal.defs _ _).mono (fun r h => ?_) (Cert.ReferenceIdeal.Value.run_fold (F := Ideal) m' g')
  intro c
  refine ⟨(h c Cert.ReferenceIdeal.main_v160 rfl).trans (Cert.MixPair.same m m' c (hA c) (R c)), ?_⟩
  exact ⟨(h c Cert.ReferenceIdeal.main_arg0 rfl).trans (Cert.ReferenceIdeal.Mix.final_arg m' c _ (by simp)),
    (h c Cert.ReferenceIdeal.main_arg1 rfl).trans (Cert.ReferenceIdeal.Mix.final_arg m' c _ (by simp)),
    (h c Cert.ReferenceIdeal.main_arg2 rfl).trans (Cert.ReferenceIdeal.Mix.final_arg m' c _ (by simp)),
    (h c Cert.ReferenceIdeal.main_arg3 rfl).trans (Cert.ReferenceIdeal.Mix.final_arg m' c _ (by simp)),
    (h c Cert.ReferenceIdeal.main_arg4 rfl).trans (Cert.ReferenceIdeal.Mix.final_arg m' c _ (by simp)),
    (h c Cert.ReferenceIdeal.main_arg5 rfl).trans (Cert.ReferenceIdeal.Mix.final_arg m' c _ (by simp)),
    (h c Cert.ReferenceIdeal.main_arg6 rfl).trans (Cert.ReferenceIdeal.Mix.final_arg m' c _ (by simp)),
    (h c Cert.ReferenceIdeal.main_arg7 rfl).trans (Cert.ReferenceIdeal.Mix.final_arg m' c _ (by simp)),
    (h c Cert.ReferenceIdeal.main_arg8 rfl).trans (Cert.ReferenceIdeal.Mix.final_arg m' c _ (by simp)),
    (h c Cert.ReferenceIdeal.main_arg9 rfl).trans (Cert.ReferenceIdeal.Mix.final_arg m' c _ (by simp)),
    (h c Cert.ReferenceIdeal.main_arg10 rfl).trans (Cert.ReferenceIdeal.Mix.final_arg m' c _ (by simp))⟩

/-- The routing table: with a real modulation, gain and router, the kernel's run and the reference's leave the same table. -/
theorem algebraic6 : haveI := Cert.Pre_finite_inputs6.facts; Cert.algebraic_Kernel6Ideal_Reference6Ideal_pre_finite_inputs6 := by
  haveI := Cert.Pre_finite_inputs6.facts
  intro m g m' g' hP hA
  refine ⟨fun c => (Cert.Kernel6Ideal.Gen.dats m 0 c).arrAt 11 Cert.Kernel6Ideal.cfg0.N,
    (θ_run Cert.Kernel6Ideal.defs _ _).mono (fun r h c => ⟨(h c).2.2.1, (h c).2.2.2⟩) (Cert.Kernel6Ideal.Value.run_blocks m g),
    (θ_run Cert.Reference6Ideal.defs _ _).mono (fun r h c => ?_) (Cert.Reference6Ideal.Value.run (F := Ideal) m' g')⟩
  obtain ⟨h0, h1, h2, h3, h4, h5, h6, h7, h8, h9, h10⟩ := hA c
  have S : Cert.Kernel6Ideal.Route.Same m (Idealize.ShloMosaic.StableHlo.launchContents m' c) c := ⟨h0, h1, h2, h3, h4, h5, h6, h7, h8, h9, h10⟩
  obtain ⟨r4, r5, r6, r7, r8, r9, r10⟩ := Cert.Pre_finite_inputs6.reals _ _ _ _ _ _ _ _ _ _ _ (hP c)
  have hH := Cert.Reference6Ideal.Route.real24 (Idealize.ShloMosaic.StableHlo.launchContents m' c) (fun i => (congrArg Cert.MixSpec.IsR (congrFun S.a4 i)).mpr (r4 i))
    (fun i => (congrArg Cert.MixSpec.IsR (congrFun S.a5 i)).mpr (r5 i)) (fun i => (congrArg Cert.MixSpec.IsR (congrFun S.a6 i)).mpr (r6 i))
  have hG := Cert.Reference6Ideal.Route.real30 (Idealize.ShloMosaic.StableHlo.launchContents m' c) hH (fun i => (congrArg Cert.MixSpec.IsR (congrFun S.a7 i)).mpr (r7 i))
    (fun i => (congrArg Cert.MixSpec.IsR (congrFun S.a8 i)).mpr (r8 i))
  have hE := Cert.Reference6Ideal.Route.realE (Idealize.ShloMosaic.StableHlo.launchContents m' c) hH (fun i => (congrArg Cert.MixSpec.IsR (congrFun S.a9 i)).mpr (r9 i))
    (fun i => (congrArg Cert.MixSpec.IsR (congrFun S.a10 i)).mpr (r10 i))
  exact ⟨(h c).1.trans (Cert.Kernel6Ideal.Route.final11 m (Idealize.ShloMosaic.StableHlo.launchContents m' c) c S hG hE).symm, (h c).2⟩

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_finite_inputs.facts, Cert.Pre_finite_inputs6.facts,
    fun m ρ _ => Cert.Kernel.Gen.frame m ρ,
    fun m ρ _ => Cert.KernelIdeal.Gen.frame m ρ,
    fun m ρ _ => Cert.KernelIdeal.Gen.frame m ρ,
    frameR,
    fun m ρ _ => frameR m ρ trivial,
    fun m ρ _ => Cert.Kernel2.Gen.frame m ρ,
    fun m ρ _ => Cert.Kernel2Ideal.Gen.frame m ρ,
    frameR2,
    fun m ρ _ => Cert.Kernel3.Gen.frame m ρ,
    fun m ρ _ => Cert.Kernel3Ideal.Gen.frame m ρ,
    frameR3,
    fun m ρ _ => Cert.Kernel4.Gen.frame m ρ,
    fun m ρ _ => Cert.Kernel4Ideal.Gen.frame m ρ,
    frameR4,
    fun m ρ _ => Cert.Kernel5.Gen.frame m ρ,
    fun m ρ _ => Cert.Kernel5Ideal.Gen.frame m ρ,
    frameR5,
    fun m ρ _ => Cert.Kernel6.Gen.frame m ρ,
    fun m ρ _ => Cert.Kernel6Ideal.Gen.frame m ρ,
    fun m ρ _ => Cert.Kernel6Ideal.Gen.frame m ρ,
    frameR6,
    fun m ρ _ => frameR6 m ρ trivial,
    trivial,
    algebraic1,
    trivial,
    algebraic2,
    trivial,
    algebraic3,
    trivial,
    algebraic4,
    trivial,
    algebraic5,
    trivial,
    algebraic6⟩

end Cert.Proof

end
